-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 128]⟩ ⟨2, ![2048, 1024]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 2048]⟩ ⟨2, ![1024, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 2048]⟩ ⟨2, ![1024, 2048]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩
abbrev S1024x2048 : Shape := ⟨2, ![1024, 2048]⟩
abbrev S2048x256 : Shape := ⟨2, ![2048, 256]⟩
abbrev S2048x64 : Shape := ⟨2, ![2048, 64]⟩
abbrev S1024x512 : Shape := ⟨2, ![1024, 512]⟩
abbrev S3x1024x512 : Shape := ⟨3, ![3, 1024, 512]⟩
abbrev S3 : Shape := ⟨1, ![3]⟩
abbrev S1 : Shape := ⟨1, ![1]⟩
abbrev S4 : Shape := ⟨1, ![4]⟩
abbrev S1x512x2048 : Shape := ⟨3, ![1, 512, 2048]⟩
abbrev S512x2048 : Shape := ⟨2, ![512, 2048]⟩
abbrev S1024x128 : Shape := ⟨2, ![1024, 128]⟩
abbrev S128x256 : Shape := ⟨2, ![128, 256]⟩
abbrev S1024x256 : Shape := ⟨2, ![1024, 256]⟩
abbrev S1x1024x512 : Shape := ⟨3, ![1, 1024, 512]⟩
abbrev S1024x64 : Shape := ⟨2, ![1024, 64]⟩
abbrev S1024x32 : Shape := ⟨2, ![1024, 32]⟩
abbrev S1x1024x256 : Shape := ⟨3, ![1, 1024, 256]⟩
abbrev S512x32 : Shape := ⟨2, ![512, 32]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S256x2048 : Shape := ⟨2, ![256, 2048]⟩

abbrev nBuf : Space → Nat
  | .hbm => 41
  | .vmem => 17
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024x2048, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S2048x256, .f32⟩
  | .hbm, ⟨24, _⟩ => ⟨S2048x256, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x64, .f32⟩
  | .hbm, ⟨34, _⟩ => ⟨S2048x64, .bf16⟩
  | .hbm, ⟨35, _⟩ => ⟨S2048x128, .bf16⟩
  | .hbm, ⟨36, _⟩ => ⟨S128x2048, .bf16⟩
  | .hbm, ⟨37, _⟩ => ⟨S128x2048, .bf16⟩
  | .hbm, ⟨38, _⟩ => ⟨S2048x32, .bf16⟩
  | .hbm, ⟨39, _⟩ => ⟨S1024x2048, .f32⟩
  | .hbm, ⟨40, _⟩ => ⟨S2x512x2048, .f32⟩
  | .local _ .vmem, ⟨0, _⟩ => ⟨S1024x2048, .f32⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x256, .bf16⟩
  | .local _ .vmem, ⟨5, _⟩ => ⟨S2048x64, .bf16⟩
  | .local _ .vmem, ⟨6, _⟩ => ⟨S2048x32, .bf16⟩
  | .local _ .vmem, ⟨7, _⟩ => ⟨S1024x2048, .f32⟩
  | .local _ .vmem, ⟨8, _⟩ => ⟨S1024x512, .bf16⟩
  | .local _ .vmem, ⟨9, _⟩ => ⟨S1024x512, .bf16⟩
  | .local _ .vmem, ⟨10, _⟩ => ⟨S3x1024x512, .bf16⟩
  | .local _ .vmem, ⟨11, _⟩ => ⟨S3x1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x2048, .bf16⟩
  | .local _ .vmem, ⟨15, _⟩ => ⟨S2048x2048, .bf16⟩
  | .local _ .vmem, ⟨16, _⟩ => ⟨S2x512x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_c_7 : Ref sig .tc := ⟨.hbm, 29, rfl⟩
abbrev main_v14 : Ref sig .tc := ⟨.hbm, 30, rfl⟩
abbrev main_v15 : Ref sig .tc := ⟨.hbm, 31, rfl⟩
abbrev main_c_8 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7 : BitVec 32 := 1#32
  let v11 : BitVec 32 := Scalar.muli v4 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_12 : BitVec 32 := 1#32
  let v15 : BitVec 32 := Scalar.muli v9 c1_i32_12
  let v16 : BitVec 32 := Scalar.addi c0_i32_13 v15
  v16.toNat
def k0_off1 (d0 : Dev nD) (c4_i32_28 : BitVec 32) : Fin 2 → Nat :=
  let c0_30 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : BitVec 32 := Scalar.addi v2 c4_i32_28
  let c8_i32_29 : BitVec 32 := 8#32
  let v35 : BitVec 32 := Scalar.remsi v34 c8_i32_29
  let c256_i32 : BitVec 32 := 256#32
  let v36 : BitVec 32 := Scalar.muli v35 c256_i32
  let v37 : Index := Scalar.indexCast v36
  ![0, v37.toNat]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_40 : BitVec 32 := 1#32
  let v54 : BitVec 32 := Scalar.muli v9 c1_i32_40
  let v55 : BitVec 32 := Scalar.addi c0_i32_41 v54
  v55.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_68 : BitVec 32 := 1#32
  let v100 : BitVec 32 := Scalar.muli v4 c1_i32_68
  let v101 : BitVec 32 := Scalar.addi c0_i32_69 v100
  v101.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_75 : BitVec 32 := 1#32
  let v108 : BitVec 32 := Scalar.muli v7 c1_i32_75
  let v109 : BitVec 32 := Scalar.addi c0_i32_76 v108
  v109.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_151 : BitVec 32 := 1#32
  let v204 : BitVec 32 := Scalar.muli v4 c1_i32_151
  let v205 : BitVec 32 := Scalar.addi c0_i32_152 v204
  v205.toNat
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_158 : BitVec 32 := 1#32
  let v212 : BitVec 32 := Scalar.muli v7 c1_i32_158
  let v213 : BitVec 32 := Scalar.addi c0_i32_159 v212
  v213.toNat
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_225 : BitVec 32 := 1#32
  let v296 : BitVec 32 := Scalar.muli v4 c1_i32_225
  let v297 : BitVec 32 := Scalar.addi c0_i32_226 v296
  v297.toNat
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_232 : BitVec 32 := 1#32
  let v304 : BitVec 32 := Scalar.muli v7 c1_i32_232
  let v305 : BitVec 32 := Scalar.addi c0_i32_233 v304
  v305.toNat
def k0_off2 (d0 : Dev nD) (c0_i32_350 : BitVec 32) : Fin 2 → Nat :=
  let c0_351 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_349 : BitVec 32 := 256#32
  let v450 : BitVec 32 := Scalar.muli v2 c256_i32_349
  let v451 : BitVec 32 := Scalar.addi v450 c0_i32_350
  let v452 : Index := Scalar.indexCast v451
  ![0, v452.toNat]
def k0_off3 (d0 : Dev nD) (c0_i32_367 : BitVec 32) : Fin 2 → Nat :=
  let c512_368 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_366 : BitVec 32 := 256#32
  let v505 : BitVec 32 := Scalar.muli v2 c256_i32_366
  let v506 : BitVec 32 := Scalar.addi v505 c0_i32_367
  let v507 : Index := Scalar.indexCast v506
  ![512, v507.toNat]
def k0_off4 (d0 : Dev nD) : Fin 2 → Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_379 : BitVec 32 := 256#32
  let v539 : BitVec 32 := Scalar.muli v2 c256_i32_379
  ![0, v539.toNat]
def k0_dev11 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_382 : BitVec 32 := 1#32
  let v540 : BitVec 32 := Scalar.muli v9 c1_i32_382
  let v541 : BitVec 32 := Scalar.addi c0_i32_383 v540
  v541.toNat
def k0_dev12 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_392 : BitVec 32 := 1#32
  let v552 : BitVec 32 := Scalar.muli v4 c1_i32_392
  let v553 : BitVec 32 := Scalar.addi c0_i32_393 v552
  v553.toNat
def k0_dev13 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_398 : BitVec 32 := 1#32
  let v560 : BitVec 32 := Scalar.muli v7 c1_i32_398
  let v561 : BitVec 32 := Scalar.addi c0_i32_399 v560
  v561.toNat
def k0_off5 (d0 : Dev nD) : Fin 2 → Nat :=
  let c0_403 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_402 : BitVec 32 := 256#32
  let v568 : BitVec 32 := Scalar.muli v2 c256_i32_402
  let v569 : Index := Scalar.indexCast v568
  ![0, v569.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_404 : BitVec 32 := 256#32
  let v571 : BitVec 32 := Scalar.muli v2 c256_i32_404
  let v572 : Index := Scalar.indexCast v571
  let c0_405 : Index := 0#32
  ![v572.toNat, 0]
def k0_off7 (d0 : Dev nD) (c15_i32 : BitVec 32) : Fin 2 → Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v596 : BitVec 32 := Scalar.addi v2 c15_i32
  let c8_i32_431 : BitVec 32 := 8#32
  let v597 : BitVec 32 := Scalar.remsi v596 c8_i32_431
  let c256_i32_435 : BitVec 32 := 256#32
  let v601 : BitVec 32 := Scalar.muli v597 c256_i32_435
  ![0, v601.toNat]
def k0_off7_at (r : Fin 4) : BitVec 32 :=
  if r.val < 2 then
    if r.val < 1 then
      15#32
    else
      1#32
  else
    if r.val < 3 then
      14#32
    else
      2#32
def k0_dev14 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_440 : BitVec 32 := 1#32
  let v604 : BitVec 32 := Scalar.muli v4 c1_i32_440
  let v605 : BitVec 32 := Scalar.addi c0_i32_441 v604
  v605.toNat
def k0_dev15 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_446 : BitVec 32 := 1#32
  let v612 : BitVec 32 := Scalar.muli v7 c1_i32_446
  let v613 : BitVec 32 := Scalar.addi c0_i32_447 v612
  v613.toNat
def k0_off8 (d0 : Dev nD) (c15_i32 : BitVec 32) : Fin 2 → Nat :=
  let c0_453 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v596 : BitVec 32 := Scalar.addi v2 c15_i32
  let c8_i32_431 : BitVec 32 := 8#32
  let v597 : BitVec 32 := Scalar.remsi v596 c8_i32_431
  let c256_i32_452 : BitVec 32 := 256#32
  let v622 : BitVec 32 := Scalar.muli v597 c256_i32_452
  let v623 : Index := Scalar.indexCast v622
  ![0, v623.toNat]
def k0_off8_at (r : Fin 7) : BitVec 32 :=
  if r.val < 3 then
    if r.val < 1 then
      15#32
    else
      if r.val < 2 then
        1#32
      else
        14#32
  else
    if r.val < 5 then
      if r.val < 4 then
        2#32
      else
        13#32
    else
      if r.val < 6 then
        3#32
      else
        4#32
def k0_off9 (d0 : Dev nD) (c15_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v596 : BitVec 32 := Scalar.addi v2 c15_i32
  let c8_i32_431 : BitVec 32 := 8#32
  let v597 : BitVec 32 := Scalar.remsi v596 c8_i32_431
  let c256_i32_454 : BitVec 32 := 256#32
  let v625 : BitVec 32 := Scalar.muli v597 c256_i32_454
  let v626 : Index := Scalar.indexCast v625
  let c0_455 : Index := 0#32
  ![v626.toNat, 0]
def k0_off9_at (r : Fin 7) : BitVec 32 :=
  if r.val < 3 then
    if r.val < 1 then
      15#32
    else
      if r.val < 2 then
        1#32
      else
        14#32
  else
    if r.val < 5 then
      if r.val < 4 then
        2#32
      else
        13#32
    else
      if r.val < 6 then
        3#32
      else
        4#32
def k0_dev16 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_499 : BitVec 32 := 1#32
  let v670 : BitVec 32 := Scalar.muli v4 c1_i32_499
  let v671 : BitVec 32 := Scalar.addi c0_i32_500 v670
  v671.toNat
def k0_dev17 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_505 : BitVec 32 := 1#32
  let v678 : BitVec 32 := Scalar.muli v7 c1_i32_505
  let v679 : BitVec 32 := Scalar.addi c0_i32_506 v678
  v679.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x512x2048 : Shape := ⟨3, ![2, 512, 2048]⟩
abbrev S2048x1024 : Shape := ⟨2, ![2048, 1024]⟩
abbrev S1024x2048 : Shape := ⟨2, ![1024, 2048]⟩
abbrev S2048x2048 : Shape := ⟨2, ![2048, 2048]⟩
abbrev S2048x512 : Shape := ⟨2, ![2048, 512]⟩
abbrev S2048x32 : Shape := ⟨2, ![2048, 32]⟩
abbrev S2x512x1024 : Shape := ⟨3, ![2, 512, 1024]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x1024, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Vals.lean ====
/-
  What every device computes, step by step, as functions of what its windows and its copy of the output weights hold: the
  latent, the partial key and value blocks that travel round the two rings, the summed keys and values of a device's two
  heads, its block of attention outputs, and the result.  The kernel's own arithmetic is named by its payloads.
-/
module

public import proofs.«01_k».proof.Proof.Gen.KernelIdeal.Skeleton

@[expose] public section

noncomputable section

namespace Cert.Mla

open Idealize.ShloMosaic Idealize.ShloMosaic.TcCoe
open Cert.KernelIdeal Cert.KernelIdeal.Gen

/-! ## The ring of eight devices -/

set_option backward.proofsInPublic true in
/-- The device `n` places to the right of `c`. -/
def dv (c : Dev nD) (n : ℕ) : Dev nD := ⟨(c.val + n) % 8, Nat.mod_lt _ (by decide)⟩

theorem dv_dv (c : Dev nD) (m n : ℕ) : dv (dv c m) n = dv c (m + n) := Fin.ext (by simp only [dv]; omega)
theorem dv_eight (c : Dev nD) : dv c 8 = c := Fin.ext (by have : c.val < 8 := c.isLt; simp only [dv]; omega)
theorem dv_zero (c : Dev nD) : dv c 0 = c := Fin.ext (by have : c.val < 8 := c.isLt; simp only [dv]; omega)
theorem dv_add_eight (c : Dev nD) (n : ℕ) : dv c (n + 8) = dv c n := Fin.ext (by simp only [dv]; omega)

/-- Going `m` places to the right and then the rest of the way round comes back to `c`. -/
theorem dv_back (c : Dev nD) (m n : ℕ) (h : m + n = 8) : dv (dv c m) n = c := by rw [dv_dv, h, dv_eight]

/-- Shifting by `m` permutes the devices. -/
def shift (m n : ℕ) (h : m + n = 8) : Dev nD ≃ Dev nD :=
  ⟨fun c => dv c m, fun c => dv c n, fun c => dv_back c m n h, fun c => dv_back c n m (by omega)⟩

/-! ## Re-indexings -/

section Arrays
variable {α : Type}

/-- Two blocks of 256 columns side by side. -/
def halves (a b : S1024x256.Idx → α) : S1024x512.Idx → α := fun i =>
  if h : (i 1).val < 256 then a (Shape.pair (d := ![1024, 256]) (i 0) ⟨(i 1).val, h⟩)
  else b (Shape.pair (d := ![1024, 256]) (i 0) ⟨(i 1).val - 256, by have : (i 1).val < 512 := (i 1).isLt; show _ < 256; omega⟩)

/-- A block with a leading axis of one. -/
def up (a : S1024x256.Idx → α) : S1x1024x256.Idx → α := fun i => a (Shape.pair (d := ![1024, 256]) (i 1) (i 2))

/-- One landing slot's contents, as contents of the three-slot buffer: `a` in every slot. -/
def slot3 (a : S1024x512.Idx → α) : S3x1024x512.Idx → α := fun i => a (Shape.pair (d := ![1024, 512]) (i 1) (i 2))

/-- Block `n` (taken modulo 8) of 256 columns of a weight of 2048 columns. -/
def chunk (W : S128x2048.Idx → α) (n : ℕ) : S128x256.Idx → α := fun i =>
  W (Shape.pair (d := ![128, 2048]) (i 0) ⟨256 * (n % 8) + (i 1).val, by have : (i 1).val < 256 := (i 1).isLt; show _ < 2048; omega⟩)

/-- Block `n` (modulo 8) of 256 rows of a matrix of 2048 rows. -/
def rowBlk (W : S2048x2048.Idx → α) (n : ℕ) : S256x2048.Idx → α := fun i =>
  W (Shape.pair (d := ![2048, 2048]) ⟨256 * (n % 8) + (i 0).val, by have : (i 0).val < 256 := (i 0).isLt; show _ < 2048; omega⟩ (i 1))

/-- Rows `512 k` to `512 (k + 1)` of a matrix of 2048 rows. -/
def row512 (W : S2048x2048.Idx → α) (k : Fin 4) : S512x2048.Idx → α := fun i =>
  W (Shape.pair (d := ![2048, 2048]) ⟨512 * k.val + (i 0).val, by have : (i 0).val < 512 := (i 0).isLt; show _ < 2048; omega⟩ (i 1))

/-- The same with a leading axis of one. -/
def up512 (a : S512x2048.Idx → α) : S1x512x2048.Idx → α := fun i => a (Shape.pair (d := ![512, 2048]) (i 1) (i 2))

/-- One staging slot's contents, as contents of the two-slot buffer: `a` in both slots. -/
def stage2 (a : S512x2048.Idx → α) : S2x512x2048.Idx → α := fun i => a (Shape.pair (d := ![512, 2048]) (i 1) (i 2))

/-- Four blocks of 512 rows stacked. -/
def rows4 (a : Fin 4 → S512x2048.Idx → α) : S2048x2048.Idx → α := fun i =>
  a ⟨(i 0).val / 512, by have : (i 0).val < 2048 := (i 0).isLt; omega⟩
    (Shape.pair (d := ![512, 2048]) ⟨(i 0).val % 512, Nat.mod_lt _ (by decide)⟩ (i 1))

/-- Four blocks of 512 rows and 128 columns: `a r h` holds the rows of half `r` and the columns of half `h`. -/
def quads (a : Fin 2 → Fin 2 → S512x128.Idx → α) : S1024x256.Idx → α := fun i =>
  a ⟨(i 0).val / 512, by have : (i 0).val < 1024 := (i 0).isLt; omega⟩ ⟨(i 1).val / 128, by have : (i 1).val < 256 := (i 1).isLt; omega⟩
    (Shape.pair (d := ![512, 128]) ⟨(i 0).val % 512, Nat.mod_lt _ (by decide)⟩ ⟨(i 1).val % 128, Nat.mod_lt _ (by decide)⟩)

/-- The eight devices' blocks of 256 columns side by side. -/
def gather (a : Dev nD → S1024x256.Idx → α) : S1024x2048.Idx → α := fun i =>
  a ⟨(i 1).val / 256, by have : (i 1).val < 2048 := (i 1).isLt; show _ < 8; omega⟩
    (Shape.pair (d := ![1024, 256]) (i 0) ⟨(i 1).val % 256, Nat.mod_lt _ (by decide)⟩)

end Arrays

/-! ## What a device computes -/

variable {F : FTy → Type} [FloatOps F]

/-- What a device reads: its seven windows and its copy of the output weights. -/
structure In (F : FTy → Type) where
  x : Vec F S1024x2048 .f32
  wd : Vec F S2048x128 .bf16
  uk : Vec F S128x2048 .bf16
  uv : Vec F S128x2048 .bf16
  wq : Vec F S2048x256 .bf16
  wqr : Vec F S2048x64 .bf16
  wkr : Vec F S2048x32 .bf16
  wo : Vec F S2048x2048 .f32

variable (I : Dev nD → In F)

def xb (c : Dev nD) : FVec F S1024x2048 .bf16 := k0_pay1 (I c).x
def lat (c : Dev nD) : FVec F S1024x128 .bf16 := k0_pay2 (I c).x (I c).wd
/-- The keys' and the values' columns of device `c + n`, of the two up-projections. -/
def ukC (c : Dev nD) (n : ℕ) : Vec F S128x256 .bf16 := chunk (I c).uk (c.val + n)
def uvC (c : Dev nD) (n : ℕ) : Vec F S128x256 .bf16 := chunk (I c).uv (c.val + n)

/-- What `c` sends to the device opposite. -/
def cdK (c : Dev nD) : FVec F S1024x256 .bf16 := k0_pay3 (I c).x (I c).wd (ukC I c 4)
def cdV (c : Dev nD) : FVec F S1024x256 .bf16 := k0_pay4 (I c).x (I c).wd (uvC I c 4)
/-- What `c` sends to the right in the three rounds of the right ring. -/
def r0K (c : Dev nD) : FVec F S1024x256 .bf16 := k0_pay5 (lat I c) (ukC I c 3)
def r0V (c : Dev nD) : FVec F S1024x256 .bf16 := k0_pay6 (lat I c) (uvC I c 3)
def r1K (c : Dev nD) : FVec F S1024x256 .bf16 := k0_pay18 (k0_pay14 (lat I c) (ukC I c 2)) (up (r0K I (dv c 7)))
def r1V (c : Dev nD) : FVec F S1024x256 .bf16 := k0_pay20 (k0_pay19 (k0_pay15 (lat I c) (uvC I c 2)) (up (r0V I (dv c 7))))
def r2K (c : Dev nD) : FVec F S1024x256 .bf16 := k0_pay27 (k0_pay23 (lat I c) (ukC I c 1)) (up (r1K I (dv c 7)))
def r2V (c : Dev nD) : FVec F S1024x256 .bf16 := k0_pay28 (k0_pay24 (lat I c) (uvC I c 1)) (up (r1V I (dv c 7)))
/-- What `c` sends to the left in the three rounds of the left ring. -/
def l0K (c : Dev nD) : FVec F S1024x256 .bf16 := k0_pay9 (k0_pay8 (lat I c) (ukC I c 5))
def l0V (c : Dev nD) : FVec F S1024x256 .bf16 := k0_pay10 (k0_pay7 (lat I c) (uvC I c 5))
def l1K (c : Dev nD) : FVec F S1024x256 .bf16 := k0_pay21 (k0_pay16 (lat I c) (ukC I c 6)) (up (l0K I (dv c 1)))
def l1V (c : Dev nD) : FVec F S1024x256 .bf16 := k0_pay22 (k0_pay17 (lat I c) (uvC I c 6)) (up (l0V I (dv c 1)))
def l2K (c : Dev nD) : FVec F S1024x256 .bf16 := k0_pay29 (k0_pay25 (lat I c) (ukC I c 7)) (up (l1K I (dv c 1)))
def l2V (c : Dev nD) : FVec F S1024x256 .bf16 := k0_pay30 (k0_pay26 (lat I c) (uvC I c 7)) (up (l1V I (dv c 1)))

/-- The buffers sent: keys in the left half, values in the right half. -/
abbrev cdB (c : Dev nD) : Vec F S1024x512 .bf16 := halves (cdK I c) (cdV I c)
abbrev r0B (c : Dev nD) : Vec F S1024x512 .bf16 := halves (r0K I c) (r0V I c)
abbrev r1B (c : Dev nD) : Vec F S1024x512 .bf16 := halves (r1K I c) (r1V I c)
abbrev r2B (c : Dev nD) : Vec F S1024x512 .bf16 := halves (r2K I c) (r2V I c)
abbrev l0B (c : Dev nD) : Vec F S1024x512 .bf16 := halves (l0K I c) (l0V I c)
abbrev l1B (c : Dev nD) : Vec F S1024x512 .bf16 := halves (l1K I c) (l1V I c)
abbrev l2B (c : Dev nD) : Vec F S1024x512 .bf16 := halves (l2K I c) (l2V I c)

def qv (c : Dev nD) : FVec F S1024x256 .bf16 := k0_pay11 (xb I c) (I c).wq
def qrv (c : Dev nD) : FVec F S1024x64 .bf16 := k0_pay12 (xb I c) (I c).wqr
def krv (c : Dev nD) : FVec F S1024x32 .bf16 := k0_pay13 (xb I c) (I c).wkr
/-- The device's own part of its keys and values. -/
def ownK (c : Dev nD) : FVec F S1024x256 .f32 := k0_pay31 (lat I c) (ukC I c 0)
def ownV (c : Dev nD) : FVec F S1024x256 .f32 := k0_pay32 (lat I c) (uvC I c 0)
/-- The keys and values of the device's two heads, summed over the devices. -/
def km (c : Dev nD) : FVec F S1024x256 .bf16 := k0_pay37 (ownK I c) (up (r2K I (dv c 7))) (up (l2K I (dv c 1))) (cdK I (dv c 4))
def vacc (c : Dev nD) : FVec F S1024x256 .f32 := k0_pay38 (up (r2V I (dv c 7))) (up (l2V I (dv c 1)))
def vm (c : Dev nD) : FVec F S1024x256 .bf16 := k0_pay39 (ownV I c) (vacc I c) (cdV I (dv c 4))

/-- The attention output of the device's head `h` on batch row `r`. -/
def oq (c : Dev nD) (r h : Fin 2) : FVec F S512x128 .bf16 :=
  if r = 0 then
    if h = 0 then k0_pay41 (qv I c) (qrv I c) (krv I c) (ownV I c) (km I c) (vacc I c) (cdV I (dv c 4))
    else k0_pay43 (vm I c) (k0_pay42 (qv I c) (qrv I c) (krv I c) (km I c))
  else
    if h = 0 then k0_pay45 (qv I c) (qrv I c) (krv I c) (km I c) (vm I c)
    else k0_pay48 (qrv I c) (vm I c) (k0_pay44 (krv I c)) (k0_pay46 (qv I c)) (k0_pay47 (km I c))

/-- The device's block of attention outputs. -/
def op (c : Dev nD) : FVec F S1024x256 .bf16 := quads (oq I c)
/-- All devices' blocks, as they lie in every device's gathering buffer. -/
def OG : Vec F S1024x2048 .bf16 := gather (op I)

/-- Block `k` of 512 rows of the output weights, in the kernel's low precision. -/
def woq (c : Dev nD) (k : Fin 4) : FVec F S512x2048 .bf16 :=
  if k = 0 then k0_pay33 (up512 (row512 (I c).wo 0)) else if k = 1 then k0_pay34 (up512 (row512 (I c).wo 1))
  else if k = 2 then k0_pay35 (up512 (row512 (I c).wo 2)) else k0_pay36 (up512 (row512 (I c).wo 3))
def woC (c : Dev nD) : Vec F S2048x2048 .bf16 := rows4 (woq I c)
/-- The rows of the output weights that multiply device `c + n`'s block. -/
def wr (c : Dev nD) (n : ℕ) : Vec F S256x2048 .bf16 := rowBlk (woC I c) (c.val + n)

/-- The result as the blocks are added one by one: the own block first, then the neighbours', outwards. -/
def out0 (c : Dev nD) : FVec F S1024x2048 .f32 := k0_pay49 (op I (dv c 0)) (wr I c 0)
def out1 (c : Dev nD) : FVec F S1024x2048 .f32 := k0_pay50 (out0 I c) (op I (dv c 7)) (wr I c 7)
def out2 (c : Dev nD) : FVec F S1024x2048 .f32 := k0_pay51 (out1 I c) (op I (dv c 1)) (wr I c 1)
def out3 (c : Dev nD) : FVec F S1024x2048 .f32 := k0_pay52 (out2 I c) (op I (dv c 6)) (wr I c 6)
def out4 (c : Dev nD) : FVec F S1024x2048 .f32 := k0_pay54 (k0_pay53 (out3 I c)) (op I (dv c 2)) (wr I c 2)
def out5 (c : Dev nD) : FVec F S1024x2048 .f32 := k0_pay55 (out4 I c) (op I (dv c 5)) (wr I c 5)
def out6 (c : Dev nD) : FVec F S1024x2048 .f32 := k0_pay56 (out5 I c) (op I (dv c 3)) (wr I c 3)
def out7 (c : Dev nD) : FVec F S1024x2048 .f32 := k0_pay57 (out6 I c) (op I (dv c 4)) (wr I c 4)

end Cert.Mla

end
-- ==== Proof.Cells.lean ====
/-
  The protocol between the devices, written down: the semaphores, who pays each and what the payment hands over.

  * The BARRIER of a device is paid one unit by each of three others: its left neighbour, its right neighbour and the device
    opposite.  Each hands over the room in its OWN landing buffers into which the barrier's owner will copy.
  * A copy to another device pays two semaphores once it has landed: the sender's send semaphore, which hands the source
    back, and the receiver's receive semaphore, which hands over the landing room with what now lies in it.
  * A local copy of a block of the output weights into a staging slot pays one semaphore.

  Every semaphore is used for one round only.
-/
module

public import proofs.«01_k».proof.Proof.Vals
public import proofs.«01_k».proof.Proof.Gen.KernelIdeal.Regions
public import Idealize.ShloMosaic.Lib.Rounds

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The rounds' resources: the pipeline's copy and the protocol's, whose barrier duties have three names. -/
abbrev UP : Type := URounds (GSem nD τ sig) Unit
abbrev UB : Type := URounds (GSem nD τ sig) (Fin 3)
abbrev UU : Type := UP × UB

local notation "𝕄" => MT nD τ sig Unit (Elt F) ℕ UU ℕ

abbrev EP : Emb UP (MT nD τ sig Unit (Elt F) ℕ UU ℕ) := embL
abbrev EB : Emb UB (MT nD τ sig Unit (Elt F) ℕ UU ℕ) := embR

/-! ## The landing rooms -/

/-- The memory a view covers on device `c`, at the share `q`, holding `f`. -/
abbrev pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-- The same at contents not chosen. -/
abbrev room {sp : Space} {s : Shape} {e : EltTy} (M : Memref sig .tc sp s e) (c : Dev nD) : sProp 𝕄 :=
  iprop(∃ f : Buf (Elt F) (M.view.loc (c : Thread nD τ)), pts M c fullShare f)

abbrev sndR : Memref sig .tc .vmem S1024x512 .bf16 := Memref.whole cc0_scratch0
abbrev sndL : Memref sig .tc .vmem S1024x512 .bf16 := Memref.whole cc0_scratch1
abbrev bufR : Memref sig .tc .vmem S3x1024x512 .bf16 := Memref.whole cc0_scratch2
abbrev bufL : Memref sig .tc .vmem S3x1024x512 .bf16 := Memref.whole cc0_scratch3
abbrev cdS : Memref sig .tc .vmem S1024x512 .bf16 := Memref.whole cc0_scratch4
abbrev cdR : Memref sig .tc .vmem S1024x512 .bf16 := Memref.whole cc0_scratch5
abbrev ogat : Memref sig .tc .vmem S1024x2048 .bf16 := Memref.whole cc0_scratch6
abbrev wog : Memref sig .tc .vmem S2048x2048 .bf16 := Memref.whole cc0_scratch7
abbrev stg : Memref sig .tc .vmem S2x512x2048 .f32 := Memref.whole cc0_scratch8
abbrev woH : Memref sig .tc .hbm S2048x2048 .f32 := Memref.whole main_arg7

theorem slot_inb (k : Fin 3) : ∀ a, (![k.val, 0, 0] : Fin 3 → ℕ) a + S1x1024x512.size a ≤ S3x1024x512.size a := by revert k; decide
/-- Slot `k` of a ring's landing buffer. -/
abbrev slot (B : Memref sig .tc .vmem S3x1024x512 .bf16) (k : Fin 3) : Memref sig .tc .vmem S1024x512 .bf16 :=
  (B.slice (Rect.unit (s := S3x1024x512) ![k.val, 0, 0] S1x1024x512.size (slot_inb k)) (fun _ => rfl)).squeeze S1024x512 squeezes_S1x1024x512_S1024x512

theorem piece_inb (p : Dev nD) : ∀ a, (![0, 256 * p.val] : Fin 2 → ℕ) a + S1024x256.size a ≤ S1024x2048.size a := by revert p; decide
/-- Device `p`'s block of columns in the gathering buffer. -/
abbrev piece (p : Dev nD) : Memref sig .tc .vmem S1024x256 .bf16 :=
  ogat.slice (Rect.unit (s := S1024x2048) ![0, 256 * p.val] S1024x256.size (piece_inb p)) (fun _ => rfl)

theorem stage_inb (k : Fin 2) : ∀ a, (![k.val, 0, 0] : Fin 3 → ℕ) a + S1x512x2048.size a ≤ S2x512x2048.size a := by revert k; decide
/-- Staging slot `k` of the output weights. -/
abbrev stage (k : Fin 2) : Memref sig .tc .vmem S512x2048 .f32 :=
  (stg.slice (Rect.unit (s := S2x512x2048) ![k.val, 0, 0] S1x512x2048.size (stage_inb k)) (fun _ => rfl)).squeeze S512x2048 squeezes_S1x512x2048_S512x2048

theorem wob_inb (k : Fin 4) : ∀ a, (![512 * k.val, 0] : Fin 2 → ℕ) a + S512x2048.size a ≤ S2048x2048.size a := by revert k; decide
/-- Block `k` of 512 rows of the output weights. -/
abbrev wob (k : Fin 4) : Memref sig .tc .hbm S512x2048 .f32 :=
  woH.slice (Rect.unit (s := S2048x2048) ![512 * k.val, 0] S512x2048.size (wob_inb k)) (fun _ => rfl)

/-! ## The semaphores -/

/-- The kernel's own transfer semaphores. -/
abbrev semK (k : Fin 32) : SemLoc sig := .dma (⟨8 + k.val, by have := k.isLt; show _ < 40; omega⟩ : DmaSem sig)
abbrev cell (c : Dev nD) (k : Fin 32) : GSem nD τ sig := ((c : Thread nD τ), semK k)
abbrev barCell (c : Dev nD) : GSem nD τ sig := ((c : Thread nD τ), .reg barrier0)

/-- What a landing pays: by the shape that lands. -/
def amtN (n : ℕ) : ℕ :=
  if n < 14 then (sndR.view.dmaCredit : ℕ) else if n < 28 then ((piece 0).view.dmaCredit : ℕ) else ((stage 0).view.dmaCredit : ℕ)
abbrev amtK (k : Fin 32) : ℕ := amtN k.val

theorem amtN_pos (n : ℕ) : 0 < amtN n := by
  unfold amtN; split
  · exact View.dmaCredit_pos _ (by decide)
  · split
    · exact View.dmaCredit_pos _ (by decide)
    · exact View.dmaCredit_pos _ (by decide)

/-! ## The copies to other devices, in the order they are issued -/

/-- How far to the right the receiver of copy `i` lies. -/
def hop (i : Fin 14) : ℕ := (![4, 1, 7, 1, 7, 1, 7, 4, 1, 7, 1, 7, 1, 7] : Fin 14 → ℕ) i
/-- The send semaphore of copy `i`, and the receive semaphore it pays at the receiver. -/
def sk (i : Fin 14) : Fin 32 := (![12, 0, 6, 1, 7, 2, 8, 26, 14, 20, 15, 21, 16, 22] : Fin 14 → Fin 32) i
def rk (i : Fin 14) : Fin 32 := (![13, 3, 9, 4, 10, 5, 11, 27, 17, 23, 18, 24, 19, 25] : Fin 14 → Fin 32) i
/-- The receiver of copy `i` of device `c`. -/
abbrev peer (i : Fin 14) (c : Dev nD) : Dev nD := dv c (hop i)

/-- The room on the receiver into which copy `i` of device `c` lands. -/
def roomAt (c : Dev nD) : Fin 14 → sProp 𝕄
  | 0 => room cdR (dv c 4)
  | 1 => room (slot bufR 0) (dv c 1)
  | 2 => room (slot bufL 0) (dv c 7)
  | 3 => room (slot bufR 1) (dv c 1)
  | 4 => room (slot bufL 1) (dv c 7)
  | 5 => room (slot bufR 2) (dv c 1)
  | 6 => room (slot bufL 2) (dv c 7)
  | 7 => room (piece c) (dv c 4)
  | 8 => room (piece c) (dv c 1)
  | 9 => room (piece c) (dv c 7)
  | 10 => room (piece (dv c 7)) (dv c 1)
  | 11 => room (piece (dv c 1)) (dv c 7)
  | 12 => room (piece (dv c 6)) (dv c 1)
  | 13 => room (piece (dv c 2)) (dv c 7)

/-- The copies whose rooms come with barrier unit `d`: from the left neighbour, the right neighbour, the device opposite. -/
def unitOf (d : Fin 3) : List (Fin 14) := (![[2, 4, 6, 9, 11, 13], [1, 3, 5, 8, 10, 12], [0, 7]] : Fin 3 → List (Fin 14)) d
/-- The device that pays barrier unit `d` of device `c` lies this far to the right of `c`. -/
def payer (d : Fin 3) : ℕ := (![7, 1, 4] : Fin 3 → ℕ) d

/-- Barrier unit `d` of device `c`: the rooms on the paying device, and that its receive semaphores are ready. -/
def barPay (c : Dev nD) (d : Fin 3) : sProp 𝕄 :=
  bigSepL (unitOf d) fun i => iprop(roomAt c i ∗ reached EB (cell (peer i c) (rk i)) 0)

/-! ## What each landing hands over -/

variable (I : Dev nD → In F)

/-- Four equal parts of the whole share: three copies read the own block at once, and the device reads it too. -/
abbrev q1 : PosShare TreeShare := (fullShare.left).left
abbrev q2 : PosShare TreeShare := (fullShare.left).right
abbrev q3 : PosShare TreeShare := (fullShare.right).left
abbrev q4 : PosShare TreeShare := (fullShare.right).right
/-- Two equal parts: a copy that passes a block on, and the device that reads it. -/
abbrev h1 : PosShare TreeShare := fullShare.left
abbrev h2 : PosShare TreeShare := fullShare.right

def payK (c : Dev nD) : Fin 32 → sProp 𝕄
  | 0 => pts sndR c fullShare (r0B I c)
  | 1 => pts sndR c fullShare (r1B I c)
  | 2 => pts sndR c fullShare (r2B I c)
  | 3 => pts (slot bufR 0) c fullShare (slot3 (r0B I (dv c 7)))
  | 4 => pts (slot bufR 1) c fullShare (slot3 (r1B I (dv c 7)))
  | 5 => pts (slot bufR 2) c fullShare (slot3 (r2B I (dv c 7)))
  | 6 => pts sndL c fullShare (l0B I c)
  | 7 => pts sndL c fullShare (l1B I c)
  | 8 => pts sndL c fullShare (l2B I c)
  | 9 => pts (slot bufL 0) c fullShare (slot3 (l0B I (dv c 1)))
  | 10 => pts (slot bufL 1) c fullShare (slot3 (l1B I (dv c 1)))
  | 11 => pts (slot bufL 2) c fullShare (slot3 (l2B I (dv c 1)))
  | 12 => pts cdS c fullShare (cdB I c)
  | 13 => pts cdR c fullShare (cdB I (dv c 4))
  | 14 => pts (piece c) c q1 (OG I)
  | 15 => pts (piece (dv c 7)) c h1 (OG I)
  | 16 => pts (piece (dv c 6)) c h1 (OG I)
  | 17 => pts (piece (dv c 7)) c fullShare (OG I)
  | 18 => pts (piece (dv c 6)) c fullShare (OG I)
  | 19 => pts (piece (dv c 5)) c fullShare (OG I)
  | 20 => pts (piece c) c q2 (OG I)
  | 21 => pts (piece (dv c 1)) c h1 (OG I)
  | 22 => pts (piece (dv c 2)) c h1 (OG I)
  | 23 => pts (piece (dv c 1)) c fullShare (OG I)
  | 24 => pts (piece (dv c 2)) c fullShare (OG I)
  | 25 => pts (piece (dv c 3)) c fullShare (OG I)
  | 26 => pts (piece c) c q3 (OG I)
  | 27 => pts (piece (dv c 4)) c fullShare (OG I)
  | 28 => iprop(pts (stage 0) c fullShare (stage2 (row512 (I c).wo 0)) ∗ pts (wob 0) c fullShare (I c).wo)
  | 29 => iprop(pts (stage 1) c fullShare (stage2 (row512 (I c).wo 1)) ∗ pts (wob 1) c fullShare (I c).wo)
  | 30 => iprop(pts (stage 0) c fullShare (stage2 (row512 (I c).wo 2)) ∗ pts (wob 2) c fullShare (I c).wo)
  | 31 => iprop(pts (stage 1) c fullShare (stage2 (row512 (I c).wo 3)) ∗ pts (wob 3) c fullShare (I c).wo)
  | ⟨_ + 32, _⟩ => iprop(emp)

omit [FloatOps F] in
theorem pts_storable {sp : Space} {s : Shape} {e : EltTy} (M : Memref sig .tc sp s e) (c : Dev nD) (q : PosShare TreeShare)
    (f : Buf (Elt F) (M.view.loc (c : Thread nD τ))) : BI.Storable (upEmb : UEmb _ 𝕄) (pts M c q f) := inferInstance
omit [FloatOps F] in
theorem room_storable {sp : Space} {s : Shape} {e : EltTy} (M : Memref sig .tc sp s e) (c : Dev nD) :
    BI.Storable (upEmb : UEmb _ 𝕄) (room (F := F) M c) := inferInstance
omit [FloatOps F] in
theorem sep_storable (P Q : sProp 𝕄) (hP : BI.Storable (upEmb : UEmb _ 𝕄) P) (hQ : BI.Storable (upEmb : UEmb _ 𝕄) Q) :
    BI.Storable (upEmb : UEmb _ 𝕄) iprop(P ∗ Q) := inferInstance

omit [FloatOps F] in
theorem roomAt_storable (c : Dev nD) (i : Fin 14) : BI.Storable (upEmb : UEmb _ 𝕄) (roomAt (F := F) c i) := by
  fin_cases i <;> exact room_storable _ _
theorem payK_storable (c : Dev nD) (k : Fin 32) : BI.Storable (upEmb : UEmb _ 𝕄) (payK I c k) := by
  fin_cases k <;> first | exact pts_storable _ _ _ _ | exact sep_storable _ _ (pts_storable _ _ _ _) (pts_storable _ _ _ _)

omit [FloatOps F] in
theorem bigSepL_storable {A : Type} (l : List A) (Φ : A → sProp 𝕄) (h : ∀ i, BI.Storable (upEmb : UEmb _ 𝕄) (Φ i)) :
    BI.Storable (upEmb : UEmb _ 𝕄) (bigSepL l Φ) := by
  induction l with
  | nil => exact (inferInstance : BI.Storable upEmb (iprop(emp) : sProp 𝕄))
  | cons a l ih => rw [bigSepL_cons]; exact sep_storable _ _ (h a) ih

/-! ## The schedule -/

def rd : Rounds.Schedule (GSem nD τ sig) (Fin 3) 𝕄 where
  duties g r := if r = 0 ∧ g.1.2 = .tc then (match g.2 with | .reg _ => Finset.univ | .dma q => if 8 ≤ q.val then {0} else ∅) else ∅
  unitless _ := False
  amount g _ _ := match g.2 with | .reg _ => 1 | .dma q => amtN (q.val - 8)
  payload g _ d := match g.2 with
    | .reg _ => barPay g.1.1 d
    | .dma q => if h : q.val - 8 < 32 then payK I g.1.1 ⟨q.val - 8, h⟩ else iprop(emp)
  amount_pos g _ _ _ := by
    obtain ⟨t, s⟩ := g
    cases s with
    | reg _ => exact Nat.one_pos
    | dma q => exact amtN_pos _

instance rd_storable (g : GSem nD τ sig) (r : ℕ) (d : Fin 3) : BI.Storable (upEmb : UEmb _ 𝕄) ((rd I).payload g r d) := by
  obtain ⟨t, s⟩ := g
  cases s with
  | reg _ =>
    show BI.Storable upEmb (barPay (F := F) t.1 d)
    unfold barPay
    refine bigSepL_storable _ _ fun i => ?_
    haveI := roomAt_storable (F := F) t.1 i; infer_instance
  | dma q =>
    show BI.Storable upEmb (if h : q.val - 8 < 32 then payK I t.1 ⟨q.val - 8, h⟩ else iprop(emp))
    split
    · exact payK_storable I _ _
    · infer_instance

section Sched
variable (c : Dev nD) (k : Fin 32)

theorem duties_cell : (rd I).duties (cell c k) 0 = {0} := by
  show (if (0 : ℕ) = 0 ∧ (cell c k).1.2 = .tc then (if 8 ≤ 8 + k.val then ({0} : Finset (Fin 3)) else ∅) else ∅) = {0}
  rw [if_pos ⟨rfl, rfl⟩, if_pos (by omega)]
theorem duties_bar : (rd I).duties (barCell c) 0 = Finset.univ := by
  show (if (0 : ℕ) = 0 ∧ (barCell c).1.2 = .tc then (Finset.univ : Finset (Fin 3)) else ∅) = Finset.univ
  rw [if_pos ⟨rfl, rfl⟩]
theorem duties_later (g : GSem nD τ sig) : ∀ r, 1 ≤ r → (rd I).duties g r = ∅ := fun r hr => if_neg fun h => by omega
theorem amount_cell (d : Fin 3) : (rd I).amount (cell c k) 0 d = amtK k := by
  show amtN (8 + k.val - 8) = amtN k.val
  rw [Nat.add_sub_cancel_left]
theorem amount_bar (d : Fin 3) : (rd I).amount (barCell c) 0 d = 1 := rfl
theorem payload_cell (d : Fin 3) : (rd I).payload (cell c k) 0 d = payK I c k := by
  show (if h : 8 + k.val - 8 < 32 then payK I c ⟨8 + k.val - 8, h⟩ else iprop(emp)) = payK I c k
  rw [dif_pos (by have := k.isLt; omega)]
  exact congrArg (payK I c) (Fin.ext (Nat.add_sub_cancel_left 8 k.val))
theorem payload_bar (d : Fin 3) : (rd I).payload (barCell c) 0 d = barPay c d := rfl
theorem expect_cell : (rd I).expect (cell c k) 0 = amtK k := by
  unfold Schedule.expect Schedule.amountOf; rw [duties_cell, Finset.sum_singleton, amount_cell]
theorem expect_bar : (rd I).expect (barCell c) 0 = 3 := by
  unfold Schedule.expect Schedule.amountOf; rw [duties_bar]
  simp only [amount_bar, Finset.sum_const, Finset.card_univ, Fintype.card_fin, smul_eq_mul, Nat.mul_one]
theorem rest_cell : bigSep ((rd I).duties (cell c k) 0 \ ∅) (fun d => (rd I).payload (cell c k) 0 d) = payK I c k := by
  rw [Finset.sdiff_empty, duties_cell, bigSep_singleton, payload_cell]
theorem rest_bar : bigSep ((rd I).duties (barCell c) 0 \ ∅) (fun d => (rd I).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
end Sched

/-! ## Debts and levels -/

/-- What device `c` still owes before its copy `n` is issued: the receive credits of copy `n` and the later ones. -/
def debt (c : Dev nD) (n : ℕ) : CellTallies nD τ sig Unit :=
  ∑ i : Fin 14, if n ≤ i.val then tallyAt (cell (peer i c) (rk i)) () (amtK (rk i)) else 0

theorem debt_last (c : Dev nD) : debt c 14 = 0 :=
  Finset.sum_eq_zero fun i _ => if_neg (by have := i.isLt; omega)

theorem debt_step (c : Dev nD) (i : Fin 14) : debt c i.val = debt c (i.val + 1) + tallyAt (cell (peer i c) (rk i)) () (amtK (rk i)) := by
  unfold debt
  have : ∀ j : Fin 14, (if i.val ≤ j.val then tallyAt (cell (peer j c) (rk j)) () (amtK (rk j)) else (0 : CellTallies nD τ sig Unit))
      = (if i.val + 1 ≤ j.val then tallyAt (cell (peer j c) (rk j)) () (amtK (rk j)) else 0)
        + (if j = i then tallyAt (cell (peer j c) (rk j)) () (amtK (rk j)) else 0) := fun j => by
    rcases Nat.lt_trichotomy i.val j.val with h | h | h
    · rw [if_pos h.le, if_pos (show i.val + 1 ≤ j.val from h), if_neg (fun e => by subst e; omega), add_zero]
    · rw [if_pos h.le, if_neg (by omega), if_pos (Fin.ext h.symm), zero_add]
    · rw [if_neg (by omega), if_neg (by omega), if_neg (fun e => by subst e; omega), add_zero]
  rw [Finset.sum_congr rfl fun j _ => this j, Finset.sum_add_distrib, Finset.sum_ite_eq' Finset.univ i, if_pos (Finset.mem_univ i)]

/-- The order of waiting: a receive semaphore stands above everything its payer waits for before paying it. -/
def lvK (k : Fin 32) : ℕ := if k = 3 ∨ k = 9 then 2 else if k = 4 ∨ k = 10 then 3 else if k = 5 ∨ k = 11 ∨ k = 13 then 4
  else if k = 17 ∨ k = 23 then 5 else if k = 18 ∨ k = 24 then 6 else if k = 19 ∨ k = 25 then 7 else if k = 27 then 8 else 0
def lev (g : GSem nD τ sig) (_ : Unit) : ℕ := match g.2 with
  | .reg _ => 1
  | .dma q => if h : 8 ≤ q.val ∧ q.val - 8 < 32 then lvK ⟨q.val - 8, h.2⟩ else 0
def lvl (g : GSem nD τ sig) : Finset Unit := if g.1.2 = .tc then {()} else ∅

theorem lvl_of_ne (g : GSem nD τ sig) (h : g.1.2 ≠ .tc) : lvl g = ∅ := if_neg h
theorem lvl_tc (c : Dev nD) (sm : SemLoc sig) : lvl ((c : Thread nD τ), sm) = {()} := if_pos rfl
theorem lev_cell (c : Dev nD) (k : Fin 32) (u : Unit) : lev (cell c k) u = lvK k := by
  show (if h : 8 ≤ 8 + k.val ∧ 8 + k.val - 8 < 32 then lvK ⟨8 + k.val - 8, h.2⟩ else 0) = lvK k
  rw [dif_pos ⟨by omega, by have := k.isLt; omega⟩]
  exact congrArg lvK (Fin.ext (Nat.add_sub_cancel_left 8 k.val))
theorem lev_bar (c : Dev nD) (u : Unit) : lev (barCell c) u = 1 := rfl

/-- Where a debt is owed, it is owed on the receive semaphore of a later copy. -/
theorem debt_pos (c : Dev nD) (n : ℕ) (g : GSem nD τ sig) (u : Unit) (h : 0 < debt c n g u) :
    ∃ i : Fin 14, n ≤ i.val ∧ g = cell (peer i c) (rk i) := by
  unfold debt at h
  rw [Finset.sum_apply, Finsupp.finset_sum_apply] at h
  obtain ⟨i, -, hi⟩ := Finset.exists_ne_zero_of_sum_ne_zero h.ne'
  by_cases hn : n ≤ i.val
  · rw [if_pos hn, tallyAt_apply] at hi
    by_cases hg : g = cell (peer i c) (rk i) ∧ u = ()
    · exact ⟨i, hn, hg.1⟩
    · rw [if_neg hg] at hi; exact absurd rfl hi
  · rw [if_neg hn] at hi; exact absurd rfl hi

omit [FloatOps F] in
/-- A wait is allowed where every copy still owed pays a semaphore that stands higher. -/
theorem mayWait_debt (c : Dev nD) (n : ℕ) (sm : SemLoc sig) (l : ℕ) (hl : lev ((c : Thread nD τ), sm) () ≤ l)
    (h : ∀ i : Fin 14, n ≤ i.val → l < lvK (rk i)) :
    (levAts lvl lev : sProp 𝕄) ⊢ MayWait (c : Thread nD τ) sm () (debt c n) :=
  MayOwe.of_cut (L := lvl) (lev := lev) l (fun p hp => by rw [Finset.mem_singleton.mp hp, lvl_tc]; exact Finset.mem_singleton_self _)
    (fun g u hg => by obtain ⟨i, _, rfl⟩ := debt_pos c n g u hg; rw [lvl_tc]; exact Finset.mem_singleton_self _)
    (fun p hp => by rw [Finset.mem_singleton.mp hp]; exact hl)
    (fun g u hg => by obtain ⟨i, hi, rfl⟩ := debt_pos c n g u hg; rw [lev_cell]; exact h i hi)

end Cert.Mla

end
-- ==== Proof.Mem.lean ====
/-
  What the kernel's loads read and what its stores and landings leave, in terms of the named contents: each access is at a
  block of rows or columns of a buffer, and what is read there is the block's value.
-/
module

public import proofs.«01_k».proof.Proof.Cells
public import Idealize.ShloMosaic.Lib.ValueLayout

@[expose] public section

noncomputable section

namespace Cert.Mla

open Idealize.ShloMosaic Idealize.ShloMosaic.TcCoe
open Idealize.ShloMosaic.ValueIdx (ix2 shapeCast_1ab_ab_apply)
open Idealize.SL Idealize.SL.RA Idealize.SL.BI
open scoped Idealize.SL.BI
open Idealize.SL.BI.BIBase Idealize.SL.Sem
open Cert.KernelIdeal Cert.KernelIdeal.Gen

theorem idx2_ext {d : Fin 2 → ℕ} {i j : (⟨2, d⟩ : Shape).Idx} (h0 : (i 0).val = (j 0).val) (h1 : (i 1).val = (j 1).val) : i = j := by
  funext b; apply Fin.ext
  rcases b with ⟨_ | _ | n, hb⟩
  · exact h0
  · exact h1
  · exact absurd (show n + 2 < 2 from hb) (by omega)
theorem idx3_ext {d : Fin 3 → ℕ} {i j : (⟨3, d⟩ : Shape).Idx} (h0 : (i 0).val = (j 0).val) (h1 : (i 1).val = (j 1).val)
    (h2 : (i 2).val = (j 2).val) : i = j := by
  funext b; apply Fin.ext
  rcases b with ⟨_ | _ | _ | n, hb⟩
  · exact h0
  · exact h1
  · exact h2
  · exact absurd (show n + 3 < 3 from hb) (by omega)

section Reads
variable {α : Type}

theorem halves_of_lt (a b : S1024x256.Idx → α) (i : S1024x512.Idx) (h : (i 1).val < 256) :
    halves a b i = a (Shape.pair (d := ![1024, 256]) (i 0) ⟨(i 1).val, h⟩) := dif_pos h
theorem halves_of_ge (a b : S1024x256.Idx → α) (i : S1024x512.Idx) (h : ¬ (i 1).val < 256) :
    halves a b i = b (Shape.pair (d := ![1024, 256]) (i 0) ⟨(i 1).val - 256, by have : (i 1).val < 512 := (i 1).isLt; show _ < 256; omega⟩) :=
  dif_neg h

theorem halves_l (a b : S1024x256.Idx → α) (inb) :
    (fun x => halves a b ((Rect.unit (s := S1024x512) ![0, 0] S1024x256.size inb).emb x)) = a := by
  funext x
  have h1 : (x 1).val < 256 := (x 1).isLt
  exact (halves_of_lt a b _ (show 0 + 1 * (x 1).val < 256 by omega)).trans
    (congrArg a (idx2_ext (show 0 + 1 * (x 0).val = (x 0).val by omega) (show 0 + 1 * (x 1).val = (x 1).val by omega)))
theorem halves_r (a b : S1024x256.Idx → α) (inb) :
    (fun x => halves a b ((Rect.unit (s := S1024x512) ![0, 256] S1024x256.size inb).emb x)) = b := by
  funext x
  exact (halves_of_ge a b _ (show ¬ 256 + 1 * (x 1).val < 256 by omega)).trans
    (congrArg b (idx2_ext (show 0 + 1 * (x 0).val = (x 0).val by omega) (show 256 + 1 * (x 1).val - 256 = (x 1).val by omega)))

theorem slot3_l (a b : S1024x256.Idx → α) (k : ℕ) (inb) :
    (fun x => slot3 (halves a b) ((Rect.unit (s := S3x1024x512) ![k, 0, 0] S1x1024x256.size inb).emb x)) = up a := by
  funext x
  have h1 : (x 2).val < 256 := (x 2).isLt
  exact (halves_of_lt a b _ (show 0 + 1 * (x 2).val < 256 by omega)).trans
    (congrArg a (idx2_ext (show 0 + 1 * (x 1).val = (x 1).val by omega) (show 0 + 1 * (x 2).val = (x 2).val by omega)))
theorem slot3_r (a b : S1024x256.Idx → α) (k : ℕ) (inb) :
    (fun x => slot3 (halves a b) ((Rect.unit (s := S3x1024x512) ![k, 0, 256] S1x1024x256.size inb).emb x)) = up b := by
  funext x
  exact (halves_of_ge a b _ (show ¬ 256 + 1 * (x 2).val < 256 by omega)).trans
    (congrArg b (idx2_ext (show 0 + 1 * (x 1).val = (x 1).val by omega) (show 256 + 1 * (x 2).val - 256 = (x 2).val by omega)))

theorem chunk_read (W : S128x2048.Idx → α) (n : ℕ) {off : Fin 2 → ℕ} (inb) (h : off = ![0, 256 * (n % 8)]) :
    (fun x => W ((Rect.unit (s := S128x2048) off S128x256.size inb).emb x)) = chunk W n := by
  subst h; funext x
  exact congrArg W (idx2_ext (show 0 + 1 * (x 0).val = (x 0).val by omega) (show 256 * (n % 8) + 1 * (x 1).val = 256 * (n % 8) + (x 1).val by omega))
theorem rowBlk_read (W : S2048x2048.Idx → α) (n : ℕ) {off : Fin 2 → ℕ} (inb) (h : off = ![256 * (n % 8), 0]) :
    (fun x => W ((Rect.unit (s := S2048x2048) off S256x2048.size inb).emb x)) = rowBlk W n := by
  subst h; funext x
  exact congrArg W (idx2_ext (show 256 * (n % 8) + 1 * (x 0).val = 256 * (n % 8) + (x 0).val by omega) (show 0 + 1 * (x 1).val = (x 1).val by omega))
theorem row512_read (W : S2048x2048.Idx → α) (k : Fin 4) (inb) :
    (fun x => W ((Rect.unit (s := S2048x2048) ![512 * k.val, 0] S512x2048.size inb).emb x)) = row512 W k := by
  funext x
  exact congrArg W (idx2_ext (show 512 * k.val + 1 * (x 0).val = 512 * k.val + (x 0).val by omega) (show 0 + 1 * (x 1).val = (x 1).val by omega))
theorem rows4_read (a : Fin 4 → S512x2048.Idx → α) (k : Fin 4) {off : Fin 2 → ℕ} (inb) (h : off = ![512 * k.val, 0]) :
    (fun x => rows4 a ((Rect.unit (s := S2048x2048) off S512x2048.size inb).emb x)) = a k := by
  subst h; funext x
  have h0 : (x 0).val < 512 := (x 0).isLt
  unfold rows4
  refine congrArg₂ a (Fin.ext ?_) (idx2_ext ?_ ?_)
  · show (512 * k.val + 1 * (x 0).val) / 512 = k.val; omega
  · show (512 * k.val + 1 * (x 0).val) % 512 = (x 0).val; omega
  · show 0 + 1 * (x 1).val = (x 1).val; omega
theorem stage2_read (a : S512x2048.Idx → α) (k : ℕ) (inb) :
    (fun x => stage2 a ((Rect.unit (s := S2x512x2048) ![k, 0, 0] S1x512x2048.size inb).emb x)) = up512 a := by
  funext x
  exact congrArg a (idx2_ext (show 0 + 1 * (x 1).val = (x 1).val by omega) (show 0 + 1 * (x 2).val = (x 2).val by omega))
theorem gather_read (a : Dev nD → S1024x256.Idx → α) (p : Dev nD) {off : Fin 2 → ℕ} (inb) (h : off = ![0, 256 * p.val]) :
    (fun x => gather a ((Rect.unit (s := S1024x2048) off S1024x256.size inb).emb x)) = a p := by
  subst h; funext x
  have h1 : (x 1).val < 256 := (x 1).isLt
  unfold gather
  refine congrArg₂ a (Fin.ext ?_) (idx2_ext ?_ ?_)
  · show (256 * p.val + 1 * (x 1).val) / 256 = p.val; omega
  · show 0 + 1 * (x 0).val = (x 0).val; omega
  · show (256 * p.val + 1 * (x 1).val) % 256 = (x 1).val; omega
theorem gather_quad (a : Dev nD → Fin 2 → Fin 2 → S512x128.Idx → α) (p : Dev nD) (r h : Fin 2) {off : Fin 2 → ℕ} (inb)
    (hoff : off = ![512 * r.val, 256 * p.val + 128 * h.val]) :
    (fun x => gather (fun c => quads (a c)) ((Rect.unit (s := S1024x2048) off S512x128.size inb).emb x)) = a p r h := by
  subst hoff; funext x
  have h0 : (x 0).val < 512 := (x 0).isLt
  have h1 : (x 1).val < 128 := (x 1).isLt
  have hr := r.isLt
  have hh := h.isLt
  unfold gather quads
  have e1 : (⟨(256 * p.val + 128 * h.val + 1 * (x 1).val) / 256, by have := p.isLt; show _ < 8; have : p.val < 8 := p.isLt; omega⟩ : Dev nD) = p :=
    Fin.ext (by show (256 * p.val + 128 * h.val + 1 * (x 1).val) / 256 = p.val; omega)
  show a ⟨(256 * p.val + 128 * h.val + 1 * (x 1).val) / 256, _⟩ ⟨(512 * r.val + 1 * (x 0).val) / 512, _⟩
    ⟨((256 * p.val + 128 * h.val + 1 * (x 1).val) % 256) / 128, _⟩ _ = a p r h x
  rw [e1]
  refine congrArg₂ (fun (f : S512x128.Idx → α) y => f y) (congrArg₂ (a p) (Fin.ext ?_) (Fin.ext ?_)) (idx2_ext ?_ ?_)
  · show (512 * r.val + 1 * (x 0).val) / 512 = r.val; omega
  · show ((256 * p.val + 128 * h.val + 1 * (x 1).val) % 256) / 128 = h.val; omega
  · show (512 * r.val + 1 * (x 0).val) % 512 = (x 0).val; omega
  · show ((256 * p.val + 128 * h.val + 1 * (x 1).val) % 256) % 128 = (x 1).val; omega

theorem cast3 {a b : ℕ} (x : (⟨3, ![1, a, b]⟩ : Shape).Idx → α) (h : (⟨3, ![1, a, b]⟩ : Shape).ShapeCasts ⟨2, ![a, b]⟩)
    (y : (⟨2, ![a, b]⟩ : Shape).Idx → α) (e : ∀ i : (⟨3, ![1, a, b]⟩ : Shape).Idx, x i = y (Shape.pair (d := ![a, b]) (i 1) (i 2))) :
    shapeCast ⟨2, ![a, b]⟩ x h = y := by
  funext i
  have hi : i = ix2 (n0 := a) (n1 := b) (i 0) (i 1) := idx2_ext rfl rfl
  exact (congrArg (shapeCast ⟨2, ![a, b]⟩ x h) hi).trans ((shapeCast_1ab_ab_apply x h (i 0) (i 1)).trans
    ((e _).trans (congrArg y (idx2_ext rfl rfl))))
end Reads

variable {F : FTy → Type}

theorem casts_slot : S1x1024x512.ShapeCasts S1024x512 := by decide

theorem slotR_read (k : Fin 3) (a : Vec F S1024x512 .bf16) : (slot bufR k).view.read (Elt F) (slot3 a) = a := by
  refine (Memref.read_squeeze_slice bufR (Rect.unit (s := S3x1024x512) ![k.val, 0, 0] S1x1024x512.size (slot_inb k)) (fun _ => rfl)
    squeezes_S1x1024x512_S1024x512 casts_slot (slot3 a)).trans (cast3 _ casts_slot a fun i => ?_)
  exact congrArg a (idx2_ext (show 0 + 1 * (i 1).val = (i 1).val by omega) (show 0 + 1 * (i 2).val = (i 2).val by omega))
theorem slotL_read (k : Fin 3) (a : Vec F S1024x512 .bf16) : (slot bufL k).view.read (Elt F) (slot3 a) = a := by
  refine (Memref.read_squeeze_slice bufL (Rect.unit (s := S3x1024x512) ![k.val, 0, 0] S1x1024x512.size (slot_inb k)) (fun _ => rfl)
    squeezes_S1x1024x512_S1024x512 casts_slot (slot3 a)).trans (cast3 _ casts_slot a fun i => ?_)
  exact congrArg a (idx2_ext (show 0 + 1 * (i 1).val = (i 1).val by omega) (show 0 + 1 * (i 2).val = (i 2).val by omega))
theorem stage_read (k : Fin 2) (a : Vec F S512x2048 .f32) : (stage k).view.read (Elt F) (stage2 a) = a := by
  refine (Memref.read_squeeze_slice stg (Rect.unit (s := S2x512x2048) ![k.val, 0, 0] S1x512x2048.size (stage_inb k)) (fun _ => rfl)
    squeezes_S1x512x2048_S512x2048 shapeCasts_S1x512x2048_S512x2048 (stage2 a)).trans (cast3 _ shapeCasts_S1x512x2048_S512x2048 a fun i => ?_)
  exact congrArg a (idx2_ext (show 0 + 1 * (i 1).val = (i 1).val by omega) (show 0 + 1 * (i 2).val = (i 2).val by omega))
theorem wob_read (k : Fin 4) (W : Vec F S2048x2048 .f32) : (wob k).view.read (Elt F) W = row512 W k := row512_read W k (wob_inb k)

/-! ## The elements each view covers -/

theorem slotR_set (k : Fin 3) : (slot bufR k).view.set = (Rect.unit (s := S3x1024x512) ![k.val, 0, 0] S1x1024x512.size (slot_inb k)).set := by
  show (((View.whole cc0_scratch2).slice _).reshape _ _).set = _
  rw [View.set_reshape, View.set_slice_whole]
theorem slotL_set (k : Fin 3) : (slot bufL k).view.set = (Rect.unit (s := S3x1024x512) ![k.val, 0, 0] S1x1024x512.size (slot_inb k)).set := by
  show (((View.whole cc0_scratch3).slice _).reshape _ _).set = _
  rw [View.set_reshape, View.set_slice_whole]
theorem stage_set (k : Fin 2) : (stage k).view.set = (Rect.unit (s := S2x512x2048) ![k.val, 0, 0] S1x512x2048.size (stage_inb k)).set := by
  show (((View.whole cc0_scratch8).slice _).reshape _ _).set = _
  rw [View.set_reshape, View.set_slice_whole]
theorem piece_set (p : Dev nD) : (piece p).view.set = (Rect.unit (s := S1024x2048) ![0, 256 * p.val] S1024x256.size (piece_inb p)).set := by
  show ((View.whole cc0_scratch6).slice _).set = _
  rw [View.set_slice_whole]
theorem wob_set (k : Fin 4) : (wob k).view.set = (Rect.unit (s := S2048x2048) ![512 * k.val, 0] S512x2048.size (wob_inb k)).set := by
  show ((View.whole main_arg7).slice _).set = _
  rw [View.set_slice_whole]

/-- A rectangle lies in another where its bounds do. -/
theorem unit_subset {s : Shape} {off size off' size' : Fin s.rank → ℕ} (inb inb')
    (h : ∀ a, off' a ≤ off a ∧ off a + size a ≤ off' a + size' a) :
    (Rect.unit (s := s) off size inb).set ⊆ (Rect.unit (s := s) off' size' inb').set := fun i hi => by
  rw [Rect.mem_set_unit] at hi ⊢
  exact fun a => ⟨(h a).1.trans (hi a).1, (hi a).2.trans_le (h a).2⟩

theorem slotR_half (k : Fin 3) (o : ℕ) (ho : o ≤ 256) (inb) :
    (bufR.access (Rect.unit (s := S3x1024x512) ![k.val, 0, o] S1x1024x256.size inb)).set ⊆ (slot bufR k).view.set := by
  rw [slotR_set]
  show ((View.whole cc0_scratch2).slice _).set ⊆ _
  rw [View.set_slice_whole]
  refine unit_subset _ _ fun a => ?_
  fin_cases a
  · exact ⟨le_rfl, le_rfl⟩
  · exact ⟨le_rfl, le_rfl⟩
  · exact ⟨Nat.zero_le _, show o + 256 ≤ 0 + 512 by omega⟩
theorem slotL_half (k : Fin 3) (o : ℕ) (ho : o ≤ 256) (inb) :
    (bufL.access (Rect.unit (s := S3x1024x512) ![k.val, 0, o] S1x1024x256.size inb)).set ⊆ (slot bufL k).view.set := by
  rw [slotL_set]
  show ((View.whole cc0_scratch3).slice _).set ⊆ _
  rw [View.set_slice_whole]
  refine unit_subset _ _ fun a => ?_
  fin_cases a
  · exact ⟨le_rfl, le_rfl⟩
  · exact ⟨le_rfl, le_rfl⟩
  · exact ⟨Nat.zero_le _, show o + 256 ≤ 0 + 512 by omega⟩
theorem stage_all (k : Fin 2) (inb) :
    (stg.access (Rect.unit (s := S2x512x2048) ![k.val, 0, 0] S1x512x2048.size inb)).set ⊆ (stage k).view.set := by
  rw [stage_set]
  exact (View.set_slice_whole cc0_scratch8 _).subset
theorem piece_all (p : Dev nD) {off : Fin 2 → ℕ} (inb) (h : off = ![0, 256 * p.val]) :
    (ogat.access (Rect.unit (s := S1024x2048) off S1024x256.size inb)).set ⊆ (piece p).view.set := by
  subst h
  rw [piece_set]
theorem piece_quad (p : Dev nD) (r h : Fin 2) {off : Fin 2 → ℕ} (inb) (hoff : off = ![512 * r.val, 256 * p.val + 128 * h.val]) :
    (ogat.access (Rect.unit (s := S1024x2048) off S512x128.size inb)).set ⊆ (piece p).view.set := by
  subst hoff
  rw [piece_set]
  show ((View.whole cc0_scratch6).slice _).set ⊆ _
  rw [View.set_slice_whole]
  have hr := r.isLt
  have hh := h.isLt
  refine unit_subset _ _ fun a => ?_
  fin_cases a
  · exact ⟨Nat.zero_le _, show 512 * r.val + 512 ≤ 0 + 1024 by omega⟩
  · exact ⟨show 256 * p.val ≤ 256 * p.val + 128 * h.val by omega, show 256 * p.val + 128 * h.val + 128 ≤ 256 * p.val + 256 by omega⟩

/-! ## Landings and stores -/

/-- What lands is what the source reads: where some contents read so through the destination, the destination holds them. -/
theorem landed {sp : Space} {s : Shape} {e : EltTy} (M : Memref sig .tc sp s e) (c : Dev nD) (f g : Buf (Elt F) (M.view.loc (c : Thread nD τ)))
    (w : s.Idx → Elt F e) (hw : M.view.read (Elt F) g = w) :
    (pts M c fullShare (M.view.write (Elt F) f w Finset.univ)) = (pts M c fullShare g) := by
  refine pointsTo_congr fun i hi => ?_
  rw [← hw, View.write_read_eq_piecewise]
  exact Finset.piecewise_eq_of_mem _ _ _ hi

/-- A store of what some contents read through the stored rectangle makes the buffer hold them there, and leaves the rest. -/
theorem stored {κ : Kind} {sp : Space} {s : Shape} {e : EltTy} (v : View sig κ sp s e) (f g : v.ty.Contents (Elt F)) (w : s.Idx → Elt F e)
    (hw : v.read (Elt F) g = w) (i : v.ty.Idx) : v.write (Elt F) f w Finset.univ i = if i ∈ v.set then g i else f i := by
  rw [← hw, View.write_read_eq_piecewise]; rfl

end Cert.Mla

end
-- ==== Proof.Steps.lean ====
/-
  One step of the protocol each, at a symbolic device: a wait on one of the kernel's own semaphores, a copy to another device,
  a local copy, a load and a store.
-/
module

public import proofs.«01_k».proof.Proof.Mem

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (I : Dev nD → In F)

/-- What every device knows throughout: the protocol of every semaphore and the order of the levels. -/
def allInv (K : GSem nD τ sig → ℕ) : sProp 𝕄 :=
  iprop((bigSep Finset.univ fun p : Dev nD × Fin 32 => cellInv EB (rd I) (K (cell p.1 p.2)) (cell p.1 p.2))
    ∗ (bigSep Finset.univ fun c : Dev nD => cellInv EB (rd I) (K (barCell c)) (barCell c)) ∗ levAts lvl lev)
instance allInv_persistent (K : GSem nD τ sig → ℕ) : BI.Persistent (allInv I K) := by unfold allInv; infer_instance

omit [FloatOps F] in
theorem pick {A : Type} [DecidableEq A] {s : Finset A} {i : A} (h : i ∈ s) (Φ : A → sProp 𝕄) : bigSep s Φ ⊢ Φ i := bigSep_elim h

theorem allInv_cell (K : GSem nD τ sig → ℕ) (c : Dev nD) (k : Fin 32) : allInv I K ⊢ cellInv EB (rd I) (K (cell c k)) (cell c k) := by
  unfold allInv
  iintro ⟨H, -, -⟩
  iapply (pick (Finset.mem_univ (c, k)) (fun p : Dev nD × Fin 32 => cellInv EB (rd I) (K (cell p.1 p.2)) (cell p.1 p.2)))
  iexact H
theorem allInv_bar (K : GSem nD τ sig → ℕ) (c : Dev nD) : allInv I K ⊢ cellInv EB (rd I) (K (barCell c)) (barCell c) := by
  unfold allInv
  iintro ⟨-, H, -⟩
  iapply (pick (Finset.mem_univ c) (fun c : Dev nD => cellInv EB (rd I) (K (barCell c)) (barCell c)))
  iexact H
theorem allInv_lev (K : GSem nD τ sig → ℕ) : allInv I K ⊢ (levAts lvl lev : sProp 𝕄) := by
  unfold allInv
  iintro ⟨-, -, H⟩; iexact H

/-- What a device waits with: its position at the start of the semaphore's round, and the credit. -/
def pend (c : Dev nD) (k : Fin 32) : sProp 𝕄 := iprop(atPos EB (cell c k) 0 ∅ 0 ∗ cred (tallyAt (cell c k) () (amtK k)))
/-- What device `c` owes from copy `n` on, whatever it has waited for. -/
def owing (c : Dev nD) (n : ℕ) : sProp 𝕄 := iprop(∃ W, owes (c : Thread nD τ) (debt c n) W)
/-- What copy `i` of device `c` takes: the position on its send semaphore, the two duties it pays, and that both are open. -/
def sendRes (c : Dev nD) (i : Fin 14) : sProp 𝕄 :=
  iprop(atPos EB (cell c (sk i)) 0 ∅ 0 ∗ dutyTok EB (cell c (sk i)) 0 0 ∗ reached EB (cell c (sk i)) 0
    ∗ dutyTok EB (cell (peer i c) (rk i)) 0 0)
/-- That the receive semaphore copy `i` of device `c` pays is open. -/
def ready (c : Dev nD) (i : Fin 14) : sProp 𝕄 := reached EB (cell (peer i c) (rk i)) 0
instance ready_persistent (c : Dev nD) (i : Fin 14) : BI.Persistent (ready (F := F) c i) := by unfold ready; infer_instance
/-- What a local copy paying semaphore `k` takes. -/
def copyRes (c : Dev nD) (k : Fin 32) : sProp 𝕄 :=
  iprop(atPos EB (cell c k) 0 ∅ 0 ∗ dutyTok EB (cell c k) 0 0 ∗ reached EB (cell c k) 0)
/-- The semaphore's one round is over. -/
def done (c : Dev nD) (k : Fin 32) : sProp 𝕄 := atPos EB (cell c k) 1 ∅ 0

theorem close_cell (K : GSem nD τ sig → ℕ) (c : Dev nD) (k : Fin 32) :
    iprop(allInv I K ∗ done (F := F) c k) ⊢ (|={Set.univ}=> semVal (cell c k) 0 : sProp 𝕄) := by
  iintro ⟨#HI, HD⟩
  iapply (Rounds.cell_close EB (rd I) (Set.mem_univ (K (cell c k))) id (R := 1) (duties_later I (cell c k)))
  isplitr; · iapply (allInv_cell I K c k); iexact HI
  unfold done; iexact HD
theorem close_bar (K : GSem nD τ sig → ℕ) (c : Dev nD) :
    iprop(allInv I K ∗ atPos EB (barCell c) 1 ∅ 0) ⊢ (|={Set.univ}=> semVal (barCell c) 0 : sProp 𝕄) := by
  iintro ⟨#HI, HD⟩
  iapply (Rounds.cell_close EB (rd I) (Set.mem_univ (K (barCell c))) id (R := 1) (duties_later I (barCell c)))
  isplitr; · iapply (allInv_bar I K c); iexact HI
  iexact HD

/-- A wait for a landing: the landing's payload comes with it. -/
theorem wait_step (K : GSem nD τ sig → ℕ) (c : Dev nD) (k : Fin 32) (n : ℕ) (hlev : ∀ i : Fin 14, n ≤ i.val → lvK k < lvK (rk i))
    {sp sp' : Space} {s : Shape} {e : EltTy} {sem : DmaSem sig} {src : Memref sig .tc sp s e} {dst : Memref sig .tc sp' s e} {h1 h2}
    (hs : (SemLoc.dma sem : SemLoc sig) = semK k) (hN : dst.view.dmaCredit = amtK k)
    {α : Type} {kk : PUnit → Prog (TpuEff nD τ sig (Elt F) Λ₀ .tc) α} {Q : α → sProp 𝕄} :
    iprop(allInv I K ∗ pend c k ∗ owing c n)
      ⊢ iprop(((owing c n ∗ done c k ∗ payK I c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst h1 h2) kk) Q) := by
  unfold pend owing
  iintro ⟨#HI, ⟨Hat, Hc⟩, ⟨%W, HO⟩⟩ Hk
  cases hs
  iapply (Rounds.wp_wait_rest_token 𝒱₀ EB (rd I) (c : Thread nD τ) none (κ := K (cell c k))
      (wpE_waitDma2_eq 𝒱₀ (c : Thread nD τ) none Set.univ) (Set.mem_univ _) () (O := debt c n) (W := W) (R := 0) (m := 0) (T := ∅)
      ((Nat.zero_add _).trans (hN.trans (expect_cell I c k).symm))) $$ [Hc HO Hat]
  · isplitr; · iapply (allInv_cell I K c k); iexact HI
    isplitl [Hc]; · rw [hN]; iexact Hc
    isplitl [HO]; · iexact HO
    isplitr
    · iapply (mayWait_debt c n (semK k) (lvK k) (lev_cell c k ()).le hlev); iapply (allInv_lev I K); iexact HI
    iexact Hat
  iintro ⟨HO, Hat, -, Hpay⟩
  ihave Hp := (Entails.of_eq (rest_cell I c k)) $$ Hpay
  iapply Hk
  isplitl [HO]; · iexists _; iexact HO
  isplitl [Hat]; · unfold done; iexact Hat
  iexact Hp

theorem amtN_lo {n : ℕ} (h : n < 14) : amtN n = (sndR.view.dmaCredit : ℕ) := if_pos h
theorem amtN_mid {n : ℕ} (h : 14 ≤ n ∧ n < 28) : amtN n = ((piece 0).view.dmaCredit : ℕ) := by
  unfold amtN; rw [if_neg (by omega), if_pos h.2]
theorem amtN_hi {n : ℕ} (h : 28 ≤ n) : amtN n = ((stage 0).view.dmaCredit : ℕ) := by
  unfold amtN; rw [if_neg (by omega), if_neg (by omega)]
theorem amt_pair (i : Fin 14) : amtK (sk i) = amtK (rk i) := by
  have h : ∀ i : Fin 14, ((sk i).val < 14 ∧ (rk i).val < 14) ∨ ((14 ≤ (sk i).val ∧ (sk i).val < 28) ∧ 14 ≤ (rk i).val ∧ (rk i).val < 28) := by
    decide
  rcases h i with h | h
  · exact (amtN_lo h.1).trans (amtN_lo h.2).symm
  · exact (amtN_mid h.1).trans (amtN_mid h.2).symm

/-- A copy to another device. -/
theorem send_step (K : GSem nD τ sig → ℕ) (c : Dev nD) (i : Fin 14) {c' : Dev nD} (hc : c' = peer i c)
    {sp sp' : Space} {s : Shape} {e : EltTy} {src : Memref sig .tc sp s e} {dst : Memref sig .tc sp' s e}
    {hsc : dst.view.ref.isScScratch = false} {sS sem : SemLoc sig} {hsrc : src.view.WordExact} {hdst : dst.view.WordExact}
    {hsem : DmaTarget.Typed sp sem (.remote (c' : Thread nD τ) dst sS hsc)}
    (hS : sS = semK (sk i)) (hR : sem = semK (rk i)) (hN : dst.view.dmaCredit = amtK (rk i))
    {q : PosShare TreeShare} {fs : Buf (Elt F) (src.view.loc (c : Thread nD τ))}
    (hpay₁ : pts src c q fs ⊢ payK I c (sk i))
    (hpay₂ : ∀ fd, pts dst (peer i c) fullShare (dst.view.write (Elt F) fd (src.view.read (Elt F) fs) Finset.univ) ⊢ payK I (peer i c) (rk i))
    {α : Type} {kk : PUnit → Prog (TpuEff nD τ sig (Elt F) Λ₀ .tc) α} {Q : α → sProp 𝕄} :
    iprop(allInv I K ∗ ready c i ∗ sendRes c i ∗ pts src c q fs ∗ room dst (peer i c) ∗ owing c i.val)
      ⊢ iprop(((pend c (sk i) ∗ owing c (i.val + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (c' : Thread nD τ) dst sS hsc) sem hsrc hdst hsem) kk) Q) := by
  subst hc hS hR
  unfold sendRes owing ready
  iintro ⟨#HI, #HrP, ⟨Hat, HtS, #HrS, HtP⟩, Hsrc, ⟨%fd, Hdst⟩, ⟨%W, HO⟩⟩ Hk
  iapply (Rounds.wp_send_pointsTo 𝒱₀ EB (rd I) (c : Thread nD τ) none (c' := (peer i c : Thread nD τ)) (src := src) (dst := dst)
      (sS := semK (sk i)) (sem := semK (rk i)) (q := q) (fs := fs) (κ₁ := K (cell c (sk i))) (κ₂ := K (cell (peer i c) (rk i)))
      (r₁ := 0) (r₂ := 0) (d₁ := 0) (d₂ := 0) (fd := fd)
      (by rw [duties_cell]; exact Finset.mem_singleton_self _) (by rw [duties_cell]; exact Finset.mem_singleton_self _)
      () () (amtK (rk i)) hN ((amount_cell I c (sk i) 0).trans (amt_pair i)) (amount_cell I (peer i c) (rk i) 0)
      (debt c (i.val + 1)) (debt_step c i) (W := W)
      (by rw [payload_cell]; exact hpay₁) (by rw [payload_cell]; exact hpay₂ fd)) $$ [Hsrc Hdst HO HtS HtP]
  · isplitr; · iapply (allInv_cell I K c (sk i)); iexact HI
    isplitr; · iapply (allInv_cell I K (peer i c) (rk i)); iexact HI
    isplitl [Hsrc]; · iexact Hsrc
    isplitl [Hdst]; · iexact Hdst
    isplitl [HO]; · iexact HO
    isplitl [HtS]; · iexact HtS
    isplitr; · iexact HrS
    isplitl [HtP]; · iexact HtP
    iexact HrP
  iintro ⟨Hcr, HO⟩
  iapply Hk
  isplitr [HO]
  · unfold pend
    isplitl [Hat]; · iexact Hat
    rw [amt_pair]; iexact Hcr
  · iexists _; iexact HO

/-- A local copy. -/
theorem copy_step (K : GSem nD τ sig → ℕ) (c : Dev nD) (k : Fin 32)
    {sp sp' : Space} {s : Shape} {e : EltTy} {src : Memref sig .tc sp s e} {dst : Memref sig .tc sp' s e} {sem : SemLoc sig}
    {hsrc : src.view.WordExact} {hdst : dst.view.WordExact} {hsem : DmaTarget.Typed (nD := nD) sp sem (DmaTarget.here (p := (Proc.tc : Proc τ)) dst)}
    (hR : sem = semK k) (hN : dst.view.dmaCredit = amtK k)
    {q : PosShare TreeShare} {fs : Buf (Elt F) (src.view.loc (c : Thread nD τ))}
    (hpay : ∀ fd, iprop(pts dst c fullShare (dst.view.write (Elt F) fd (src.view.read (Elt F) fs) Finset.univ) ∗ pts src c q fs) ⊢ payK I c k)
    {α : Type} {kk : PUnit → Prog (TpuEff nD τ sig (Elt F) Λ₀ .tc) α} {Q : α → sProp 𝕄} :
    iprop(allInv I K ∗ copyRes c k ∗ pts src c q fs ∗ room dst c)
      ⊢ iprop((pend c k -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.here dst) sem hsrc hdst hsem) kk) Q) := by
  subst hR
  unfold copyRes
  iintro ⟨#HI, ⟨Hat, HtS, #HrS⟩, Hsrc, ⟨%fd, Hdst⟩⟩ Hk
  iapply (Rounds.wp_copy_pointsTo 𝒱₀ EB (rd I) (c : Thread nD τ) none (src := src) (dst := dst) (sem := semK k) (q := q) (fs := fs)
      (fd := fd) (r := 0) (d := 0) (κ := K (cell c k))
      (by rw [duties_cell]; exact Finset.mem_singleton_self _) () (amtK k) hN (amount_cell I c k 0)
      (by rw [payload_cell]; exact hpay fd)) $$ [Hsrc Hdst HtS]
  · isplitr; · iapply (allInv_cell I K c k); iexact HI
    isplitl [Hsrc]; · iexact Hsrc
    isplitl [Hdst]; · iexact Hdst
    isplitl [HtS]; · iexact HtS
    iexact HrS
  iintro Hcr
  iapply Hk
  unfold pend
  isplitl [Hat]; · iexact Hat
  iexact Hcr

omit [FloatOps F] in
/-- A load, its value named. -/
theorem load_step [FloatOps F] (c : Dev nD) {sp : CoreSpace} {s : Shape} {e : EltTy} (M : Memref sig .tc sp s e) {r : Rect s} {hl : M.view.LoadsAt r.toLoadRect}
    {S : Finset (Idx (M.view.loc (c : Thread nD τ)))} {q : PosShare TreeShare} {f : Buf (Elt F) (M.view.loc (c : Thread nD τ))}
    (hS : (M.access r).set ⊆ S) {w : r.shape.Idx → Elt F e} (hw : M.view.readAt (Elt F) r.toLoadRect f = w)
    {α : Type} {kk : (r.shape.Idx → Elt F e) → Prog (TpuEff nD τ sig (Elt F) Λ₀ .tc) α} {Q : α → sProp 𝕄} :
    (M.view.loc (c : Thread nD τ) ↦[S]{q} f : sProp 𝕄)
      ⊢ iprop(((M.view.loc (c : Thread nD τ) ↦[S]{q} f) -∗ wp frame (wpE (defs₀ (F := F)) 𝒱₀ (c : Thread nD τ) none) Set.univ (kk w) Q)
          -∗ wp frame (wpE (defs₀ (F := F)) 𝒱₀ (c : Thread nD τ) none) Set.univ (.op (.load M r.toLoadRect hl) kk) Q) := by
  subst hw
  refine wp_load 𝒱₀ (c : Thread nD τ) none Set.univ (m := M) (S := S) (q := q) (f := f) ?_
  refine Finset.Subset.trans ?_ hS
  rw [show (M.access r).set = M.view.setOn r.set from by show (M.view.slice r).set = _; rw [View.set_slice]; rfl]

/-- A store of what `g` reads through the stored rectangle, into elements that then hold `g` there and are as before elsewhere. -/
theorem store_step (c : Dev nD) {sp : CoreSpace} {s : Shape} {e : EltTy} (M : Memref sig .tc sp s e) {r : Rect s} {w : r.shape.Idx → Elt F e} {hx hm}
    {S : Finset (Idx ((M.access r).loc (c : Thread nD τ)))} {f : Buf (Elt F) ((M.access r).loc (c : Thread nD τ))}
    (hS : (M.access r).set ⊆ S) (g : Buf (Elt F) ((M.access r).loc (c : Thread nD τ))) (hw : ∀ i ∈ S, (M.access r).write (Elt F) f w Finset.univ i = g i)
    {α : Type} {kk : PUnit → Prog (TpuEff nD τ sig (Elt F) Λ₀ .tc) α} {Q : α → sProp 𝕄} :
    ((M.access r).loc (c : Thread nD τ) ↦[S]{fullShare} f : sProp 𝕄)
      ⊢ iprop((((M.access r).loc (c : Thread nD τ) ↦[S]{fullShare} g) -∗ wp frame (wpE (defs₀ (F := F)) 𝒱₀ (c : Thread nD τ) none) Set.univ (kk ⟨⟩) Q)
          -∗ wp frame (wpE (defs₀ (F := F)) 𝒱₀ (c : Thread nD τ) none) Set.univ (.op (.store M r w Finset.univ hx hm) kk) Q) := by
  iintro H Hk
  iapply (wp_store 𝒱₀ (c : Thread nD τ) none Set.univ (m := M) (r := r) (Mk := Finset.univ) (S := S) (f := f) hS) $$ H
  iintro H
  iapply Hk
  iapply (Entails.of_eq (pointsTo_congr hw)) $$ H

end Cert.Mla

end
-- ==== Proof.Access.lean ====
/-
  The kernel's accesses, each as a step with its value named: what the windows, the landing slots, the gathering buffer and
  the output weights read as, and what a store of one half, one quarter or one block of rows leaves.
-/
module

public import proofs.«01_k».proof.Proof.Steps

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Running a piece of the body on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A piece of the body at the buffers the call gives it. -/
abbrev ap {β : Sort _} (f : ∀ (arg0 : Memref sig .tc .vmem S1024x2048 .f32) (harg0 : arg0.IsWhole) (arg1 : Memref sig .tc .vmem S2048x128 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .vmem S2048x32 .bf16) (harg6 : arg6.IsWhole) (arg7 : Memref sig .tc .hbm S2048x2048 .f32) (harg7 : arg7.IsWhole) (arg8 : Memref sig .tc .vmem S1024x2048 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S3x1024x512 .bf16) (harg11 : arg11.IsWhole) (arg12 : Memref sig .tc .vmem S3x1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x2048 .bf16) (harg15 : arg15.IsWhole) (arg16 : Memref sig .tc .vmem S2048x2048 .bf16) (harg16 : arg16.IsWhole) (arg17 : Memref sig .tc .vmem S2x512x2048 .f32) (harg17 : arg17.IsWhole) (arg18 : DmaSems sig S3) (arg19 : DmaSems sig S3) (arg20 : DmaSems sig S3) (arg21 : DmaSems sig S3) (arg22 : DmaSems sig S1) (arg23 : DmaSems sig S1) (arg24 : DmaSems sig S3) (arg25 : DmaSems sig S3) (arg26 : DmaSems sig S3) (arg27 : DmaSems sig S3) (arg28 : DmaSems sig S1) (arg29 : DmaSems sig S1) (arg30 : DmaSems sig S4), β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole main_arg7) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21

/-! ## The buffers of the windows -/

abbrev wX : Memref sig .tc .vmem S1024x2048 .f32 := Memref.whole cc0_stg0_0
abbrev wWd : Memref sig .tc .vmem S2048x128 .bf16 := Memref.whole cc0_stg1_0
abbrev wUk : Memref sig .tc .vmem S128x2048 .bf16 := Memref.whole cc0_stg2_0
abbrev wUv : Memref sig .tc .vmem S128x2048 .bf16 := Memref.whole cc0_stg3_0
abbrev wWq : Memref sig .tc .vmem S2048x256 .bf16 := Memref.whole cc0_stg4_0
abbrev wWqr : Memref sig .tc .vmem S2048x64 .bf16 := Memref.whole cc0_stg5_0
abbrev wWkr : Memref sig .tc .vmem S2048x32 .bf16 := Memref.whole cc0_stg6_0
abbrev wOut : Memref sig .tc .vmem S1024x2048 .f32 := Memref.whole cc0_stg7_0

/-! ## Where the accesses lie -/

/-- How far to the right the block lies that is added at step `r`, or passed on at hop `r`. -/
def sp7 : Fin 7 → ℕ := ![7, 1, 6, 2, 5, 3, 4]
theorem off7_eq : ∀ (d : Dev nD) (r : Fin 4), k0_off7 d (k0_off7_at r) = ![0, 256 * ((d.val + (![7, 1, 6, 2] : Fin 4 → ℕ) r) % 8)] := by decide +kernel
theorem off8_eq : ∀ (d : Dev nD) (r : Fin 7), k0_off8 d (k0_off8_at r) = ![0, 256 * ((d.val + sp7 r) % 8)] := by decide +kernel
theorem off9_eq : ∀ (d : Dev nD) (r : Fin 7), k0_off9 d (k0_off9_at r) = ![256 * ((d.val + sp7 r) % 8), 0] := by decide +kernel
theorem off6_eq : ∀ d : Dev nD, k0_off6 d = ![256 * ((d.val + 0) % 8), 0] := by decide +kernel

/-! ## Loads -/

omit [FloatOps F] in
theorem access_sub {sp : CoreSpace} {s : Shape} {e : EltTy} (M : Memref sig .tc sp s e) (r : Rect s) : (M.access r).set ⊆ M.view.set := by
  show (M.view.slice r).set ⊆ _
  rw [View.set_slice]
  exact View.setOn_subset_set _ _

/-- A load from a view held whole. -/
theorem load_of (c : Dev nD) {sp : CoreSpace} {s : Shape} {e : EltTy} (M : Memref sig .tc sp s e) {r : Rect s} {hl : M.view.LoadsAt r.toLoadRect}
    {q : PosShare TreeShare} {f : Buf (Elt F) (M.view.loc (c : Thread nD τ))} (w : r.shape.Idx → Elt F e) (hw : M.view.readAt (Elt F) r.toLoadRect f = w)
    {α : Type} {kk : (r.shape.Idx → Elt F e) → Prog (TpuEff nD τ sig (Elt F) Λ₀ .tc) α} {Q : α → sProp 𝕄} :
    (pts M c q f : sProp 𝕄) ⊢ iprop((pts M c q f -∗ run c (kk w) Q) -∗ run c (.op (.load M r.toLoadRect hl) kk) Q) :=
  load_step c M (access_sub M r) hw

/-- A load whose value is not used. -/
theorem load_any (c : Dev nD) {sp : CoreSpace} {s : Shape} {e : EltTy} (M : Memref sig .tc sp s e) {r : Rect s} {hl : M.view.LoadsAt r.toLoadRect}
    {α : Type} {kk : (r.shape.Idx → Elt F e) → Prog (TpuEff nD τ sig (Elt F) Λ₀ .tc) α} {Q : α → sProp 𝕄} :
    (room M c : sProp 𝕄) ⊢ iprop((∀ w, room M c -∗ run c (kk w) Q) -∗ run c (.op (.load M r.toLoadRect hl) kk) Q) := by
  iintro ⟨%f, H⟩ Hk
  iapply (load_of c M _ rfl) $$ H
  iintro H
  iapply Hk
  iexists f; iexact H

variable (I : Dev nD → In F)

theorem load_uk (c : Dev nD) (n : Fin 8) {hl : wUk.view.LoadsAt (Rect.unit (s := S128x2048) (k0_off1 c (BitVec.ofNat 32 n.val)) S128x256.size (k0_off1_inb c n)).toLoadRect}
    {α : Type} {kk : Vec F S128x256 .bf16 → Prog (TpuEff nD τ sig (Elt F) Λ₀ .tc) α} {Q : α → sProp 𝕄} :
    (pts wUk c fullShare (I c).uk : sProp 𝕄) ⊢ iprop((pts wUk c fullShare (I c).uk -∗ run c (kk (ukC I c n.val)) Q)
      -∗ run c (.op (.load wUk (Rect.unit (s := S128x2048) (k0_off1 c (BitVec.ofNat 32 n.val)) S128x256.size (k0_off1_inb c n)).toLoadRect hl) kk) Q) :=
  load_of c wUk _ (chunk_read _ _ (k0_off1_inb c n) (k0_off1_eq c n))
theorem load_uv (c : Dev nD) (n : Fin 8) {hl : wUv.view.LoadsAt (Rect.unit (s := S128x2048) (k0_off1 c (BitVec.ofNat 32 n.val)) S128x256.size (k0_off1_inb c n)).toLoadRect}
    {α : Type} {kk : Vec F S128x256 .bf16 → Prog (TpuEff nD τ sig (Elt F) Λ₀ .tc) α} {Q : α → sProp 𝕄} :
    (pts wUv c fullShare (I c).uv : sProp 𝕄) ⊢ iprop((pts wUv c fullShare (I c).uv -∗ run c (kk (uvC I c n.val)) Q)
      -∗ run c (.op (.load wUv (Rect.unit (s := S128x2048) (k0_off1 c (BitVec.ofNat 32 n.val)) S128x256.size (k0_off1_inb c n)).toLoadRect hl) kk) Q) :=
  load_of c wUv _ (chunk_read _ _ (k0_off1_inb c n) (k0_off1_eq c n))

/-! ### From the landing slots -/

theorem load_rl (c : Dev nD) (k : Fin 3) (a b : Vec F S1024x256 .bf16) {inb hl}
    {α : Type} {kk : Vec F S1x1024x256 .bf16 → Prog (TpuEff nD τ sig (Elt F) Λ₀ .tc) α} {Q : α → sProp 𝕄} :
    (pts (slot bufR k) c fullShare (slot3 (halves a b)) : sProp 𝕄)
      ⊢ iprop((pts (slot bufR k) c fullShare (slot3 (halves a b)) -∗ run c (kk (up a)) Q)
        -∗ run c (.op (.load bufR (Rect.unit (s := S3x1024x512) ![k.val, 0, 0] S1x1024x256.size inb).toLoadRect hl) kk) Q) :=
  load_step (F := F) c bufR (f := slot3 (halves a b)) (w := up a) (slotR_half k 0 (by decide) inb) (slot3_l a b k.val inb)
theorem load_rr (c : Dev nD) (k : Fin 3) (a b : Vec F S1024x256 .bf16) {inb hl}
    {α : Type} {kk : Vec F S1x1024x256 .bf16 → Prog (TpuEff nD τ sig (Elt F) Λ₀ .tc) α} {Q : α → sProp 𝕄} :
    (pts (slot bufR k) c fullShare (slot3 (halves a b)) : sProp 𝕄)
      ⊢ iprop((pts (slot bufR k) c fullShare (slot3 (halves a b)) -∗ run c (kk (up b)) Q)
        -∗ run c (.op (.load bufR (Rect.unit (s := S3x1024x512) ![k.val, 0, 256] S1x1024x256.size inb).toLoadRect hl) kk) Q) :=
  load_step (F := F) c bufR (f := slot3 (halves a b)) (w := up b) (slotR_half k 256 (by decide) inb) (slot3_r a b k.val inb)
theorem load_ll (c : Dev nD) (k : Fin 3) (a b : Vec F S1024x256 .bf16) {inb hl}
    {α : Type} {kk : Vec F S1x1024x256 .bf16 → Prog (TpuEff nD τ sig (Elt F) Λ₀ .tc) α} {Q : α → sProp 𝕄} :
    (pts (slot bufL k) c fullShare (slot3 (halves a b)) : sProp 𝕄)
      ⊢ iprop((pts (slot bufL k) c fullShare (slot3 (halves a b)) -∗ run c (kk (up a)) Q)
        -∗ run c (.op (.load bufL (Rect.unit (s := S3x1024x512) ![k.val, 0, 0] S1x1024x256.size inb).toLoadRect hl) kk) Q) :=
  load_step (F := F) c bufL (f := slot3 (halves a b)) (w := up a) (slotL_half k 0 (by decide) inb) (slot3_l a b k.val inb)
theorem load_lr (c : Dev nD) (k : Fin 3) (a b : Vec F S1024x256 .bf16) {inb hl}
    {α : Type} {kk : Vec F S1x1024x256 .bf16 → Prog (TpuEff nD τ sig (Elt F) Λ₀ .tc) α} {Q : α → sProp 𝕄} :
    (pts (slot bufL k) c fullShare (slot3 (halves a b)) : sProp 𝕄)
      ⊢ iprop((pts (slot bufL k) c fullShare (slot3 (halves a b)) -∗ run c (kk (up b)) Q)
        -∗ run c (.op (.load bufL (Rect.unit (s := S3x1024x512) ![k.val, 0, 256] S1x1024x256.size inb).toLoadRect hl) kk) Q) :=
  load_step (F := F) c bufL (f := slot3 (halves a b)) (w := up b) (slotL_half k 256 (by decide) inb) (slot3_r a b k.val inb)

theorem load_stage (c : Dev nD) (k : Fin 2) (a : Vec F S512x2048 .f32) {inb hl}
    {α : Type} {kk : Vec F S1x512x2048 .f32 → Prog (TpuEff nD τ sig (Elt F) Λ₀ .tc) α} {Q : α → sProp 𝕄} :
    (pts (stage k) c fullShare (stage2 a) : sProp 𝕄)
      ⊢ iprop((pts (stage k) c fullShare (stage2 a) -∗ run c (kk (up512 a)) Q)
        -∗ run c (.op (.load stg (Rect.unit (s := S2x512x2048) ![k.val, 0, 0] S1x512x2048.size inb).toLoadRect hl) kk) Q) :=
  load_step (F := F) c stg (f := stage2 a) (w := up512 a) (stage_all k inb) (stage2_read a k.val inb)

/-- A block of the gathered attention outputs. -/
theorem load_piece (c p : Dev nD) {q : PosShare TreeShare} {off : Fin 2 → ℕ} (h : off = ![0, 256 * p.val]) {inb hl}
    {α : Type} {kk : Vec F S1024x256 .bf16 → Prog (TpuEff nD τ sig (Elt F) Λ₀ .tc) α} {Q : α → sProp 𝕄} :
    (pts (piece p) c q (OG I) : sProp 𝕄)
      ⊢ iprop((pts (piece p) c q (OG I) -∗ run c (kk (op I p)) Q)
        -∗ run c (.op (.load ogat (Rect.unit (s := S1024x2048) off S1024x256.size inb).toLoadRect hl) kk) Q) :=
  load_step (F := F) c ogat (f := OG I) (w := op I p) (piece_all p inb h) (gather_read (op I) p inb h)

/-- A block of rows of the output weights. -/
theorem load_wo (c : Dev nD) (n : ℕ) {off : Fin 2 → ℕ} (h : off = ![256 * ((c.val + n) % 8), 0]) {inb hl}
    {α : Type} {kk : Vec F S256x2048 .bf16 → Prog (TpuEff nD τ sig (Elt F) Λ₀ .tc) α} {Q : α → sProp 𝕄} :
    (pts wog c fullShare (woC I c) : sProp 𝕄)
      ⊢ iprop((pts wog c fullShare (woC I c) -∗ run c (kk (wr I c n)) Q)
        -∗ run c (.op (.load wog (Rect.unit (s := S2048x2048) off S256x2048.size inb).toLoadRect hl) kk) Q) :=
  load_of (F := F) c wog (r := Rect.unit (s := S2048x2048) off S256x2048.size inb) (f := woC I c) (wr I c n) (rowBlk_read (woC I c) _ inb h)

/-- Loading and storing the whole result. -/
theorem load_out (c : Dev nD) (f : Vec F S1024x2048 .f32) {inb hl}
    {α : Type} {kk : Vec F S1024x2048 .f32 → Prog (TpuEff nD τ sig (Elt F) Λ₀ .tc) α} {Q : α → sProp 𝕄} :
    (pts wOut c fullShare f : sProp 𝕄)
      ⊢ iprop((pts wOut c fullShare f -∗ run c (kk f) Q)
        -∗ run c (.op (.load wOut (Rect.unit (s := S1024x2048) ![0, 0] S1024x2048.size inb).toLoadRect hl) kk) Q) :=
  load_of (F := F) c wOut (r := Rect.unit (s := S1024x2048) ![0, 0] S1024x2048.size inb) (f := f) f (Memref.readAt_unit_zero (Elt F) cc0_stg7_0 (by decide) inb f)
theorem store_out (c : Dev nD) (w : Vec F S1024x2048 .f32) {inb hx hm}
    {α : Type} {kk : PUnit → Prog (TpuEff nD τ sig (Elt F) Λ₀ .tc) α} {Q : α → sProp 𝕄} :
    (room wOut c : sProp 𝕄)
      ⊢ iprop((pts wOut c fullShare w -∗ run c (kk ⟨⟩) Q)
        -∗ run c (.op (.store wOut (Rect.unit (s := S1024x2048) ![0, 0] S1024x2048.size inb) w Finset.univ hx hm) kk) Q) := by
  iintro ⟨%f, H⟩ Hk
  iapply (store_step c wOut (r := Rect.unit (s := S1024x2048) ![0, 0] S1024x2048.size inb) (access_sub wOut _) w (fun i _ => congrFun (Memref.write_access_unit_zero_univ (Elt F) cc0_stg7_0 (by decide) inb f w) i)) $$ H
  iexact Hk

/-! ## Stores of one half of a buffer to be sent -/

omit [FloatOps F] in
theorem fill_l (a : Vec F S1024x256 .bf16) (f : Vec F S1024x512 .bf16) (inb inb') (i : S1024x512.Idx) :
    (if i ∈ (Rect.unit (s := S1024x512) ![0, 0] S1024x256.size inb).set
      then halves a (fun x => f ((Rect.unit (s := S1024x512) ![0, 256] S1024x256.size inb').emb x)) i else f i)
    = halves a (fun x => f ((Rect.unit (s := S1024x512) ![0, 256] S1024x256.size inb').emb x)) i := by
  split
  · rfl
  · rename_i h
    have h1 : ¬ (i 1).val < 256 := fun h1 => h (by
      rw [Rect.mem_set_unit]; intro b; fin_cases b
      · exact ⟨Nat.zero_le _, show (i 0).val < 0 + 1024 by have : (i 0).val < 1024 := (i 0).isLt; omega⟩
      · exact ⟨Nat.zero_le _, show (i 1).val < 0 + 256 by omega⟩)
    refine Eq.symm ((halves_of_ge _ _ _ h1).trans (congrArg f (idx2_ext ?_ ?_)))
    · show 0 + 1 * (i 0).val = (i 0).val; omega
    · show 256 + 1 * ((i 1).val - 256) = (i 1).val; omega
omit [FloatOps F] in
theorem fill_r (a b b' : Vec F S1024x256 .bf16) (inb) (i : S1024x512.Idx) :
    (if i ∈ (Rect.unit (s := S1024x512) ![0, 256] S1024x256.size inb).set then halves a b i else halves a b' i) = halves a b i := by
  split
  · rfl
  · rename_i h
    have h1 : (i 1).val < 256 := by
      by_contra h1
      exact h (by
        rw [Rect.mem_set_unit]; intro b; fin_cases b
        · exact ⟨Nat.zero_le _, show (i 0).val < 0 + 1024 by have : (i 0).val < 1024 := (i 0).isLt; omega⟩
        · exact ⟨show 256 ≤ (i 1).val by omega, show (i 1).val < 256 + 256 by have : (i 1).val < 512 := (i 1).isLt; omega⟩)
    exact (halves_of_lt _ _ _ h1).trans (halves_of_lt _ _ _ h1).symm

/-- A store through a rectangle of a whole buffer, of what `g` holds there, leaves `g` where `g` is the old contents elsewhere. -/
theorem write_whole {κ : Kind} (Val : EltTy → Type) (b : Ref sig κ) (r : Rect b.ty.shape) (f g : b.ty.Contents Val)
    (w : r.shape.Idx → Val b.ty.elt) (hw : (fun x => g (r.emb x)) = w) (i : b.ty.shape.Idx) (h : (if i ∈ r.set then g i else f i) = g i) :
    ((Memref.whole b).access r : View sig κ _ _ _).write Val f w Finset.univ i = g i := by
  subst hw
  have hv : ((Memref.whole b).access r : View sig κ _ _ _).write Val f (fun x => g (r.emb x)) Finset.univ i
      = if i ∈ ((Memref.whole b).access r : View sig κ _ _ _).set then g i else f i := by
    rw [show (fun x => g (r.emb x)) = ((Memref.whole b).access r : View sig κ _ _ _).read Val g from rfl, View.write_read_eq_piecewise]
    rfl
  refine hv.trans ?_
  rw [show ((Memref.whole b).access r : View sig κ _ _ _).set = r.set from View.set_slice_whole b r]
  exact h

theorem inb_r : ∀ b, (![0, 256] : Fin 2 → ℕ) b + S1024x256.size b ≤ S1024x512.size b := by decide

theorem store_cd_l (c : Dev nD) (a : Vec F S1024x256 .bf16) {inb hx hm}
    {α : Type} {kk : PUnit → Prog (TpuEff nD τ sig (Elt F) Λ₀ .tc) α} {Q : α → sProp 𝕄} :
    (room cdS c : sProp 𝕄)
      ⊢ iprop((∀ b', pts cdS c fullShare (halves a b') -∗ run c (kk ⟨⟩) Q)
        -∗ run c (.op (.store cdS (Rect.unit (s := S1024x512) ![0, 0] S1024x256.size inb) a Finset.univ hx hm) kk) Q) := by
  iintro ⟨%f, H⟩ Hk
  iapply (store_step c cdS (r := Rect.unit (s := S1024x512) ![0, 0] S1024x256.size inb) (access_sub cdS _) (halves a (fun x => f ((Rect.unit (s := S1024x512) ![0, 256] S1024x256.size inb_r).emb x)))
    (fun i _ => write_whole (Elt F) cc0_scratch4 (Rect.unit (s := S1024x512) ![0, 0] S1024x256.size inb) f (halves a _) a (halves_l a _ inb) i (fill_l a f inb inb_r i))) $$ H
  iintro H
  iapply Hk $$ H
theorem store_cd_r (c : Dev nD) (a b b' : Vec F S1024x256 .bf16) {inb hx hm}
    {α : Type} {kk : PUnit → Prog (TpuEff nD τ sig (Elt F) Λ₀ .tc) α} {Q : α → sProp 𝕄} :
    (pts cdS c fullShare (halves a b') : sProp 𝕄)
      ⊢ iprop((pts cdS c fullShare (halves a b) -∗ run c (kk ⟨⟩) Q)
        -∗ run c (.op (.store cdS (Rect.unit (s := S1024x512) ![0, 256] S1024x256.size inb) b Finset.univ hx hm) kk) Q) := by
  iintro H Hk
  iapply (store_step c cdS (r := Rect.unit (s := S1024x512) ![0, 256] S1024x256.size inb) (access_sub cdS _) (halves a b)
    (fun i _ => write_whole (Elt F) cc0_scratch4 (Rect.unit (s := S1024x512) ![0, 256] S1024x256.size inb) (halves a b') (halves a b) b (halves_r a b inb) i (fill_r a b b' inb i))) $$ H
  iexact Hk
theorem store_sr_l (c : Dev nD) (a : Vec F S1024x256 .bf16) {inb hx hm}
    {α : Type} {kk : PUnit → Prog (TpuEff nD τ sig (Elt F) Λ₀ .tc) α} {Q : α → sProp 𝕄} :
    (room sndR c : sProp 𝕄)
      ⊢ iprop((∀ b', pts sndR c fullShare (halves a b') -∗ run c (kk ⟨⟩) Q)
        -∗ run c (.op (.store sndR (Rect.unit (s := S1024x512) ![0, 0] S1024x256.size inb) a Finset.univ hx hm) kk) Q) := by
  iintro ⟨%f, H⟩ Hk
  iapply (store_step c sndR (r := Rect.unit (s := S1024x512) ![0, 0] S1024x256.size inb) (access_sub sndR _) (halves a (fun x => f ((Rect.unit (s := S1024x512) ![0, 256] S1024x256.size inb_r).emb x)))
    (fun i _ => write_whole (Elt F) cc0_scratch0 (Rect.unit (s := S1024x512) ![0, 0] S1024x256.size inb) f (halves a _) a (halves_l a _ inb) i (fill_l a f inb inb_r i))) $$ H
  iintro H
  iapply Hk $$ H
theorem store_sr_r (c : Dev nD) (a b b' : Vec F S1024x256 .bf16) {inb hx hm}
    {α : Type} {kk : PUnit → Prog (TpuEff nD τ sig (Elt F) Λ₀ .tc) α} {Q : α → sProp 𝕄} :
    (pts sndR c fullShare (halves a b') : sProp 𝕄)
      ⊢ iprop((pts sndR c fullShare (halves a b) -∗ run c (kk ⟨⟩) Q)
        -∗ run c (.op (.store sndR (Rect.unit (s := S1024x512) ![0, 256] S1024x256.size inb) b Finset.univ hx hm) kk) Q) := by
  iintro H Hk
  iapply (store_step c sndR (r := Rect.unit (s := S1024x512) ![0, 256] S1024x256.size inb) (access_sub sndR _) (halves a b)
    (fun i _ => write_whole (Elt F) cc0_scratch0 (Rect.unit (s := S1024x512) ![0, 256] S1024x256.size inb) (halves a b') (halves a b) b (halves_r a b inb) i (fill_r a b b' inb i))) $$ H
  iexact Hk
theorem store_sl_l (c : Dev nD) (a : Vec F S1024x256 .bf16) {inb hx hm}
    {α : Type} {kk : PUnit → Prog (TpuEff nD τ sig (Elt F) Λ₀ .tc) α} {Q : α → sProp 𝕄} :
    (room sndL c : sProp 𝕄)
      ⊢ iprop((∀ b', pts sndL c fullShare (halves a b') -∗ run c (kk ⟨⟩) Q)
        -∗ run c (.op (.store sndL (Rect.unit (s := S1024x512) ![0, 0] S1024x256.size inb) a Finset.univ hx hm) kk) Q) := by
  iintro ⟨%f, H⟩ Hk
  iapply (store_step c sndL (r := Rect.unit (s := S1024x512) ![0, 0] S1024x256.size inb) (access_sub sndL _) (halves a (fun x => f ((Rect.unit (s := S1024x512) ![0, 256] S1024x256.size inb_r).emb x)))
    (fun i _ => write_whole (Elt F) cc0_scratch1 (Rect.unit (s := S1024x512) ![0, 0] S1024x256.size inb) f (halves a _) a (halves_l a _ inb) i (fill_l a f inb inb_r i))) $$ H
  iintro H
  iapply Hk $$ H
theorem store_sl_r (c : Dev nD) (a b b' : Vec F S1024x256 .bf16) {inb hx hm}
    {α : Type} {kk : PUnit → Prog (TpuEff nD τ sig (Elt F) Λ₀ .tc) α} {Q : α → sProp 𝕄} :
    (pts sndL c fullShare (halves a b') : sProp 𝕄)
      ⊢ iprop((pts sndL c fullShare (halves a b) -∗ run c (kk ⟨⟩) Q)
        -∗ run c (.op (.store sndL (Rect.unit (s := S1024x512) ![0, 256] S1024x256.size inb) b Finset.univ hx hm) kk) Q) := by
  iintro H Hk
  iapply (store_step c sndL (r := Rect.unit (s := S1024x512) ![0, 256] S1024x256.size inb) (access_sub sndL _) (halves a b)
    (fun i _ => write_whole (Elt F) cc0_scratch1 (Rect.unit (s := S1024x512) ![0, 256] S1024x256.size inb) (halves a b') (halves a b) b (halves_r a b inb) i (fill_r a b b' inb i))) $$ H
  iexact Hk

/-! ## Stores of a block of rows, and of a quarter of a block of columns -/

omit [FloatOps F] in
theorem rows4_update {α : Type} (A : Fin 4 → S512x2048.Idx → α) (k : Fin 4) (w : S512x2048.Idx → α) (inb) (i : S2048x2048.Idx) :
    (if i ∈ (Rect.unit (s := S2048x2048) ![512 * k.val, 0] S512x2048.size inb).set then rows4 (Function.update A k w) i else rows4 A i)
      = rows4 (Function.update A k w) i := by
  split
  · rfl
  · rename_i h
    have h0 : (i 0).val < 2048 := (i 0).isLt
    have hne : (⟨(i 0).val / 512, by omega⟩ : Fin 4) ≠ k := fun e => h (by
      have e' : (i 0).val / 512 = k.val := congrArg Fin.val e
      rw [Rect.mem_set_unit]; intro b; fin_cases b
      · exact ⟨show 512 * k.val ≤ (i 0).val by omega, show (i 0).val < 512 * k.val + 512 by omega⟩
      · exact ⟨Nat.zero_le _, show (i 1).val < 0 + 2048 by have : (i 1).val < 2048 := (i 1).isLt; omega⟩)
    unfold rows4
    rw [Function.update_of_ne hne]

/-- A store of a block of 512 rows of the output weights. -/
theorem store_wo (c : Dev nD) (A : Fin 4 → Vec F S512x2048 .bf16) (k : Fin 4) (w : Vec F S512x2048 .bf16) {inb hx hm}
    {α : Type} {kk : PUnit → Prog (TpuEff nD τ sig (Elt F) Λ₀ .tc) α} {Q : α → sProp 𝕄} :
    (pts wog c fullShare (rows4 A) : sProp 𝕄)
      ⊢ iprop((pts wog c fullShare (rows4 (Function.update A k w)) -∗ run c (kk ⟨⟩) Q)
        -∗ run c (.op (.store wog (Rect.unit (s := S2048x2048) ![512 * k.val, 0] S512x2048.size inb) w Finset.univ hx hm) kk) Q) := by
  iintro H Hk
  iapply (store_step c wog (r := Rect.unit (s := S2048x2048) ![512 * k.val, 0] S512x2048.size inb) (access_sub wog _) (rows4 (Function.update A k w))
    (fun i _ => write_whole (Elt F) cc0_scratch7 (Rect.unit (s := S2048x2048) ![512 * k.val, 0] S512x2048.size inb) (rows4 A) (rows4 (Function.update A k w)) w
      ((rows4_read _ k inb rfl).trans (Function.update_self k w A)) i (rows4_update A k w inb i))) $$ H
  iexact Hk

omit [FloatOps F] in
/-- Any contents are four blocks of rows. -/
theorem room_wo (c : Dev nD) : (room wog c : sProp 𝕄) ⊢ iprop(∃ A : Fin 4 → Vec F S512x2048 .bf16, pts wog c fullShare (rows4 A)) := by
  iintro ⟨%f, H⟩
  iexists (fun k => row512 f k)
  iapply (Entails.of_eq (pointsTo_congr fun i _ => ?_)) $$ H
  show f i = f _
  refine congrArg f (idx2_ext ?_ ?_)
  · show (i 0).val = 512 * ((i 0).val / 512) + (i 0).val % 512; omega
  · rfl

/-- The quarters of a device's own block, one replaced. -/
def upd (A : Fin 2 → Fin 2 → Vec F S512x128 .bf16) (r h : Fin 2) (w : Vec F S512x128 .bf16) : Fin 2 → Fin 2 → Vec F S512x128 .bf16 :=
  fun r' h' => if r' = r ∧ h' = h then w else A r' h'
omit [FloatOps F] in
theorem quads_update (A : Fin 2 → Fin 2 → Vec F S512x128 .bf16) (p : Dev nD) (r h : Fin 2) (w : Vec F S512x128 .bf16) (inb) (i : S1024x2048.Idx)
    (hi : i ∈ (piece p).view.set) :
    (if i ∈ (Rect.unit (s := S1024x2048) ![512 * r.val, 256 * p.val + 128 * h.val] S512x128.size inb).set
      then gather (fun _ => quads (upd A r h w)) i else gather (fun _ => quads A) i) = gather (fun _ => quads (upd A r h w)) i := by
  split
  · rfl
  · rename_i hn
    rw [piece_set, Rect.mem_set_unit] at hi
    have h1 : 256 * p.val ≤ (i 1).val ∧ (i 1).val < 256 * p.val + 256 := hi 1
    have h0 : (i 0).val < 1024 := (i 0).isLt
    have hr := r.isLt
    have hh := h.isLt
    refine (congrFun (if_neg (c := (_ ∧ _)) (t := w) (e := A _ _) fun e => hn ?_) _).symm
    have e0 : (i 0).val / 512 = r.val := congrArg Fin.val e.1
    have e1 : ((i 1).val % 256) / 128 = h.val := congrArg Fin.val e.2
    rw [Rect.mem_set_unit]; intro b; fin_cases b
    · exact ⟨show 512 * r.val ≤ (i 0).val by omega, show (i 0).val < 512 * r.val + 512 by omega⟩
    · exact ⟨show 256 * p.val + 128 * h.val ≤ (i 1).val by omega, show (i 1).val < 256 * p.val + 128 * h.val + 128 by omega⟩

omit [FloatOps F] in
theorem gather_upd (A : Fin 2 → Fin 2 → Vec F S512x128 .bf16) (p : Dev nD) (r h : Fin 2) (w : Vec F S512x128 .bf16) (inb) :
    (fun x => gather (fun _ : Dev nD => quads (upd A r h w)) ((Rect.unit (s := S1024x2048) ![512 * r.val, 256 * p.val + 128 * h.val] S512x128.size inb).emb x)) = w := by
  refine (gather_quad (fun _ => upd A r h w) p r h inb rfl).trans ?_
  funext x
  show (if r = r ∧ h = h then w else A r h) x = w x
  rw [if_pos ⟨rfl, rfl⟩]
/-- A store of one quarter of a device's own block. -/
theorem store_quad (c : Dev nD) (A : Fin 2 → Fin 2 → Vec F S512x128 .bf16) (r h : Fin 2) (w : Vec F S512x128 .bf16) {off : Fin 2 → ℕ}
    (hoff : off = ![512 * r.val, 256 * c.val + 128 * h.val]) {inb hx hm}
    {α : Type} {kk : PUnit → Prog (TpuEff nD τ sig (Elt F) Λ₀ .tc) α} {Q : α → sProp 𝕄} :
    (pts (piece c) c fullShare (gather fun _ => quads A) : sProp 𝕄)
      ⊢ iprop((pts (piece c) c fullShare (gather fun _ => quads (upd A r h w)) -∗ run c (kk ⟨⟩) Q)
        -∗ run c (.op (.store ogat (Rect.unit (s := S1024x2048) off S512x128.size inb) w Finset.univ hx hm) kk) Q) := by
  subst hoff
  iintro H Hk
  iapply (store_step c ogat (r := Rect.unit (s := S1024x2048) ![512 * r.val, 256 * c.val + 128 * h.val] S512x128.size inb) (piece_quad c r h inb rfl) (gather fun _ => quads (upd A r h w))
    (fun i hi => write_whole (Elt F) cc0_scratch6 (Rect.unit (s := S1024x2048) ![512 * r.val, 256 * c.val + 128 * h.val] S512x128.size inb)
      (gather fun _ => quads A) (gather fun _ => quads (upd A r h w)) w (gather_upd A c r h w inb) i (quads_update A c r h w inb i hi))) $$ H
  iexact Hk

/-- A load from a device's own block, its value not used. -/
theorem load_quad (c : Dev nD) (r h : Fin 2) {f : Buf (Elt F) ((piece c).view.loc (c : Thread nD τ))} {off : Fin 2 → ℕ}
    (hoff : off = ![512 * r.val, 256 * c.val + 128 * h.val]) {inb hl}
    {α : Type} {kk : Vec F S512x128 .bf16 → Prog (TpuEff nD τ sig (Elt F) Λ₀ .tc) α} {Q : α → sProp 𝕄} :
    (pts (piece c) c fullShare f : sProp 𝕄)
      ⊢ iprop((∀ w, pts (piece c) c fullShare f -∗ run c (kk w) Q)
        -∗ run c (.op (.load ogat (Rect.unit (s := S1024x2048) off S512x128.size inb).toLoadRect hl) kk) Q) := by
  iintro H Hk
  iapply (load_step c ogat (piece_quad c r h inb hoff) rfl) $$ H
  iintro H
  iapply Hk $$ H

omit [FloatOps F] in
/-- Any contents of a block are four quarters. -/
theorem room_piece (c : Dev nD) : (room (piece c) c : sProp 𝕄) ⊢ iprop(∃ A : Fin 2 → Fin 2 → Vec F S512x128 .bf16, pts (piece c) c fullShare (gather fun _ => quads A)) := by
  iintro ⟨%f, H⟩
  iexists (fun r h x => f (Shape.pair (d := ![1024, 2048]) ⟨512 * r.val + (x 0).val, by have := r.isLt; have : (x 0).val < 512 := (x 0).isLt; show _ < 1024; omega⟩
    ⟨256 * c.val + 128 * h.val + (x 1).val, by have := h.isLt; have : (x 1).val < 128 := (x 1).isLt; have : c.val < 8 := c.isLt; show _ < 2048; omega⟩))
  iapply (Entails.of_eq (pointsTo_congr fun i hi => ?_)) $$ H
  rw [piece_set, Rect.mem_set_unit] at hi
  have h1 : 256 * c.val ≤ (i 1).val ∧ (i 1).val < 256 * c.val + 256 := hi 1
  show f i = f _
  refine congrArg f (idx2_ext ?_ ?_)
  · show (i 0).val = 512 * ((i 0).val / 512) + (i 0).val % 512; omega
  · show (i 1).val = 256 * c.val + 128 * (((i 1).val % 256) / 128) + ((i 1).val % 256) % 128; omega
/-- Once its four quarters are the attention outputs, the own block holds what the gathered buffer holds there. -/
theorem own_piece (c : Dev nD) (A : Fin 2 → Fin 2 → Vec F S512x128 .bf16) (hA : A = oq I c) (q : PosShare TreeShare) :
    (pts (piece c) c q (gather fun _ => quads A) : sProp 𝕄) ⊢ pts (piece c) c q (OG I) := by
  subst hA
  refine Entails.of_eq (pointsTo_congr fun i hi => ?_)
  rw [piece_set, Rect.mem_set_unit] at hi
  have h1 : 256 * c.val ≤ (i 1).val ∧ (i 1).val < 256 * c.val + 256 := hi 1
  show quads (oq I c) _ = quads (oq I ⟨(i 1).val / 256, _⟩) _
  have e : (⟨(i 1).val / 256, by have : (i 1).val < 2048 := (i 1).isLt; show _ < 8; omega⟩ : Dev nD) = c := Fin.ext (by show (i 1).val / 256 = c.val; omega)
  exact congrArg (fun d => quads (oq I d) _) e.symm

/-! ## The protocol's steps, their resources given one by one -/

theorem waitC (K : GSem nD τ sig → ℕ) (c : Dev nD) (k : Fin 32) (n : ℕ) (hlev : ∀ i : Fin 14, n ≤ i.val → lvK k < lvK (rk i))
    {sp sp' : Space} {s : Shape} {e : EltTy} {sem : DmaSem sig} {src : Memref sig .tc sp s e} {dst : Memref sig .tc sp' s e} {h1 h2}
    (hs : (SemLoc.dma sem : SemLoc sig) = semK k) (hN : dst.view.dmaCredit = amtK k)
    {α : Type} {kk : PUnit → Prog (TpuEff nD τ sig (Elt F) Λ₀ .tc) α} {Q : α → sProp 𝕄} :
    (allInv I K : sProp 𝕄) ⊢ iprop(pend c k -∗ owing c n -∗ ((owing c n ∗ done c k ∗ payK I c k) -∗ run c (kk ⟨⟩) Q)
          -∗ run c (.op (.waitDma2 sem src dst h1 h2) kk) Q) := by
  iintro HI HP HO Hk
  iapply (wait_step I K c k n hlev hs hN) $$ [HI HP HO]
  · isplitl [HI]; · iexact HI
    isplitl [HP] <;> iassumption
  iexact Hk

theorem sendC (K : GSem nD τ sig → ℕ) (c : Dev nD) (i : Fin 14) {c' : Dev nD} (hc : c' = peer i c)
    {sp sp' : Space} {s : Shape} {e : EltTy} {src src₀ : Memref sig .tc sp s e} {dst dst₀ : Memref sig .tc sp' s e} (e₁ : src = src₀) (e₂ : dst = dst₀)
    {hsc : dst.view.ref.isScScratch = false} {sS sem : SemLoc sig} {hsrc : src.view.WordExact} {hdst : dst.view.WordExact}
    {hsem : DmaTarget.Typed sp sem (.remote (c' : Thread nD τ) dst sS hsc)}
    (hS : sS = semK (sk i)) (hR : sem = semK (rk i)) (hN : dst.view.dmaCredit = amtK (rk i))
    {q : PosShare TreeShare} {fs : Buf (Elt F) (src₀.view.loc (c : Thread nD τ))}
    (hpay₁ : pts src₀ c q fs ⊢ payK I c (sk i))
    (hpay₂ : ∀ fd, pts dst₀ (peer i c) fullShare (dst₀.view.write (Elt F) fd (src₀.view.read (Elt F) fs) Finset.univ) ⊢ payK I (peer i c) (rk i))
    {α : Type} {kk : PUnit → Prog (TpuEff nD τ sig (Elt F) Λ₀ .tc) α} {Q : α → sProp 𝕄} :
    (allInv I K : sProp 𝕄) ⊢ iprop(ready c i -∗ sendRes c i -∗ pts src₀ c q fs -∗ room dst₀ (peer i c) -∗ owing c i.val
      -∗ ((pend c (sk i) ∗ owing c (i.val + 1)) -∗ run c (kk ⟨⟩) Q)
          -∗ run c (.op (.enqueueDma src (.remote (c' : Thread nD τ) dst sS hsc) sem hsrc hdst hsem) kk) Q) := by
  subst e₁ e₂
  iintro HI Hr HS Hp Hd HO Hk
  iapply (send_step I K c i hc hS hR hN hpay₁ hpay₂) $$ [HI Hr HS Hp Hd HO]
  · isplitl [HI]; · iexact HI
    isplitl [Hr]; · iexact Hr
    isplitl [HS]; · iexact HS
    isplitl [Hp]; · iexact Hp
    isplitl [Hd] <;> iassumption
  iexact Hk

theorem copyC (K : GSem nD τ sig → ℕ) (c : Dev nD) (k : Fin 32)
    {sp sp' : Space} {s : Shape} {e : EltTy} {src : Memref sig .tc sp s e} {dst : Memref sig .tc sp' s e} {sem : SemLoc sig}
    {hsrc : src.view.WordExact} {hdst : dst.view.WordExact} {hsem : DmaTarget.Typed (nD := nD) sp sem (DmaTarget.here (p := (Proc.tc : Proc τ)) dst)}
    (hR : sem = semK k) (hN : dst.view.dmaCredit = amtK k)
    {q : PosShare TreeShare} {fs : Buf (Elt F) (src.view.loc (c : Thread nD τ))}
    (hpay : ∀ fd, iprop(pts dst c fullShare (dst.view.write (Elt F) fd (src.view.read (Elt F) fs) Finset.univ) ∗ pts src c q fs) ⊢ payK I c k)
    {α : Type} {kk : PUnit → Prog (TpuEff nD τ sig (Elt F) Λ₀ .tc) α} {Q : α → sProp 𝕄} :
    (allInv I K : sProp 𝕄) ⊢ iprop(copyRes c k -∗ pts src c q fs -∗ room dst c -∗ (pend c k -∗ run c (kk ⟨⟩) Q)
          -∗ run c (.op (.enqueueDma src (.here dst) sem hsrc hdst hsem) kk) Q) := by
  iintro HI HS Hp Hd Hk
  iapply (copy_step I K c k hR hN hpay) $$ [HI HS Hp Hd]
  · isplitl [HI]; · iexact HI
    isplitl [HS]; · iexact HS
    isplitl [Hp] <;> iassumption
  iexact Hk

end Cert.Mla

end
-- ==== Proof.Land.lean ====
/-
  What lands where: each copy's landing is the payload its receive semaphore is written down to hand over.
-/
module

public import proofs.«01_k».proof.Proof.Access

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

omit [FloatOps F] in
theorem copy_pay (k : Fin 2) (b : Fin 4) (W : Vec F S2048x2048 .f32) (fd : Buf (Elt F) ((stage k).view.loc (c : Thread nD τ))) :
    iprop(pts (stage k) c fullShare ((stage k).view.write (Elt F) fd ((wob b).view.read (Elt F) W) Finset.univ) ∗ pts (wob b) c fullShare W)
      ⊢ (iprop(pts (stage k) c fullShare (stage2 (row512 W b)) ∗ pts (wob b) c fullShare W) : sProp 𝕄) := by
  rw [wob_read, landed (stage k) c fd (stage2 (row512 W b)) (row512 W b) (stage_read k _)]
omit [FloatOps F] in
theorem land_slotR (k : Fin 3) (d : Dev nD) (a a' : Vec F S1024x512 .bf16) (h : a' = a) (fd : Buf (Elt F) ((slot bufR k).view.loc (d : Thread nD τ))) :
    (pts (slot bufR k) d fullShare ((slot bufR k).view.write (Elt F) fd (sndR.view.read (Elt F) a) Finset.univ) : sProp 𝕄)
      ⊢ pts (slot bufR k) d fullShare (slot3 a') := by
  subst h; exact Entails.of_eq (landed (slot bufR k) d fd (slot3 a') a' (slotR_read k a'))
omit [FloatOps F] in
theorem land_slotL (k : Fin 3) (d : Dev nD) (a a' : Vec F S1024x512 .bf16) (h : a' = a) (fd : Buf (Elt F) ((slot bufL k).view.loc (d : Thread nD τ))) :
    (pts (slot bufL k) d fullShare ((slot bufL k).view.write (Elt F) fd (sndL.view.read (Elt F) a) Finset.univ) : sProp 𝕄)
      ⊢ pts (slot bufL k) d fullShare (slot3 a') := by
  subst h; exact Entails.of_eq (landed (slot bufL k) d fd (slot3 a') a' (slotL_read k a'))
omit [FloatOps F] in
theorem land_cd (d : Dev nD) (a a' : Vec F S1024x512 .bf16) (h : a' = a) (fd : Buf (Elt F) (cdR.view.loc (d : Thread nD τ))) :
    (pts cdR d fullShare (cdR.view.write (Elt F) fd (cdS.view.read (Elt F) a) Finset.univ) : sProp 𝕄) ⊢ pts cdR d fullShare a' := by
  subst h; exact Entails.of_eq (landed cdR d fd a' a' rfl)
theorem land_piece (p p' d : Dev nD) (h : p' = p) (fd : Buf (Elt F) ((piece p).view.loc (d : Thread nD τ))) :
    (pts (piece p) d fullShare ((piece p).view.write (Elt F) fd ((piece p).view.read (Elt F) (OG I)) Finset.univ) : sProp 𝕄)
      ⊢ pts (piece p') d fullShare (OG I) := by
  subst h; exact Entails.of_eq (landed (piece p') d fd (OG I) _ rfl)

/-! ## The payloads, copy by copy -/

theorem copy_pay28 (fd : Buf (Elt F) ((stage 0).view.loc (c : Thread nD τ))) :
    iprop(pts (stage 0) c fullShare ((stage 0).view.write (Elt F) fd ((wob 0).view.read (Elt F) (I c).wo) Finset.univ) ∗ pts (wob 0) c fullShare (I c).wo)
      ⊢ payK I c 28 := copy_pay c 0 0 (I c).wo fd
theorem copy_pay29 (fd : Buf (Elt F) ((stage 1).view.loc (c : Thread nD τ))) :
    iprop(pts (stage 1) c fullShare ((stage 1).view.write (Elt F) fd ((wob 1).view.read (Elt F) (I c).wo) Finset.univ) ∗ pts (wob 1) c fullShare (I c).wo)
      ⊢ payK I c 29 := copy_pay c 1 1 (I c).wo fd
theorem copy_pay30 (fd : Buf (Elt F) ((stage 0).view.loc (c : Thread nD τ))) :
    iprop(pts (stage 0) c fullShare ((stage 0).view.write (Elt F) fd ((wob 2).view.read (Elt F) (I c).wo) Finset.univ) ∗ pts (wob 2) c fullShare (I c).wo)
      ⊢ payK I c 30 := copy_pay c 0 2 (I c).wo fd
theorem copy_pay31 (fd : Buf (Elt F) ((stage 1).view.loc (c : Thread nD τ))) :
    iprop(pts (stage 1) c fullShare ((stage 1).view.write (Elt F) fd ((wob 3).view.read (Elt F) (I c).wo) Finset.univ) ∗ pts (wob 3) c fullShare (I c).wo)
      ⊢ payK I c 31 := copy_pay c 1 3 (I c).wo fd
theorem amt_stage {k : Fin 2} {n : Fin 32} (h : 28 ≤ n.val) : (stage k).view.dmaCredit = amtK n := (amtN_hi h).symm
theorem amt_slotR {k : Fin 3} {n : Fin 32} (h : n.val < 14) : (slot bufR k).view.dmaCredit = amtK n := (amtN_lo h).symm
theorem amt_slotL {k : Fin 3} {n : Fin 32} (h : n.val < 14) : (slot bufL k).view.dmaCredit = amtK n := (amtN_lo h).symm
theorem amt_sndR {n : Fin 32} (h : n.val < 14) : sndR.view.dmaCredit = amtK n := (amtN_lo h).symm
theorem amt_sndL {n : Fin 32} (h : n.val < 14) : sndL.view.dmaCredit = amtK n := (amtN_lo h).symm
theorem amt_cdR {n : Fin 32} (h : n.val < 14) : cdR.view.dmaCredit = amtK n := (amtN_lo h).symm
theorem amt_cdS {n : Fin 32} (h : n.val < 14) : cdS.view.dmaCredit = amtK n := (amtN_lo h).symm
theorem amt_piece {p : Dev nD} {n : Fin 32} (h : 14 ≤ n.val ∧ n.val < 28) : (piece p).view.dmaCredit = amtK n := (amtN_mid h).symm
theorem amt_cols {off : Fin 2 → ℕ} {inb} {n : Fin 32} (h : 14 ≤ n.val ∧ n.val < 28) :
    (ogat.slice (Rect.unit (s := S1024x2048) off S1024x256.size inb) (fun _ => rfl)).view.dmaCredit = amtK n := (amtN_mid h).symm

theorem land0 (fd : Buf (Elt F) (cdR.view.loc (peer 0 c : Thread nD τ))) :
    pts cdR (peer 0 c) fullShare (cdR.view.write (Elt F) fd (cdS.view.read (Elt F) (cdB I c)) Finset.univ) ⊢ payK I (peer 0 c) (rk 0) :=
  land_cd (dv c 4) (cdB I c) (cdB I (dv (dv c 4) 4)) (by rw [dv_back c 4 4 rfl]) fd
theorem land1 (fd : Buf (Elt F) ((slot bufR 0).view.loc (peer 1 c : Thread nD τ))) :
    pts (slot bufR 0) (peer 1 c) fullShare ((slot bufR 0).view.write (Elt F) fd (sndR.view.read (Elt F) (r0B I c)) Finset.univ) ⊢ payK I (peer 1 c) (rk 1) :=
  land_slotR 0 (dv c 1) (r0B I c) (r0B I (dv (dv c 1) 7)) (by rw [dv_back c 1 7 rfl]) fd
theorem land3 (fd : Buf (Elt F) ((slot bufR 1).view.loc (peer 3 c : Thread nD τ))) :
    pts (slot bufR 1) (peer 3 c) fullShare ((slot bufR 1).view.write (Elt F) fd (sndR.view.read (Elt F) (r1B I c)) Finset.univ) ⊢ payK I (peer 3 c) (rk 3) :=
  land_slotR 1 (dv c 1) (r1B I c) (r1B I (dv (dv c 1) 7)) (by rw [dv_back c 1 7 rfl]) fd
theorem land5 (fd : Buf (Elt F) ((slot bufR 2).view.loc (peer 5 c : Thread nD τ))) :
    pts (slot bufR 2) (peer 5 c) fullShare ((slot bufR 2).view.write (Elt F) fd (sndR.view.read (Elt F) (r2B I c)) Finset.univ) ⊢ payK I (peer 5 c) (rk 5) :=
  land_slotR 2 (dv c 1) (r2B I c) (r2B I (dv (dv c 1) 7)) (by rw [dv_back c 1 7 rfl]) fd
theorem land2 (fd : Buf (Elt F) ((slot bufL 0).view.loc (peer 2 c : Thread nD τ))) :
    pts (slot bufL 0) (peer 2 c) fullShare ((slot bufL 0).view.write (Elt F) fd (sndL.view.read (Elt F) (l0B I c)) Finset.univ) ⊢ payK I (peer 2 c) (rk 2) :=
  land_slotL 0 (dv c 7) (l0B I c) (l0B I (dv (dv c 7) 1)) (by rw [dv_back c 7 1 rfl]) fd
theorem land4 (fd : Buf (Elt F) ((slot bufL 1).view.loc (peer 4 c : Thread nD τ))) :
    pts (slot bufL 1) (peer 4 c) fullShare ((slot bufL 1).view.write (Elt F) fd (sndL.view.read (Elt F) (l1B I c)) Finset.univ) ⊢ payK I (peer 4 c) (rk 4) :=
  land_slotL 1 (dv c 7) (l1B I c) (l1B I (dv (dv c 7) 1)) (by rw [dv_back c 7 1 rfl]) fd
theorem land6 (fd : Buf (Elt F) ((slot bufL 2).view.loc (peer 6 c : Thread nD τ))) :
    pts (slot bufL 2) (peer 6 c) fullShare ((slot bufL 2).view.write (Elt F) fd (sndL.view.read (Elt F) (l2B I c)) Finset.univ) ⊢ payK I (peer 6 c) (rk 6) :=
  land_slotL 2 (dv c 7) (l2B I c) (l2B I (dv (dv c 7) 1)) (by rw [dv_back c 7 1 rfl]) fd
theorem land7 (fd : Buf (Elt F) ((piece c).view.loc (peer 7 c : Thread nD τ))) :
    pts (piece c) (peer 7 c) fullShare ((piece c).view.write (Elt F) fd ((piece c).view.read (Elt F) (OG I)) Finset.univ) ⊢ payK I (peer 7 c) (rk 7) :=
  land_piece I c (dv (dv c 4) 4) (dv c 4) (dv_back c 4 4 rfl) fd
theorem land8 (fd : Buf (Elt F) ((piece c).view.loc (peer 8 c : Thread nD τ))) :
    pts (piece c) (peer 8 c) fullShare ((piece c).view.write (Elt F) fd ((piece c).view.read (Elt F) (OG I)) Finset.univ) ⊢ payK I (peer 8 c) (rk 8) :=
  land_piece I c (dv (dv c 1) 7) (dv c 1) (dv_back c 1 7 rfl) fd
theorem land9 (fd : Buf (Elt F) ((piece c).view.loc (peer 9 c : Thread nD τ))) :
    pts (piece c) (peer 9 c) fullShare ((piece c).view.write (Elt F) fd ((piece c).view.read (Elt F) (OG I)) Finset.univ) ⊢ payK I (peer 9 c) (rk 9) :=
  land_piece I c (dv (dv c 7) 1) (dv c 7) (dv_back c 7 1 rfl) fd
theorem land10 (fd : Buf (Elt F) ((piece (dv c 7)).view.loc (peer 10 c : Thread nD τ))) :
    pts (piece (dv c 7)) (peer 10 c) fullShare ((piece (dv c 7)).view.write (Elt F) fd ((piece (dv c 7)).view.read (Elt F) (OG I)) Finset.univ) ⊢ payK I (peer 10 c) (rk 10) :=
  land_piece I (dv c 7) (dv (dv c 1) 6) (dv c 1) (dv_dv c 1 6) fd
theorem land11 (fd : Buf (Elt F) ((piece (dv c 1)).view.loc (peer 11 c : Thread nD τ))) :
    pts (piece (dv c 1)) (peer 11 c) fullShare ((piece (dv c 1)).view.write (Elt F) fd ((piece (dv c 1)).view.read (Elt F) (OG I)) Finset.univ) ⊢ payK I (peer 11 c) (rk 11) :=
  land_piece I (dv c 1) (dv (dv c 7) 2) (dv c 7) ((dv_dv c 7 2).trans (dv_add_eight c 1)) fd
theorem land12 (fd : Buf (Elt F) ((piece (dv c 6)).view.loc (peer 12 c : Thread nD τ))) :
    pts (piece (dv c 6)) (peer 12 c) fullShare ((piece (dv c 6)).view.write (Elt F) fd ((piece (dv c 6)).view.read (Elt F) (OG I)) Finset.univ) ⊢ payK I (peer 12 c) (rk 12) :=
  land_piece I (dv c 6) (dv (dv c 1) 5) (dv c 1) (dv_dv c 1 5) fd
theorem land13 (fd : Buf (Elt F) ((piece (dv c 2)).view.loc (peer 13 c : Thread nD τ))) :
    pts (piece (dv c 2)) (peer 13 c) fullShare ((piece (dv c 2)).view.write (Elt F) fd ((piece (dv c 2)).view.read (Elt F) (OG I)) Finset.univ) ⊢ payK I (peer 13 c) (rk 13) :=
  land_piece I (dv c 2) (dv (dv c 7) 3) (dv c 7) ((dv_dv c 7 3).trans (dv_add_eight c 2)) fd

/-- A copy to another device, its receiver and semaphore named. -/
theorem sendTo (i : Fin 14) {c' d : Dev nD} {n m : ℕ} {k : Fin 32} (hd : d = peer i c) (hn : n = i.val) (hm : m = i.val + 1) (hk : k = sk i) (hc : c' = d)
    {sp sp' : Space} {s : Shape} {e : EltTy} {src src₀ : Memref sig .tc sp s e} {dst dst₀ : Memref sig .tc sp' s e} (e₁ : src = src₀) (e₂ : dst = dst₀)
    {hsc : dst.view.ref.isScScratch = false} {sS sem : SemLoc sig} {hsrc : src.view.WordExact} {hdst : dst.view.WordExact}
    {hsem : DmaTarget.Typed sp sem (.remote (c' : Thread nD τ) dst sS hsc)}
    (hS : sS = semK (sk i)) (hR : sem = semK (rk i)) (hN : dst.view.dmaCredit = amtK (rk i))
    {q : PosShare TreeShare} {fs : Buf (Elt F) (src₀.view.loc (c : Thread nD τ))}
    (hpay₁ : pts src₀ c q fs ⊢ payK I c (sk i))
    (hpay₂ : ∀ fd, pts dst₀ (peer i c) fullShare (dst₀.view.write (Elt F) fd (src₀.view.read (Elt F) fs) Finset.univ) ⊢ payK I (peer i c) (rk i))
    {α : Type} {kk : PUnit → Prog (TpuEff nD τ sig (Elt F) Λ₀ .tc) α} {Q : α → sProp 𝕄} :
    (allInv I K : sProp 𝕄) ⊢ iprop(ready c i -∗ sendRes c i -∗ pts src₀ c q fs -∗ room dst₀ d -∗ owing c n
      -∗ ((pend c k ∗ owing c m) -∗ run c (kk ⟨⟩) Q)
          -∗ run c (.op (.enqueueDma src (.remote (c' : Thread nD τ) dst sS hsc) sem hsrc hdst hsem) kk) Q) := by
  subst hd hn hm hk
  exact sendC I K c i hc e₁ e₂ hS hR hN hpay₁ hpay₂

omit [FloatOps F] in
/-- A piece of the body ends with a value. -/
theorem ret_of [FloatOps F] {α : Type} (Q : α → sProp 𝕄) (v' : α) {v : α} (h : v = v') : Q v' ⊢ run c (.ret v) Q := by
  subst h
  unfold run; rw [wp_ret]
  iintro H; imodintro; iexact H

omit [FloatOps F] in
/-- What holds something is room. -/
theorem room_of {sp : Space} {s : Shape} {e : EltTy} (M : Memref sig .tc sp s e) (f : Buf (Elt F) (M.view.loc (c : Thread nD τ))) :
    (pts M c fullShare f : sProp 𝕄) ⊢ room M c := by
  iintro H; iexists f; iexact H

/-- A wait for a landing, the payload named. -/
theorem waitTo (k : Fin 32) (n : ℕ) (P : sProp 𝕄) (hP : payK I c k = P) (hlev : ∀ i : Fin 14, n ≤ i.val → lvK k < lvK (rk i))
    {sp sp' : Space} {s : Shape} {e : EltTy} {sem : DmaSem sig} {src : Memref sig .tc sp s e} {dst : Memref sig .tc sp' s e} {h1 h2}
    (hs : (SemLoc.dma sem : SemLoc sig) = semK k) (hN : dst.view.dmaCredit = amtK k)
    {α : Type} {kk : PUnit → Prog (TpuEff nD τ sig (Elt F) Λ₀ .tc) α} {Q : α → sProp 𝕄} :
    (allInv I K : sProp 𝕄) ⊢ iprop(pend c k -∗ owing c n -∗ ((owing c n ∗ done c k ∗ P) -∗ run c (kk ⟨⟩) Q)
          -∗ run c (.op (.waitDma2 sem src dst h1 h2) kk) Q) := by
  subst hP
  exact waitC I K c k n hlev hs hN

end Cert.Mla

end
-- ==== Proof.BodyA.lean ====
/-
  The entry barrier and the first copies: the output weights' first two blocks into their staging slots, the keys and values
  for the device opposite, and the first blocks of the two rings.
-/
module

public import proofs.«01_k».proof.Proof.Land

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

/-- A barrier unit, with what it hands over. -/
theorem signalC {c' d : Dev nD} (hc : c' = d) (j : Fin 3) (O : CellTallies nD τ sig Unit) {sem : Sem sig} (hs : sem = barrier0) {n : ℕ} (hn : n = 1)
    {α : Type} {kk : PUnit → Prog (TpuEff nD τ sig (Elt F) Λ₀ .tc) α} {Q : α → sProp 𝕄} :
    (allInv I K : sProp 𝕄) ⊢ iprop((∃ W, owes (c : Thread nD τ) (O + tallyAt (barCell d) () 1) W) -∗ dutyTok EB (barCell d) 0 j
      -∗ reached EB (barCell d) 0 -∗ barPay d j -∗ ((∃ W, owes (c : Thread nD τ) O W) -∗ run c (kk ⟨⟩) Q)
      -∗ run c (.op (.semSignal (c' : Thread nD τ) sem n) kk) Q) := by
  subst hc hs hn
  iintro #HI ⟨%W, HO⟩ HT HR HP Hk
  iapply (Rounds.wp_signal 𝒱₀ EB (rd I) (c : Thread nD τ) none (dst := (c' : Thread nD τ)) (sem := barrier0) (r := 0) (d := j) (κ := K (barCell c'))
      (by rw [duties_bar]; exact Finset.mem_univ _) (amount_bar I c' j) () O rfl) $$ [HO HT HR HP]
  · isplitr; · iapply (allInv_bar I K c'); iexact HI
    isplitl [HO]; · iexact HO
    isplitl [HT]; · iexact HT
    isplitl [HP]; · rw [payload_bar]; iexact HP
    iexact HR
  iintro HO
  iapply Hk
  iexists W; iexact HO

/-- The wait for the barrier's three units. -/
theorem barWaitC {sem : Sem sig} (hs : sem = barrier0) {n : ℕ} (hn : n = 3)
    {α : Type} {kk : PUnit → Prog (TpuEff nD τ sig (Elt F) Λ₀ .tc) α} {Q : α → sProp 𝕄} :
    (allInv I K : sProp 𝕄) ⊢ iprop(atPos EB (barCell c) 0 ∅ 0 -∗ cred (tallyAt (barCell c) () 3) -∗ owing c 0
      -∗ ((owing c 0 ∗ atPos EB (barCell c) 1 ∅ 0 ∗ barPay c 0 ∗ barPay c 1 ∗ barPay c 2) -∗ run c (kk ⟨⟩) Q)
      -∗ run c (.op (.semWait sem n) kk) Q) := by
  subst hs hn
  unfold owing
  iintro #HI Hat Hc ⟨%W, HO⟩ Hk
  iapply (Rounds.wp_wait_rest_token 𝒱₀ EB (rd I) (c : Thread nD τ) none (κ := K (barCell c))
      (wpE_semWait_eq 𝒱₀ (c : Thread nD τ) none Set.univ) (Set.mem_univ _) () (O := debt c 0) (W := W) (R := 0) (m := 0) (T := ∅)
      ((Nat.zero_add _).trans (expect_bar I c).symm)) $$ [Hc HO Hat]
  · isplitr; · iapply (allInv_bar I K c); iexact HI
    isplitl [Hc]; · iexact Hc
    isplitl [HO]; · iexact HO
    isplitr
    · iapply (mayWait_debt c 0 (.reg barrier0) 1 (lev_bar c ()).le (by decide)); iapply (allInv_lev I K); iexact HI
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-- What a device owes at the start: its receive credits, and a barrier unit to each of three devices. -/
def debt0 : CellTallies nD τ sig Unit :=
  debt c 0 + tallyAt (barCell (dv c 4)) () 1 + tallyAt (barCell (dv c 7)) () 1 + tallyAt (barCell (dv c 1)) () 1
/-- A barrier duty of a device. -/
def barDuty (d : Dev nD) (j : Fin 3) : sProp 𝕄 := iprop(dutyTok EB (barCell d) 0 j ∗ reached EB (barCell d) 0)

set_option maxHeartbeats 1000000 in
theorem part1 (Q : (Σ' (_ : Dev nD) (_ : BitVec 32) (_ : BitVec 32) (_ : BitVec 32), BitVec 32) → sProp 𝕄) :
    (allInv I K : sProp 𝕄) ⊢ iprop(barDuty (dv c 1) 0 -∗ barDuty (dv c 7) 1 -∗ barDuty (dv c 4) 2
      -∗ barPay (dv c 1) 0 -∗ barPay (dv c 7) 1 -∗ barPay (dv c 4) 2
      -∗ atPos EB (barCell c) 0 ∅ 0 -∗ cred (tallyAt (barCell c) () 3) -∗ (∃ W, owes (c : Thread nD τ) (debt0 c) W)
      -∗ copyRes c 28 -∗ pts (wob 0) c fullShare (I c).wo -∗ room (stage 0) c
      -∗ (∀ w2 w4 w7 w9, owing c 0 -∗ atPos EB (barCell c) 1 ∅ 0 -∗ barPay c 0 -∗ barPay c 1 -∗ barPay c 2 -∗ pend c 28 -∗ Q ⟨c, w2, w4, w7, w9⟩)
      -∗ run c (ap (k0_part1 (F := F))) Q) := by
  rw [k0_part1_eq_skeleton]; unfold k0_part1_skel
  simp only [semSignalWord, semWaitWord, Prog.lift, Prog.bind_op, Prog.bind_ret, Prog.pure_eq_ret, Prog.bind_assoc, wp_deviceId]
  unfold barDuty debt0
  iintro #HI ⟨HT0, HR0⟩ ⟨HT1, HR1⟩ ⟨HT2, HR2⟩ HP0 HP1 HP2 Hat Hc HO HC HW HS Hk
  iapply (signalC I K c (c' := ⟨k0_dev1 c, k0_dev1_lt c⟩) (d := dv c 1) (Fin.ext (k0_dev1_eq c)) 0
    (debt c 0 + tallyAt (barCell (dv c 4)) () 1 + tallyAt (barCell (dv c 7)) () 1) rfl rfl) $$ HI HO HT0 HR0 HP0
  iintro HO
  iapply (signalC I K c (c' := ⟨k0_dev2 c, k0_dev2_lt c⟩) (d := dv c 7) (Fin.ext (k0_dev2_eq c)) 1
    (debt c 0 + tallyAt (barCell (dv c 4)) () 1) rfl rfl) $$ HI HO HT1 HR1 HP1
  iintro HO
  iapply (signalC I K c (c' := ⟨k0_dev3 c, k0_dev3_lt c⟩) (d := dv c 4) (Fin.ext (k0_dev3_eq c)) 2 (debt c 0) rfl rfl) $$ HI HO HT2 HR2 HP2
  iintro HO
  ihave HO := (Entails.of_eq (show iprop(∃ W, owes (c : Thread nD τ) (debt c 0) W) = owing (F := F) c 0 from rfl)) $$ HO
  iapply (barWaitC I K c rfl rfl) $$ HI Hat Hc HO
  iintro ⟨HO, Hat, HP0, HP1, HP2⟩
  iapply (copyC I K c 28 (src := wob 0) (dst := stage 0) rfl (amt_stage (by decide)) (copy_pay28 I c)) $$ HI HC HW HS
  iintro HP
  unfold run; rw [wp_ret]
  imodintro
  iapply Hk $$ HO Hat HP0 HP1 HP2 HP

set_option maxHeartbeats 1000000 in
theorem part2 (u v : BitVec 32) (Q : (Σ' (_ : FVec F S1024x2048 .bf16), FVec F S1024x128 .bf16) → sProp 𝕄) :
    (allInv I K : sProp 𝕄) ⊢ iprop(copyRes c 29 -∗ pts (wob 1) c fullShare (I c).wo -∗ room (stage 1) c
      -∗ pts wX c fullShare (I c).x -∗ pts wWd c fullShare (I c).wd -∗ pts wUk c fullShare (I c).uk -∗ pts wUv c fullShare (I c).uv -∗ room cdS c
      -∗ (pend c 29 -∗ pts wX c fullShare (I c).x -∗ pts wWd c fullShare (I c).wd -∗ pts wUk c fullShare (I c).uk -∗ pts wUv c fullShare (I c).uv
        -∗ pts cdS c fullShare (cdB I c) -∗ Q ⟨xb I c, lat I c⟩)
      -∗ run c (ap (k0_part2 (F := F)) c u v) Q) := by
  rw [k0_part2_eq_skeleton]; unfold k0_part2_skel
  simp only [Prog.lift, Prog.bind_op, Prog.bind_ret, Prog.pure_eq_ret, Prog.bind_assoc]
  iintro #HI HC HW HS HX HD HUk HUv HB Hk
  iapply (copyC I K c 29 (src := wob 1) (dst := stage 1) rfl (amt_stage (by decide)) (copy_pay29 I c)) $$ HI HC HW HS
  iintro HP
  iapply (load_of c wX (I c).x (Memref.readAt_unit_zero (Elt F) cc0_stg0_0 (by decide) _ _)) $$ HX
  iintro HX
  iapply (load_of c wWd (I c).wd (Memref.readAt_unit_zero (Elt F) cc0_stg1_0 (by decide) _ _)) $$ HD
  iintro HD
  iapply (load_uk I c 4) $$ HUk
  iintro HUk
  iapply (load_uv I c 4) $$ HUv
  iintro HUv
  iapply (load_any c cdS) $$ HB
  iintro %w HB
  iapply (store_cd_l c (cdK I c)) $$ HB
  iintro %b HB
  iapply (load_of c cdS _ rfl) $$ HB
  iintro HB
  iapply (store_cd_r c (cdK I c) (cdV I c) b) $$ HB
  iintro HB
  iapply (ret_of c Q ⟨xb I c, lat I c⟩ (by rfl))
  iapply Hk $$ HP HX HD HUk HUv HB

set_option maxHeartbeats 1000000 in
theorem part3 (u : BitVec 32) (Q : (Σ' (_ : FVec F S1024x256 .f32), FVec F S1024x256 .bf16) → sProp 𝕄) :
    (allInv I K : sProp 𝕄) ⊢ iprop(ready c 0 -∗ sendRes c 0 -∗ pts cdS c fullShare (cdB I c) -∗ room cdR (dv c 4) -∗ owing c 0
      -∗ pts wUk c fullShare (I c).uk -∗ pts wUv c fullShare (I c).uv -∗ room sndR c
      -∗ (pend c 12 -∗ owing c 1 -∗ pts wUk c fullShare (I c).uk -∗ pts wUv c fullShare (I c).uv -∗ pts sndR c fullShare (r0B I c)
        -∗ Q ⟨k0_pay7 (lat I c) (uvC I c 5), k0_pay8 (lat I c) (ukC I c 5)⟩)
      -∗ run c (ap (k0_part3 (F := F)) c u (lat I c)) Q) := by
  rw [k0_part3_eq_skeleton]; unfold k0_part3_skel
  simp only [Prog.lift, Prog.bind_op, Prog.bind_ret, Prog.pure_eq_ret, Prog.bind_assoc]
  iintro #HI HR HS HB HD HO HUk HUv HA Hk
  iapply (sendTo I K c 0 (c' := ⟨k0_dev4 c, k0_dev4_lt c⟩) (d := dv c 4) (n := 0) (m := 1) (k := 12) rfl rfl rfl rfl (Fin.ext (k0_dev4_eq c)) (src₀ := cdS) (dst₀ := cdR) rfl rfl rfl rfl (amt_cdR (by decide))
    .rfl (land0 I c)) $$ HI HR HS HB HD HO
  iintro ⟨HP, HO⟩
  iapply (load_uk I c 3) $$ HUk
  iintro HUk
  iapply (load_uv I c 3) $$ HUv
  iintro HUv
  iapply (load_any c sndR) $$ HA
  iintro %w HA
  iapply (store_sr_l c (r0K I c)) $$ HA
  iintro %b HA
  iapply (load_of c sndR _ rfl) $$ HA
  iintro HA
  iapply (store_sr_r c (r0K I c) (r0V I c) b) $$ HA
  iintro HA
  iapply (load_uk I c 5) $$ HUk
  iintro HUk
  iapply (load_uv I c 5) $$ HUv
  iintro HUv
  iapply (ret_of c Q ⟨k0_pay7 (lat I c) (uvC I c 5), k0_pay8 (lat I c) (ukC I c 5)⟩ (by rfl))
  iapply Hk $$ HP HO HUk HUv HA

set_option maxHeartbeats 1000000 in
theorem part4 (u v : BitVec 32) (Q : (Σ' (_ : FVec F S1024x256 .bf16) (_ : FVec F S1024x64 .bf16), Vec F S2048x32 .bf16) → sProp 𝕄) :
    (allInv I K : sProp 𝕄) ⊢ iprop(room sndL c -∗ ready c 1 -∗ sendRes c 1 -∗ pts sndR c fullShare (r0B I c) -∗ room (slot bufR 0) (dv c 1)
      -∗ ready c 2 -∗ sendRes c 2 -∗ room (slot bufL 0) (dv c 7) -∗ owing c 1
      -∗ pts wWq c fullShare (I c).wq -∗ pts wWqr c fullShare (I c).wqr -∗ pts wWkr c fullShare (I c).wkr
      -∗ (pend c 0 -∗ pend c 6 -∗ owing c 3
        -∗ pts wWq c fullShare (I c).wq -∗ pts wWqr c fullShare (I c).wqr -∗ pts wWkr c fullShare (I c).wkr
        -∗ Q ⟨qv I c, qrv I c, (I c).wkr⟩)
      -∗ run c (ap (k0_part4 (F := F)) c u v (xb I c) (k0_pay7 (lat I c) (uvC I c 5)) (k0_pay8 (lat I c) (ukC I c 5))) Q) := by
  rw [k0_part4_eq_skeleton]; unfold k0_part4_skel
  simp only [Prog.lift, Prog.bind_op, Prog.bind_ret, Prog.pure_eq_ret, Prog.bind_assoc]
  iintro #HI HL HR1 HS1 HA HD1 HR2 HS2 HD2 HO HQ HQr HKr Hk
  iapply (load_any c sndL) $$ HL
  iintro %w HL
  iapply (store_sl_l c (l0K I c)) $$ HL
  iintro %b HL
  iapply (load_of c sndL _ rfl) $$ HL
  iintro HL
  iapply (store_sl_r c (l0K I c) (l0V I c) b) $$ HL
  iintro HL
  iapply (sendTo I K c 1 (c' := ⟨k0_dev5 c, k0_dev5_lt c⟩) (d := dv c 1) (n := 1) (m := 2) (k := 0) rfl rfl rfl rfl (Fin.ext (k0_dev5_eq c)) (src₀ := sndR) (dst₀ := slot bufR 0) rfl rfl rfl rfl (amt_slotR (by decide))
    .rfl (land1 I c)) $$ HI HR1 HS1 HA HD1 HO
  iintro ⟨HP1, HO⟩
  iapply (sendTo I K c 2 (c' := ⟨k0_dev6 c, k0_dev6_lt c⟩) (d := dv c 7) (n := 2) (m := 3) (k := 6) rfl rfl rfl rfl (Fin.ext (k0_dev6_eq c)) (src₀ := sndL) (dst₀ := slot bufL 0) rfl rfl rfl rfl (amt_slotL (by decide))
    .rfl (land2 I c)) $$ HI HR2 HS2 HL HD2 HO
  iintro ⟨HP2, HO⟩
  iapply (load_of c wWq (I c).wq (Memref.readAt_unit_zero (Elt F) cc0_stg4_0 (by decide) _ _)) $$ HQ
  iintro HQ
  iapply (load_of c wWqr (I c).wqr (Memref.readAt_unit_zero (Elt F) cc0_stg5_0 (by decide) _ _)) $$ HQr
  iintro HQr
  iapply (load_of c wWkr (I c).wkr (Memref.readAt_unit_zero (Elt F) cc0_stg6_0 (by decide) _ _)) $$ HKr
  iintro HKr
  iapply (ret_of c Q ⟨qv I c, qrv I c, (I c).wkr⟩ (by rfl))
  iapply Hk $$ HP1 HP2 HO HQ HQr HKr

end Cert.Mla

end
-- ==== Proof.BodyB.lean ====
/-
  The second and third rounds of the two rings: each device adds its own columns to what came from its neighbour and sends
  the sum on.
-/
module

public import proofs.«01_k».proof.Proof.BodyA

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

set_option maxHeartbeats 1000000 in
theorem part5 (u v : BitVec 32) (Q : (Σ' (_ : FVec F S1024x32 .bf16) (_ : FVec F S1024x256 .f32) (_ : FVec F S1024x256 .f32) (_ : FVec F S1024x256 .f32) (_ : FVec F S1024x256 .f32), BitVec 32) → sProp 𝕄) :
    (allInv I K : sProp 𝕄) ⊢ iprop(pts wUk c fullShare (I c).uk -∗ pts wUv c fullShare (I c).uv -∗ pend c 0 -∗ owing c 3
      -∗ (∀ w, pts wUk c fullShare (I c).uk -∗ pts wUv c fullShare (I c).uv -∗ owing c 3 -∗ done c 0 -∗ room sndR c
        -∗ Q ⟨krv I c, k0_pay14 (lat I c) (ukC I c 2), k0_pay15 (lat I c) (uvC I c 2), k0_pay16 (lat I c) (ukC I c 6), k0_pay17 (lat I c) (uvC I c 6), w⟩)
      -∗ run c (ap (k0_part5 (F := F)) c u v (xb I c) (lat I c) (I c).wkr) Q) := by
  rw [k0_part5_eq_skeleton]; unfold k0_part5_skel
  simp only [Prog.lift, Prog.bind_op, Prog.bind_ret, Prog.pure_eq_ret, Prog.bind_assoc]
  iintro #HI HUk HUv HP HO Hk
  iapply (load_uk I c 2) $$ HUk
  iintro HUk
  iapply (load_uv I c 2) $$ HUv
  iintro HUv
  iapply (load_uk I c 6) $$ HUk
  iintro HUk
  iapply (load_uv I c 6) $$ HUv
  iintro HUv
  iapply (waitTo I K c 0 3 (pts sndR c fullShare (r0B I c)) rfl (by decide) rfl (amt_sndR (by decide))) $$ HI HP HO
  iintro ⟨HO, HD, HA⟩
  ihave HA := (room_of c sndR _) $$ HA
  iapply (ret_of c Q ⟨krv I c, k0_pay14 (lat I c) (ukC I c 2), k0_pay15 (lat I c) (uvC I c 2), k0_pay16 (lat I c) (ukC I c 6), k0_pay17 (lat I c) (uvC I c 6), _⟩ (by rfl))
  iapply Hk $$ HUk HUv HO HD HA

set_option maxHeartbeats 1000000 in
theorem part6 (u v : BitVec 32) (Q : FVec F S1024x256 .bf16 → sProp 𝕄) :
    (allInv I K : sProp 𝕄) ⊢ iprop(room sndR c -∗ pend c 3 -∗ pend c 6 -∗ pend c 9 -∗ owing c 3
      -∗ (∀ b', owing c 3 -∗ done c 3 -∗ done c 6 -∗ done c 9 -∗ room sndL c
        -∗ pts (slot bufR 0) c fullShare (slot3 (r0B I (dv c 7))) -∗ pts (slot bufL 0) c fullShare (slot3 (l0B I (dv c 1))) -∗ pts sndR c fullShare (halves (r1K I c) b')
        -∗ Q (k0_pay19 (k0_pay15 (lat I c) (uvC I c 2)) (up (r0V I (dv c 7)))))
      -∗ run c (ap (k0_part6 (F := F)) u (k0_pay14 (lat I c) (ukC I c 2)) (k0_pay15 (lat I c) (uvC I c 2)) v) Q) := by
  rw [k0_part6_eq_skeleton]; unfold k0_part6_skel
  simp only [Prog.lift, Prog.bind_op, Prog.bind_ret, Prog.pure_eq_ret, Prog.bind_assoc]
  iintro #HI HA HP3 HP6 HP9 HO Hk
  iapply (waitTo I K c 3 3 (pts (slot bufR 0) c fullShare (slot3 (r0B I (dv c 7)))) rfl (by decide) rfl (amt_slotR (k := 0) (by decide))) $$ HI HP3 HO
  iintro ⟨HO, HD3, HR⟩
  iapply (waitTo I K c 6 3 (pts sndL c fullShare (l0B I c)) rfl (by decide) rfl (amt_sndL (by decide))) $$ HI HP6 HO
  iintro ⟨HO, HD6, HB⟩
  ihave HB := (room_of c sndL _) $$ HB
  iapply (waitTo I K c 9 3 (pts (slot bufL 0) c fullShare (slot3 (l0B I (dv c 1)))) rfl (by decide) rfl (amt_slotL (k := 0) (by decide))) $$ HI HP9 HO
  iintro ⟨HO, HD9, HL⟩
  iapply (load_rl c 0 (r0K I (dv c 7)) (r0V I (dv c 7))) $$ HR
  iintro HR
  iapply (load_any c sndR) $$ HA
  iintro %w HA
  iapply (store_sr_l c (r1K I c)) $$ HA
  iintro %b HA
  iapply (load_rr c 0 (r0K I (dv c 7)) (r0V I (dv c 7))) $$ HR
  iintro HR
  iapply (load_of c sndR _ rfl) $$ HA
  iintro HA
  iapply (ret_of c Q (k0_pay19 (k0_pay15 (lat I c) (uvC I c 2)) (up (r0V I (dv c 7)))) (by rfl))
  iapply Hk $$ HO HD3 HD6 HD9 HB HR HL HA

set_option maxHeartbeats 1000000 in
theorem part7 (u v : BitVec 32) (b' : Vec F S1024x256 .bf16) (Q : PUnit → sProp 𝕄) :
    (allInv I K : sProp 𝕄) ⊢ iprop(pts sndR c fullShare (halves (r1K I c) b') -∗ pts (slot bufL 0) c fullShare (slot3 (l0B I (dv c 1))) -∗ room sndL c
      -∗ ready c 3 -∗ sendRes c 3 -∗ room (slot bufR 1) (dv c 1) -∗ owing c 3
      -∗ (pend c 1 -∗ owing c 4 -∗ pts (slot bufL 0) c fullShare (slot3 (l0B I (dv c 1))) -∗ pts sndL c fullShare (l1B I c) -∗ Q ⟨⟩)
      -∗ run c (ap (k0_part7 (F := F)) c u v (k0_pay16 (lat I c) (ukC I c 6)) (k0_pay17 (lat I c) (uvC I c 6)) (k0_pay19 (k0_pay15 (lat I c) (uvC I c 2)) (up (r0V I (dv c 7))))) Q) := by
  rw [k0_part7_eq_skeleton]; unfold k0_part7_skel
  simp only [Prog.lift, Prog.bind_op, Prog.bind_ret, Prog.pure_eq_ret, Prog.bind_assoc]
  iintro #HI HA HL HB HR HS HD HO Hk
  iapply (store_sr_r c (r1K I c) (r1V I c) b') $$ HA
  iintro HA
  iapply (load_ll c 0 (l0K I (dv c 1)) (l0V I (dv c 1))) $$ HL
  iintro HL
  iapply (load_any c sndL) $$ HB
  iintro %w HB
  iapply (store_sl_l c (l1K I c)) $$ HB
  iintro %b HB
  iapply (load_lr c 0 (l0K I (dv c 1)) (l0V I (dv c 1))) $$ HL
  iintro HL
  iapply (load_of c sndL _ rfl) $$ HB
  iintro HB
  iapply (store_sl_r c (l1K I c) (l1V I c) b) $$ HB
  iintro HB
  iapply (sendTo I K c 3 (c' := ⟨k0_dev7 c, k0_dev7_lt c⟩) (d := dv c 1) (n := 3) (m := 4) (k := 1) rfl rfl rfl rfl (Fin.ext (k0_dev7_eq c)) (src₀ := sndR) (dst₀ := slot bufR 1) rfl rfl rfl rfl (amt_slotR (by decide))
    .rfl (land3 I c)) $$ HI HR HS HA HD HO
  iintro ⟨HP, HO⟩
  iapply (ret_of c Q ⟨⟩ (by rfl))
  iapply Hk $$ HP HO HL HB

set_option maxHeartbeats 1000000 in
theorem part8 (u v : BitVec 32) (Q : (Σ' (_ : FVec F S1024x256 .f32) (_ : FVec F S1024x256 .f32) (_ : FVec F S1024x256 .f32), FVec F S1024x256 .f32) → sProp 𝕄) :
    (allInv I K : sProp 𝕄) ⊢ iprop(pts sndL c fullShare (l1B I c) -∗ ready c 4 -∗ sendRes c 4 -∗ room (slot bufL 1) (dv c 7) -∗ owing c 4
      -∗ pts wUk c fullShare (I c).uk -∗ pts wUv c fullShare (I c).uv -∗ pend c 1
      -∗ (pend c 7 -∗ owing c 5 -∗ pts wUk c fullShare (I c).uk -∗ pts wUv c fullShare (I c).uv -∗ done c 1 -∗ room sndR c
        -∗ Q ⟨k0_pay23 (lat I c) (ukC I c 1), k0_pay24 (lat I c) (uvC I c 1), k0_pay25 (lat I c) (ukC I c 7), k0_pay26 (lat I c) (uvC I c 7)⟩)
      -∗ run c (ap (k0_part8 (F := F)) c u v (lat I c)) Q) := by
  rw [k0_part8_eq_skeleton]; unfold k0_part8_skel
  simp only [Prog.lift, Prog.bind_op, Prog.bind_ret, Prog.pure_eq_ret, Prog.bind_assoc]
  iintro #HI HB HR HS HD HO HUk HUv HP1 Hk
  iapply (sendTo I K c 4 (c' := ⟨k0_dev8 c, k0_dev8_lt c⟩) (d := dv c 7) (n := 4) (m := 5) (k := 7) rfl rfl rfl rfl (Fin.ext (k0_dev8_eq c)) (src₀ := sndL) (dst₀ := slot bufL 1) rfl rfl rfl rfl (amt_slotL (by decide))
    .rfl (land4 I c)) $$ HI HR HS HB HD HO
  iintro ⟨HP, HO⟩
  iapply (load_uk I c 1) $$ HUk
  iintro HUk
  iapply (load_uv I c 1) $$ HUv
  iintro HUv
  iapply (load_uk I c 7) $$ HUk
  iintro HUk
  iapply (load_uv I c 7) $$ HUv
  iintro HUv
  iapply (waitTo I K c 1 5 (pts sndR c fullShare (r1B I c)) rfl (by decide) rfl (amt_sndR (by decide))) $$ HI HP1 HO
  iintro ⟨HO, HD1, HA⟩
  ihave HA := (room_of c sndR _) $$ HA
  iapply (ret_of c Q ⟨k0_pay23 (lat I c) (ukC I c 1), k0_pay24 (lat I c) (uvC I c 1), k0_pay25 (lat I c) (ukC I c 7), k0_pay26 (lat I c) (uvC I c 7)⟩ (by rfl))
  iapply Hk $$ HP HO HUk HUv HD1 HA

set_option maxHeartbeats 1000000 in
theorem part9 (u : BitVec 32) (Q : PUnit → sProp 𝕄) :
    (allInv I K : sProp 𝕄) ⊢ iprop(room sndR c -∗ pend c 4 -∗ pend c 7 -∗ pend c 10 -∗ owing c 5
      -∗ (owing c 5 -∗ done c 4 -∗ done c 7 -∗ done c 10 -∗ room sndL c
        -∗ pts (slot bufR 1) c fullShare (slot3 (r1B I (dv c 7))) -∗ pts (slot bufL 1) c fullShare (slot3 (l1B I (dv c 1))) -∗ pts sndR c fullShare (r2B I c) -∗ Q ⟨⟩)
      -∗ run c (ap (k0_part9 (F := F)) u (k0_pay23 (lat I c) (ukC I c 1)) (k0_pay24 (lat I c) (uvC I c 1))) Q) := by
  rw [k0_part9_eq_skeleton]; unfold k0_part9_skel
  simp only [Prog.lift, Prog.bind_op, Prog.bind_ret, Prog.pure_eq_ret, Prog.bind_assoc]
  iintro #HI HA HP3 HP6 HP9 HO Hk
  iapply (waitTo I K c 4 5 (pts (slot bufR 1) c fullShare (slot3 (r1B I (dv c 7)))) rfl (by decide) rfl (amt_slotR (k := 1) (by decide))) $$ HI HP3 HO
  iintro ⟨HO, HD3, HR⟩
  iapply (waitTo I K c 7 5 (pts sndL c fullShare (l1B I c)) rfl (by decide) rfl (amt_sndL (by decide))) $$ HI HP6 HO
  iintro ⟨HO, HD6, HB⟩
  ihave HB := (room_of c sndL _) $$ HB
  iapply (waitTo I K c 10 5 (pts (slot bufL 1) c fullShare (slot3 (l1B I (dv c 1)))) rfl (by decide) rfl (amt_slotL (k := 1) (by decide))) $$ HI HP9 HO
  iintro ⟨HO, HD9, HL⟩
  iapply (load_rl c 1 (r1K I (dv c 7)) (r1V I (dv c 7))) $$ HR
  iintro HR
  iapply (load_any c sndR) $$ HA
  iintro %w HA
  iapply (store_sr_l c (r2K I c)) $$ HA
  iintro %b HA
  iapply (load_rr c 1 (r1K I (dv c 7)) (r1V I (dv c 7))) $$ HR
  iintro HR
  iapply (load_of c sndR _ rfl) $$ HA
  iintro HA
  iapply (store_sr_r c (r2K I c) (r2V I c) b) $$ HA
  iintro HA
  iapply (ret_of c Q ⟨⟩ (by rfl))
  iapply Hk $$ HO HD3 HD6 HD9 HB HR HL HA

set_option maxHeartbeats 1000000 in
theorem part10 (u v : BitVec 32) (Q : PUnit → sProp 𝕄) :
    (allInv I K : sProp 𝕄) ⊢ iprop(pts (slot bufL 1) c fullShare (slot3 (l1B I (dv c 1))) -∗ room sndL c -∗ pts sndR c fullShare (r2B I c)
      -∗ ready c 5 -∗ sendRes c 5 -∗ room (slot bufR 2) (dv c 1) -∗ ready c 6 -∗ sendRes c 6 -∗ room (slot bufL 2) (dv c 7) -∗ owing c 5
      -∗ (pend c 2 -∗ pend c 8 -∗ owing c 7 -∗ pts (slot bufL 1) c fullShare (slot3 (l1B I (dv c 1))) -∗ Q ⟨⟩)
      -∗ run c (ap (k0_part10 (F := F)) c u v (k0_pay25 (lat I c) (ukC I c 7)) (k0_pay26 (lat I c) (uvC I c 7))) Q) := by
  rw [k0_part10_eq_skeleton]; unfold k0_part10_skel
  simp only [Prog.lift, Prog.bind_op, Prog.bind_ret, Prog.pure_eq_ret, Prog.bind_assoc]
  iintro #HI HL HB HA HR5 HS5 HD5 HR6 HS6 HD6 HO Hk
  iapply (load_ll c 1 (l1K I (dv c 1)) (l1V I (dv c 1))) $$ HL
  iintro HL
  iapply (load_any c sndL) $$ HB
  iintro %w HB
  iapply (store_sl_l c (l2K I c)) $$ HB
  iintro %b HB
  iapply (load_lr c 1 (l1K I (dv c 1)) (l1V I (dv c 1))) $$ HL
  iintro HL
  iapply (load_of c sndL _ rfl) $$ HB
  iintro HB
  iapply (store_sl_r c (l2K I c) (l2V I c) b) $$ HB
  iintro HB
  iapply (sendTo I K c 5 (c' := ⟨k0_dev9 c, k0_dev9_lt c⟩) (d := dv c 1) (n := 5) (m := 6) (k := 2) rfl rfl rfl rfl (Fin.ext (k0_dev9_eq c)) (src₀ := sndR) (dst₀ := slot bufR 2) rfl rfl rfl rfl (amt_slotR (by decide))
    .rfl (land5 I c)) $$ HI HR5 HS5 HA HD5 HO
  iintro ⟨HP5, HO⟩
  iapply (sendTo I K c 6 (c' := ⟨k0_dev10 c, k0_dev10_lt c⟩) (d := dv c 7) (n := 6) (m := 7) (k := 8) rfl rfl rfl rfl (Fin.ext (k0_dev10_eq c)) (src₀ := sndL) (dst₀ := slot bufL 2) rfl rfl rfl rfl (amt_slotL (by decide))
    .rfl (land6 I c)) $$ HI HR6 HS6 HB HD6 HO
  iintro ⟨HP6, HO⟩
  iapply (ret_of c Q ⟨⟩ (by rfl))
  iapply Hk $$ HP5 HP6 HO HL

end Cert.Mla

end
-- ==== Proof.BodyC.lean ====
/-
  The output weights into low precision, block by block; the last round of the rings; the sums of keys and values.
-/
module

public import proofs.«01_k».proof.Proof.BodyB

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

/-- The four blocks of output weights as they are filled in, one by one. -/
theorem wo_full (A : Fin 4 → Vec F S512x2048 .bf16) :
    Function.update (Function.update (Function.update (Function.update A 0 (woq I c 0)) 1 (woq I c 1)) 2 (woq I c 2)) 3 (woq I c 3) = woq I c := by
  funext k; fin_cases k <;> rfl
theorem wog_full (A : Fin 4 → Vec F S512x2048 .bf16) :
    (pts wog c fullShare (rows4 (Function.update (Function.update (Function.update (Function.update A 0 (woq I c 0)) 1 (woq I c 1)) 2 (woq I c 2)) 3 (woq I c 3))) : sProp 𝕄)
      ⊢ pts wog c fullShare (woC I c) := by
  rw [wo_full]; exact .rfl

set_option maxHeartbeats 1000000 in
theorem part11 (u : BitVec 32) (A : Fin 4 → Vec F S512x2048 .bf16) (Q : (Σ' (_ : FVec F S1024x256 .f32), FVec F S1024x256 .f32) → sProp 𝕄) :
    (allInv I K : sProp 𝕄) ⊢ iprop(pts wUk c fullShare (I c).uk -∗ pts wUv c fullShare (I c).uv -∗ pend c 28 -∗ owing c 7 -∗ pts wog c fullShare (rows4 A) -∗ copyRes c 30 -∗ pts (wob 2) c fullShare (I c).wo
      -∗ (pts wUk c fullShare (I c).uk -∗ pts wUv c fullShare (I c).uv -∗ owing c 7 -∗ done c 28 -∗ pts wog c fullShare (rows4 (Function.update A 0 (woq I c 0))) -∗ pend c 30 -∗ pts (wob 0) c fullShare (I c).wo -∗ Q ⟨ownK I c, ownV I c⟩)
      -∗ run c (ap (k0_part11 (F := F)) c u (lat I c)) Q) := by
  rw [k0_part11_eq_skeleton]; unfold k0_part11_skel
  simp only [Prog.lift, Prog.bind_op, Prog.bind_ret, Prog.pure_eq_ret, Prog.bind_assoc]
  iintro #HI HUk HUv HP HO HG HC HW2 Hk
  iapply (load_uk I c 0) $$ HUk
  iintro HUk
  iapply (load_uv I c 0) $$ HUv
  iintro HUv
  iapply (waitTo I K c 28 7 (iprop(pts (stage 0) c fullShare (stage2 (row512 (I c).wo 0)) ∗ pts (wob 0) c fullShare (I c).wo)) rfl (by decide) rfl (amt_stage (k := 0) (by decide))) $$ HI HP HO
  iintro ⟨HO, HD, HS, HW0⟩
  iapply (load_stage c 0 (row512 (I c).wo 0)) $$ HS
  iintro HS
  iapply (load_of c wog _ rfl) $$ HG
  iintro HG
  iapply (store_wo c A 0 (woq I c 0)) $$ HG
  iintro HG
  ihave HS := (room_of c (stage 0) _) $$ HS
  iapply (copyC I K c 30 (src := wob 2) (dst := stage 0) rfl (amt_stage (by decide)) (copy_pay30 I c)) $$ HI HC HW2 HS
  iintro HP30
  iapply (ret_of c Q ⟨ownK I c, ownV I c⟩ (by rfl))
  iapply Hk $$ HUk HUv HO HD HG HP30 HW0

set_option maxHeartbeats 1000000 in
theorem part12 (A : Fin 4 → Vec F S512x2048 .bf16) (Q : PUnit → sProp 𝕄) :
    (allInv I K : sProp 𝕄) ⊢ iprop(pend c 29 -∗ pend c 30 -∗ owing c 7 -∗ pts wog c fullShare (rows4 (Function.update A 0 (woq I c 0))) -∗ copyRes c 31 -∗ pts (wob 3) c fullShare (I c).wo
      -∗ (owing c 7 -∗ done c 29 -∗ done c 30 -∗ pts wog c fullShare (rows4 (Function.update (Function.update (Function.update A 0 (woq I c 0)) 1 (woq I c 1)) 2 (woq I c 2))) -∗ pend c 31
        -∗ pts (wob 1) c fullShare (I c).wo -∗ pts (wob 2) c fullShare (I c).wo -∗ room (stage 0) c -∗ Q ⟨⟩)
      -∗ run c (ap (k0_part12 (F := F))) Q) := by
  rw [k0_part12_eq_skeleton]; unfold k0_part12_skel
  simp only [Prog.lift, Prog.bind_op, Prog.bind_ret, Prog.pure_eq_ret, Prog.bind_assoc]
  iintro #HI HP29 HP30 HO HG HC HW3 Hk
  iapply (waitTo I K c 29 7 (iprop(pts (stage 1) c fullShare (stage2 (row512 (I c).wo 1)) ∗ pts (wob 1) c fullShare (I c).wo)) rfl (by decide) rfl (amt_stage (k := 1) (by decide))) $$ HI HP29 HO
  iintro ⟨HO, HD29, HS1, HW1⟩
  iapply (load_stage c 1 (row512 (I c).wo 1)) $$ HS1
  iintro HS1
  iapply (load_of c wog _ rfl) $$ HG
  iintro HG
  iapply (store_wo c (Function.update A 0 (woq I c 0)) 1 (woq I c 1)) $$ HG
  iintro HG
  ihave HS1 := (room_of c (stage 1) _) $$ HS1
  iapply (copyC I K c 31 (src := wob 3) (dst := stage 1) rfl (amt_stage (by decide)) (copy_pay31 I c)) $$ HI HC HW3 HS1
  iintro HP31
  iapply (waitTo I K c 30 7 (iprop(pts (stage 0) c fullShare (stage2 (row512 (I c).wo 2)) ∗ pts (wob 2) c fullShare (I c).wo)) rfl (by decide) rfl (amt_stage (k := 0) (by decide))) $$ HI HP30 HO
  iintro ⟨HO, HD30, HS0, HW2⟩
  iapply (load_stage c 0 (row512 (I c).wo 2)) $$ HS0
  iintro HS0
  iapply (load_of c wog _ rfl) $$ HG
  iintro HG
  iapply (store_wo c (Function.update (Function.update A 0 (woq I c 0)) 1 (woq I c 1)) 2 (woq I c 2)) $$ HG
  iintro HG
  ihave HS0 := (room_of c (stage 0) _) $$ HS0
  iapply (ret_of c Q ⟨⟩ (by rfl))
  iapply Hk $$ HO HD29 HD30 HG HP31 HW1 HW2 HS0

set_option maxHeartbeats 1000000 in
theorem part13 (u : BitVec 32) (A : Fin 4 → Vec F S512x2048 .bf16) (Q : BitVec 32 → sProp 𝕄) :
    (allInv I K : sProp 𝕄) ⊢ iprop(pend c 31 -∗ pend c 2 -∗ pend c 5 -∗ pend c 8 -∗ owing c 7 -∗ pts wog c fullShare (rows4 (Function.update (Function.update (Function.update A 0 (woq I c 0)) 1 (woq I c 1)) 2 (woq I c 2)))
      -∗ (∀ w, owing c 7 -∗ done c 31 -∗ done c 2 -∗ done c 5 -∗ done c 8 -∗ pts wog c fullShare (woC I c)
        -∗ pts (wob 3) c fullShare (I c).wo -∗ room (stage 1) c -∗ room sndR c -∗ pts (slot bufR 2) c fullShare (slot3 (r2B I (dv c 7))) -∗ room sndL c -∗ Q w)
      -∗ run c (ap (k0_part13 (F := F)) u) Q) := by
  rw [k0_part13_eq_skeleton]; unfold k0_part13_skel
  simp only [Prog.lift, Prog.bind_op, Prog.bind_ret, Prog.pure_eq_ret, Prog.bind_assoc]
  iintro #HI HP31 HP2 HP5 HP8 HO HG Hk
  iapply (waitTo I K c 31 7 (iprop(pts (stage 1) c fullShare (stage2 (row512 (I c).wo 3)) ∗ pts (wob 3) c fullShare (I c).wo)) rfl (by decide) rfl (amt_stage (k := 1) (by decide))) $$ HI HP31 HO
  iintro ⟨HO, HD31, HS1, HW3⟩
  iapply (load_stage c 1 (row512 (I c).wo 3)) $$ HS1
  iintro HS1
  iapply (load_of c wog _ rfl) $$ HG
  iintro HG
  iapply (store_wo c (Function.update (Function.update (Function.update A 0 (woq I c 0)) 1 (woq I c 1)) 2 (woq I c 2)) 3 (woq I c 3)) $$ HG
  iintro HG
  ihave HS1 := (room_of c (stage 1) _) $$ HS1
  ihave HG := (wog_full I c A) $$ HG
  iapply (waitTo I K c 2 7 (pts sndR c fullShare (r2B I c)) rfl (by decide) rfl (amt_sndR (by decide))) $$ HI HP2 HO
  iintro ⟨HO, HD2, HA⟩
  ihave HA := (room_of c sndR _) $$ HA
  iapply (waitTo I K c 5 7 (pts (slot bufR 2) c fullShare (slot3 (r2B I (dv c 7)))) rfl (by decide) rfl (amt_slotR (k := 2) (by decide))) $$ HI HP5 HO
  iintro ⟨HO, HD5, HR⟩
  iapply (waitTo I K c 8 7 (pts sndL c fullShare (l2B I c)) rfl (by decide) rfl (amt_sndL (by decide))) $$ HI HP8 HO
  iintro ⟨HO, HD8, HB⟩
  ihave HB := (room_of c sndL _) $$ HB
  iapply (ret_of c Q _ (by rfl))
  iapply Hk $$ HO HD31 HD2 HD5 HD8 HG HW3 HS1 HA HR HB

set_option maxHeartbeats 1000000 in
theorem part14 (u v w : BitVec 32) (Q : (Σ' (_ : FVec F S1024x256 .bf16), FVec F S1024x256 .f32) → sProp 𝕄) :
    (allInv I K : sProp 𝕄) ⊢ iprop(pend c 11 -∗ pend c 12 -∗ pend c 13 -∗ owing c 7 -∗ pts (slot bufR 2) c fullShare (slot3 (r2B I (dv c 7)))
      -∗ (owing c 7 -∗ done c 11 -∗ done c 12 -∗ done c 13 -∗ pts (slot bufR 2) c fullShare (slot3 (r2B I (dv c 7))) -∗ pts (slot bufL 2) c fullShare (slot3 (l2B I (dv c 1)))
        -∗ room cdS c -∗ pts cdR c fullShare (cdB I (dv c 4)) -∗ Q ⟨km I c, vacc I c⟩)
      -∗ run c (ap (k0_part14 (F := F)) u v (ownK I c) w) Q) := by
  rw [k0_part14_eq_skeleton]; unfold k0_part14_skel
  simp only [Prog.lift, Prog.bind_op, Prog.bind_ret, Prog.pure_eq_ret, Prog.bind_assoc]
  iintro #HI HP11 HP12 HP13 HO HR Hk
  iapply (waitTo I K c 11 7 (pts (slot bufL 2) c fullShare (slot3 (l2B I (dv c 1)))) rfl (by decide) rfl (amt_slotL (k := 2) (by decide))) $$ HI HP11 HO
  iintro ⟨HO, HD11, HL⟩
  iapply (waitTo I K c 12 7 (pts cdS c fullShare (cdB I c)) rfl (by decide) rfl (amt_cdS (by decide))) $$ HI HP12 HO
  iintro ⟨HO, HD12, HS⟩
  ihave HS := (room_of c cdS _) $$ HS
  iapply (waitTo I K c 13 7 (pts cdR c fullShare (cdB I (dv c 4))) rfl (by decide) rfl (amt_cdR (by decide))) $$ HI HP13 HO
  iintro ⟨HO, HD13, HX⟩
  iapply (load_rl c 2 (r2K I (dv c 7)) (r2V I (dv c 7))) $$ HR
  iintro HR
  iapply (load_ll c 2 (l2K I (dv c 1)) (l2V I (dv c 1))) $$ HL
  iintro HL
  iapply (load_of c cdR (cdK I (dv c 4)) (halves_l _ _ _)) $$ HX
  iintro HX
  iapply (load_rr c 2 (r2K I (dv c 7)) (r2V I (dv c 7))) $$ HR
  iintro HR
  iapply (load_lr c 2 (l2K I (dv c 1)) (l2V I (dv c 1))) $$ HL
  iintro HL
  iapply (ret_of c Q ⟨km I c, vacc I c⟩ (by rfl))
  iapply Hk $$ HO HD11 HD12 HD13 HR HL HS HX

end Cert.Mla

end
-- ==== Proof.BodyD.lean ====
/-
  The attention outputs of the device's own two heads, and the first copies of them to other devices.
-/
module

public import proofs.«01_k».proof.Proof.BodyC

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

/-- The four quarters of the own block as they are filled in, one by one. -/
theorem quads_full (A : Fin 2 → Fin 2 → Vec F S512x128 .bf16) :
    upd (upd (upd (upd A 0 0 (oq I c 0 0)) 0 1 (oq I c 0 1)) 1 0 (oq I c 1 0)) 1 1 (oq I c 1 1) = oq I c := by
  funext r h; fin_cases r <;> fin_cases h <;> rfl

omit [FloatOps F] in
/-- A share in two halves. -/
theorem pts_split {sp : Space} {s : Shape} {e : EltTy} (M : Memref sig .tc sp s e) (q : PosShare TreeShare) (f : Buf (Elt F) (M.view.loc (c : Thread nD τ))) :
    (pts M c q f : sProp 𝕄) ⊣⊢ iprop(pts M c q.left f ∗ pts M c q.right f) := pointsTo_share (PosShare.mem_left_op_right q)
omit [FloatOps F] in
/-- The whole share in four quarters, and back. -/
theorem pts_quarter {sp : Space} {s : Shape} {e : EltTy} (M : Memref sig .tc sp s e) (f : Buf (Elt F) (M.view.loc (c : Thread nD τ))) :
    (pts M c fullShare f : sProp 𝕄) ⊢ iprop(pts M c q1 f ∗ pts M c q2 f ∗ pts M c q3 f ∗ pts M c q4 f) := by
  iintro H
  ihave H := (pts_split c M fullShare f).1 $$ H
  icases H with ⟨HL, HR⟩
  ihave HL := (pts_split c M fullShare.left f).1 $$ HL
  ihave HR := (pts_split c M fullShare.right f).1 $$ HR
  icases HL with ⟨H1, H2⟩
  icases HR with ⟨H3, H4⟩
  isplitl [H1]; · iexact H1
  isplitl [H2]; · iexact H2
  isplitl [H3] <;> iassumption
omit [FloatOps F] in
theorem pts_unquarter {sp : Space} {s : Shape} {e : EltTy} (M : Memref sig .tc sp s e) (f : Buf (Elt F) (M.view.loc (c : Thread nD τ))) :
    iprop(pts M c q1 f ∗ pts M c q2 f ∗ pts M c q3 f ∗ pts M c q4 f) ⊢ (pts M c fullShare f : sProp 𝕄) := by
  iintro ⟨H1, H2, H3, H4⟩
  iapply (pts_split c M fullShare f).2
  isplitl [H1 H2]
  · iapply (pts_split c M fullShare.left f).2
    isplitl [H1] <;> iassumption
  · iapply (pts_split c M fullShare.right f).2
    isplitl [H3] <;> iassumption
theorem out0_eq : k0_pay49 (op I c) (wr I c 0) = out0 I c := by unfold out0; rw [dv_zero]

set_option maxHeartbeats 1000000 in
theorem part15 (u : BitVec 32) (A : Fin 2 → Fin 2 → Vec F S512x128 .bf16) (Q : (Σ' (_ : FVec F S1024x256 .bf16), FVec F S512x512 .f32) → sProp 𝕄) :
    (pts cdR c fullShare (cdB I (dv c 4)) : sProp 𝕄) ⊢ iprop(pts (piece c) c fullShare (gather fun _ => quads A)
      -∗ (room cdR c -∗ pts (piece c) c fullShare (gather fun _ => quads (upd A 0 0 (oq I c 0 0))) -∗ Q ⟨vm I c, k0_pay42 (qv I c) (qrv I c) (krv I c) (km I c)⟩)
      -∗ run c (ap (k0_part15 (F := F)) c u (qv I c) (qrv I c) (krv I c) (ownV I c) (km I c) (vacc I c)) Q) := by
  rw [k0_part15_eq_skeleton]; unfold k0_part15_skel
  simp only [Prog.lift, Prog.bind_op, Prog.bind_ret, Prog.pure_eq_ret, Prog.bind_assoc]
  iintro HX HG Hk
  iapply (load_of c cdR (cdV I (dv c 4)) (halves_r _ _ _)) $$ HX
  iintro HX
  ihave HX := (room_of c cdR _) $$ HX
  iapply (load_quad c 0 0 (k0_off2_eq c 0)) $$ HG
  iintro %w00 HG
  iapply (store_quad c A 0 0 (oq I c 0 0) (k0_off2_eq c 0)) $$ HG
  iintro HG
  iapply (ret_of c Q ⟨vm I c, k0_pay42 (qv I c) (qrv I c) (krv I c) (km I c)⟩ (by rfl))
  iapply Hk $$ HX HG

set_option maxHeartbeats 1000000 in
theorem part16 (u : BitVec 32) (A : Fin 2 → Fin 2 → Vec F S512x128 .bf16) (Q : (Σ' (_ : FVec F S512x32 .bf16) (_ : FVec F S512x128 .bf16), FVec F S512x128 .bf16) → sProp 𝕄) :
    (pts (piece c) c fullShare (gather fun _ => quads (upd A 0 0 (oq I c 0 0))) : sProp 𝕄)
      ⊢ iprop((pts (piece c) c fullShare (gather fun _ => quads (upd (upd (upd A 0 0 (oq I c 0 0)) 0 1 (oq I c 0 1)) 1 0 (oq I c 1 0))) -∗ Q ⟨k0_pay44 (krv I c), k0_pay46 (qv I c), k0_pay47 (km I c)⟩)
      -∗ run c (ap (k0_part16 (F := F)) c u (qv I c) (qrv I c) (krv I c) (km I c) (vm I c) (k0_pay42 (qv I c) (qrv I c) (krv I c) (km I c))) Q) := by
  rw [k0_part16_eq_skeleton]; unfold k0_part16_skel
  simp only [Prog.lift, Prog.bind_op, Prog.bind_ret, Prog.pure_eq_ret, Prog.bind_assoc]
  iintro HG Hk
  iapply (load_quad c 0 1 (k0_off2_eq c 1)) $$ HG
  iintro %w01 HG
  iapply (store_quad c (upd A 0 0 (oq I c 0 0)) 0 1 (oq I c 0 1) (k0_off2_eq c 1)) $$ HG
  iintro HG
  iapply (load_quad c 1 0 (k0_off3_eq c 0)) $$ HG
  iintro %w10 HG
  iapply (store_quad c (upd (upd A 0 0 (oq I c 0 0)) 0 1 (oq I c 0 1)) 1 0 (oq I c 1 0) (k0_off3_eq c 0)) $$ HG
  iintro HG
  iapply (ret_of c Q ⟨k0_pay44 (krv I c), k0_pay46 (qv I c), k0_pay47 (km I c)⟩ (by rfl))
  iapply Hk $$ HG

set_option maxHeartbeats 1000000 in
theorem part17 (u v : BitVec 32) (A : Fin 2 → Fin 2 → Vec F S512x128 .bf16) (Q : PUnit → sProp 𝕄) :
    (allInv I K : sProp 𝕄) ⊢ iprop(pts (piece c) c fullShare (gather fun _ => quads (upd (upd (upd A 0 0 (oq I c 0 0)) 0 1 (oq I c 0 1)) 1 0 (oq I c 1 0))) -∗ ready c 7 -∗ sendRes c 7 -∗ room (piece c) (dv c 4) -∗ owing c 7
      -∗ (pend c 26 -∗ owing c 8 -∗ pts (piece c) c q1 (OG I) -∗ pts (piece c) c q2 (OG I) -∗ pts (piece c) c q4 (OG I) -∗ Q ⟨⟩)
      -∗ run c (ap (k0_part17 (F := F)) c u v (qrv I c) (vm I c) (k0_pay44 (krv I c)) (k0_pay46 (qv I c)) (k0_pay47 (km I c))) Q) := by
  rw [k0_part17_eq_skeleton]; unfold k0_part17_skel
  simp only [Prog.lift, Prog.bind_op, Prog.bind_ret, Prog.pure_eq_ret, Prog.bind_assoc]
  iintro #HI HG HR HS HD HO Hk
  iapply (load_quad c 1 1 (k0_off3_eq c 1)) $$ HG
  iintro %w11 HG
  iapply (store_quad c (upd (upd (upd A 0 0 (oq I c 0 0)) 0 1 (oq I c 0 1)) 1 0 (oq I c 1 0)) 1 1 (oq I c 1 1) (k0_off3_eq c 1)) $$ HG
  iintro HG
  ihave HG := (own_piece I c _ (quads_full I c A) fullShare) $$ HG
  ihave HG := (pts_quarter c (piece c) (OG I)) $$ HG
  icases HG with ⟨H1, H2, H3, H4⟩
  iapply (sendTo I K c 7 (c' := ⟨k0_dev11 c, k0_dev11_lt c⟩) (d := dv c 4) (n := 7) (m := 8) (k := 26) rfl rfl rfl rfl (Fin.ext (k0_dev11_eq c)) (src₀ := piece c) (dst₀ := piece c)
    (Memref.slice_unit_congr ogat (k0_off4_eq c) _ _ _ _) (Memref.slice_unit_congr ogat (k0_off4_eq c) _ _ _ _) rfl rfl (amt_cols (by decide)) (q := q3) (fs := OG I) .rfl (land7 I c)) $$ HI HR HS H3 HD HO
  iintro ⟨HP, HO⟩
  iapply (ret_of c Q ⟨⟩ (by rfl))
  iapply Hk $$ HP HO H1 H2 H4

set_option maxHeartbeats 1000000 in
theorem part18 (u v w : BitVec 32) (Q : PUnit → sProp 𝕄) :
    (allInv I K : sProp 𝕄) ⊢ iprop(pts (piece c) c q1 (OG I) -∗ pts (piece c) c q2 (OG I) -∗ pts (piece c) c q4 (OG I) -∗ owing c 8
      -∗ ready c 8 -∗ sendRes c 8 -∗ room (piece c) (dv c 1) -∗ ready c 9 -∗ sendRes c 9 -∗ room (piece c) (dv c 7)
      -∗ pts wog c fullShare (woC I c) -∗ room wOut c
      -∗ (pend c 20 -∗ owing c 10 -∗ done c 14 -∗ pts (piece c) c q1 (OG I) -∗ pts (piece c) c q4 (OG I) -∗ pts wog c fullShare (woC I c) -∗ pts wOut c fullShare (out0 I c) -∗ Q ⟨⟩)
      -∗ run c (ap (k0_part18 (F := F)) c u v w) Q) := by
  rw [k0_part18_eq_skeleton]; unfold k0_part18_skel
  simp only [Prog.lift, Prog.bind_op, Prog.bind_ret, Prog.pure_eq_ret, Prog.bind_assoc]
  iintro #HI H1 H2 H4 HO HR8 HS8 HD8 HR9 HS9 HD9 HW HT Hk
  iapply (sendTo I K c 8 (c' := ⟨k0_dev12 c, k0_dev12_lt c⟩) (d := dv c 1) (n := 8) (m := 9) (k := 14) rfl rfl rfl rfl (Fin.ext (k0_dev12_eq c)) (src₀ := piece c) (dst₀ := piece c)
    (Memref.slice_unit_congr ogat (k0_off4_eq c) _ _ _ _) (Memref.slice_unit_congr ogat (k0_off4_eq c) _ _ _ _) rfl rfl (amt_cols (by decide)) (q := q1) (fs := OG I) .rfl (land8 I c)) $$ HI HR8 HS8 H1 HD8 HO
  iintro ⟨HP8, HO⟩
  iapply (sendTo I K c 9 (c' := ⟨k0_dev13 c, k0_dev13_lt c⟩) (d := dv c 7) (n := 9) (m := 10) (k := 20) rfl rfl rfl rfl (Fin.ext (k0_dev13_eq c)) (src₀ := piece c) (dst₀ := piece c)
    (Memref.slice_unit_congr ogat (k0_off4_eq c) _ _ _ _) (Memref.slice_unit_congr ogat (k0_off4_eq c) _ _ _ _) rfl rfl (amt_cols (by decide)) (q := q2) (fs := OG I) .rfl (land9 I c)) $$ HI HR9 HS9 H2 HD9 HO
  iintro ⟨HP9, HO⟩
  iapply (load_piece I c c (k0_off5_eq c)) $$ H4
  iintro H4
  iapply (load_wo I c 0 (off6_eq c)) $$ HW
  iintro HW
  iapply (load_any c wOut) $$ HT
  iintro %w' HT
  iapply (store_out c (k0_pay49 (op I c) (wr I c 0))) $$ HT
  iintro HT
  ihave HT := (Entails.of_eq (congrArg (fun f => pts wOut c fullShare f) (out0_eq I c))) $$ HT
  iapply (waitTo I K c 14 10 (pts (piece c) c q1 (OG I)) rfl (by decide) rfl (amt_cols (by decide))) $$ HI HP8 HO
  iintro ⟨HO, HD, H1⟩
  iapply (ret_of c Q ⟨⟩ (by rfl))
  iapply Hk $$ HP9 HO HD H1 H4 HW HT

set_option maxHeartbeats 1000000 in
theorem part19 (u v w : BitVec 32) (Q : (Σ' (_ : BitVec 32), BitVec 32) → sProp 𝕄) :
    (allInv I K : sProp 𝕄) ⊢ iprop(pend c 17 -∗ pend c 20 -∗ pend c 23 -∗ owing c 10
      -∗ (∀ a b, owing c 10 -∗ done c 17 -∗ done c 20 -∗ done c 23 -∗ pts (piece (dv c 7)) c fullShare (OG I) -∗ pts (piece c) c q2 (OG I) -∗ pts (piece (dv c 1)) c fullShare (OG I) -∗ Q ⟨a, b⟩)
      -∗ run c (ap (k0_part19 (F := F)) c u v w) Q) := by
  rw [k0_part19_eq_skeleton]; unfold k0_part19_skel
  simp only [Prog.lift, Prog.bind_op, Prog.bind_ret, Prog.pure_eq_ret, Prog.bind_assoc]
  iintro #HI HP17 HP20 HP23 HO Hk
  iapply (waitTo I K c 17 10 (pts (piece (dv c 7)) c fullShare (OG I)) rfl (by decide) rfl (amt_cols (by decide))) $$ HI HP17 HO
  iintro ⟨HO, HD17, HL⟩
  iapply (waitTo I K c 20 10 (pts (piece c) c q2 (OG I)) rfl (by decide) rfl (amt_cols (by decide))) $$ HI HP20 HO
  iintro ⟨HO, HD20, H2⟩
  iapply (waitTo I K c 23 10 (pts (piece (dv c 1)) c fullShare (OG I)) rfl (by decide) rfl (amt_cols (by decide))) $$ HI HP23 HO
  iintro ⟨HO, HD23, HR⟩
  iapply (ret_of c Q ⟨_, _⟩ (by rfl))
  iapply Hk $$ HO HD17 HD20 HD23 HL H2 HR

end Cert.Mla

end
-- ==== Proof.BodyE.lean ====
/-
  The gathered blocks are passed on around the two rings, and each is multiplied with its rows of the output weights and added
  to the result as it arrives.
-/
module

public import proofs.«01_k».proof.Proof.BodyD

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

set_option maxHeartbeats 1000000 in
theorem part20 (u v w : BitVec 32) (Q : FVec F S1024x2048 .f32 → sProp 𝕄) :
    (allInv I K : sProp 𝕄) ⊢ iprop(pts (piece (dv c 7)) c fullShare (OG I) -∗ pts (piece (dv c 1)) c fullShare (OG I) -∗ owing c 10
      -∗ ready c 10 -∗ sendRes c 10 -∗ room (piece (dv c 7)) (dv c 1) -∗ ready c 11 -∗ sendRes c 11 -∗ room (piece (dv c 1)) (dv c 7)
      -∗ pts wog c fullShare (woC I c) -∗ pts wOut c fullShare (out0 I c)
      -∗ (pend c 15 -∗ pend c 21 -∗ owing c 12 -∗ pts (piece (dv c 7)) c h2 (OG I) -∗ pts (piece (dv c 1)) c h2 (OG I) -∗ pts wog c fullShare (woC I c) -∗ pts wOut c fullShare (out1 I c) -∗ Q (out2 I c))
      -∗ run c (ap (k0_part20 (F := F)) c u v w) Q) := by
  rw [k0_part20_eq_skeleton]; unfold k0_part20_skel
  simp only [Prog.lift, Prog.bind_op, Prog.bind_ret, Prog.pure_eq_ret, Prog.bind_assoc]
  iintro #HI HL HR HO HR10 HS10 HD10 HR11 HS11 HD11 HW HT Hk
  ihave HL := (pts_split c (piece (dv c 7)) fullShare (OG I)).1 $$ HL
  icases HL with ⟨HL1, HL2⟩
  ihave HR := (pts_split c (piece (dv c 1)) fullShare (OG I)).1 $$ HR
  icases HR with ⟨HR1, HR2⟩
  iapply (sendTo I K c 10 (c' := ⟨k0_dev14 c, k0_dev14_lt c⟩) (d := dv c 1) (n := 10) (m := 11) (k := 15) rfl rfl rfl rfl (Fin.ext (k0_dev14_eq c)) (src₀ := piece (dv c 7)) (dst₀ := piece (dv c 7))
    (Memref.slice_unit_congr ogat (off7_eq c 0) _ _ _ _) (Memref.slice_unit_congr ogat (off7_eq c 0) _ _ _ _) rfl rfl (amt_cols (by decide)) (q := h1) (fs := OG I) .rfl (land10 I c)) $$ HI HR10 HS10 HL1 HD10 HO
  iintro ⟨HP10, HO⟩
  iapply (sendTo I K c 11 (c' := ⟨k0_dev15 c, k0_dev15_lt c⟩) (d := dv c 7) (n := 11) (m := 12) (k := 21) rfl rfl rfl rfl (Fin.ext (k0_dev15_eq c)) (src₀ := piece (dv c 1)) (dst₀ := piece (dv c 1))
    (Memref.slice_unit_congr ogat (off7_eq c 1) _ _ _ _) (Memref.slice_unit_congr ogat (off7_eq c 1) _ _ _ _) rfl rfl (amt_cols (by decide)) (q := h1) (fs := OG I) .rfl (land11 I c)) $$ HI HR11 HS11 HR1 HD11 HO
  iintro ⟨HP11, HO⟩
  iapply (load_out c (out0 I c)) $$ HT
  iintro HT
  iapply (load_piece I c (dv c 7) (off8_eq c 0)) $$ HL2
  iintro HL2
  iapply (load_wo I c 7 (off9_eq c 0)) $$ HW
  iintro HW
  iapply (load_out c (out0 I c)) $$ HT
  iintro HT
  ihave HT := (room_of c wOut _) $$ HT
  iapply (store_out c (out1 I c)) $$ HT
  iintro HT
  iapply (load_out c (out1 I c)) $$ HT
  iintro HT
  iapply (load_piece I c (dv c 1) (off8_eq c 1)) $$ HR2
  iintro HR2
  iapply (load_wo I c 1 (off9_eq c 1)) $$ HW
  iintro HW
  iapply (ret_of c Q (out2 I c) (by rfl))
  iapply Hk $$ HP10 HP11 HO HL2 HR2 HW HT

set_option maxHeartbeats 1000000 in
theorem part21 (u v w : BitVec 32) (Q : (Σ' (_ : BitVec 32), BitVec 32) → sProp 𝕄) :
    (allInv I K : sProp 𝕄) ⊢ iprop(pts wOut c fullShare (out1 I c) -∗ pend c 15 -∗ pend c 18 -∗ pend c 21 -∗ pend c 24 -∗ owing c 12
      -∗ (∀ a b, owing c 12 -∗ done c 15 -∗ done c 18 -∗ done c 21 -∗ done c 24 -∗ pts (piece (dv c 7)) c h1 (OG I) -∗ pts (piece (dv c 6)) c fullShare (OG I)
        -∗ pts (piece (dv c 1)) c h1 (OG I) -∗ pts (piece (dv c 2)) c fullShare (OG I) -∗ pts wOut c fullShare (out2 I c) -∗ Q ⟨a, b⟩)
      -∗ run c (ap (k0_part21 (F := F)) c u v w (out2 I c)) Q) := by
  rw [k0_part21_eq_skeleton]; unfold k0_part21_skel
  simp only [Prog.lift, Prog.bind_op, Prog.bind_ret, Prog.pure_eq_ret, Prog.bind_assoc]
  iintro #HI HT HP15 HP18 HP21 HP24 HO Hk
  iapply (load_out c (out1 I c)) $$ HT
  iintro HT
  ihave HT := (room_of c wOut _) $$ HT
  iapply (store_out c (out2 I c)) $$ HT
  iintro HT
  iapply (waitTo I K c 15 12 (pts (piece (dv c 7)) c h1 (OG I)) rfl (by decide) rfl (amt_cols (by decide))) $$ HI HP15 HO
  iintro ⟨HO, HD15, H7⟩
  iapply (waitTo I K c 18 12 (pts (piece (dv c 6)) c fullShare (OG I)) rfl (by decide) rfl (amt_cols (by decide))) $$ HI HP18 HO
  iintro ⟨HO, HD18, H6⟩
  iapply (waitTo I K c 21 12 (pts (piece (dv c 1)) c h1 (OG I)) rfl (by decide) rfl (amt_cols (by decide))) $$ HI HP21 HO
  iintro ⟨HO, HD21, H1⟩
  iapply (waitTo I K c 24 12 (pts (piece (dv c 2)) c fullShare (OG I)) rfl (by decide) rfl (amt_cols (by decide))) $$ HI HP24 HO
  iintro ⟨HO, HD24, H2⟩
  iapply (ret_of c Q ⟨_, _⟩ (by rfl))
  iapply Hk $$ HO HD15 HD18 HD21 HD24 H7 H6 H1 H2 HT

set_option maxHeartbeats 1000000 in
theorem part22 (u v w x : BitVec 32) (Q : (Σ' (_ : FVec F S1024x2048 .f32), BitVec 32) → sProp 𝕄) :
    (allInv I K : sProp 𝕄) ⊢ iprop(pts (piece (dv c 6)) c fullShare (OG I) -∗ pts (piece (dv c 2)) c fullShare (OG I) -∗ owing c 12
      -∗ ready c 12 -∗ sendRes c 12 -∗ room (piece (dv c 6)) (dv c 1) -∗ ready c 13 -∗ sendRes c 13 -∗ room (piece (dv c 2)) (dv c 7)
      -∗ pts wog c fullShare (woC I c) -∗ pts wOut c fullShare (out2 I c)
      -∗ (∀ a, pend c 16 -∗ pend c 22 -∗ owing c 14 -∗ pts (piece (dv c 6)) c h2 (OG I) -∗ pts (piece (dv c 2)) c h2 (OG I) -∗ pts wog c fullShare (woC I c) -∗ pts wOut c fullShare (out3 I c) -∗ Q ⟨k0_pay53 (out3 I c), a⟩)
      -∗ run c (ap (k0_part22 (F := F)) c u v w x) Q) := by
  rw [k0_part22_eq_skeleton]; unfold k0_part22_skel
  simp only [Prog.lift, Prog.bind_op, Prog.bind_ret, Prog.pure_eq_ret, Prog.bind_assoc]
  iintro #HI HL HR HO HR12 HS12 HD12 HR13 HS13 HD13 HW HT Hk
  ihave HL := (pts_split c (piece (dv c 6)) fullShare (OG I)).1 $$ HL
  icases HL with ⟨HL1, HL2⟩
  ihave HR := (pts_split c (piece (dv c 2)) fullShare (OG I)).1 $$ HR
  icases HR with ⟨HR1, HR2⟩
  iapply (sendTo I K c 12 (c' := ⟨k0_dev16 c, k0_dev16_lt c⟩) (d := dv c 1) (n := 12) (m := 13) (k := 16) rfl rfl rfl rfl (Fin.ext (k0_dev16_eq c)) (src₀ := piece (dv c 6)) (dst₀ := piece (dv c 6))
    (Memref.slice_unit_congr ogat (off7_eq c 2) _ _ _ _) (Memref.slice_unit_congr ogat (off7_eq c 2) _ _ _ _) rfl rfl (amt_cols (by decide)) (q := h1) (fs := OG I) .rfl (land12 I c)) $$ HI HR12 HS12 HL1 HD12 HO
  iintro ⟨HP12, HO⟩
  iapply (sendTo I K c 13 (c' := ⟨k0_dev17 c, k0_dev17_lt c⟩) (d := dv c 7) (n := 13) (m := 14) (k := 22) rfl rfl rfl rfl (Fin.ext (k0_dev17_eq c)) (src₀ := piece (dv c 2)) (dst₀ := piece (dv c 2))
    (Memref.slice_unit_congr ogat (off7_eq c 3) _ _ _ _) (Memref.slice_unit_congr ogat (off7_eq c 3) _ _ _ _) rfl rfl (amt_cols (by decide)) (q := h1) (fs := OG I) .rfl (land13 I c)) $$ HI HR13 HS13 HR1 HD13 HO
  iintro ⟨HP13, HO⟩
  iapply (load_out c (out2 I c)) $$ HT
  iintro HT
  iapply (load_piece I c (dv c 6) (off8_eq c 2)) $$ HL2
  iintro HL2
  iapply (load_wo I c 6 (off9_eq c 2)) $$ HW
  iintro HW
  iapply (load_out c (out2 I c)) $$ HT
  iintro HT
  ihave HT := (room_of c wOut _) $$ HT
  iapply (store_out c (out3 I c)) $$ HT
  iintro HT
  iapply (load_out c (out3 I c)) $$ HT
  iintro HT
  iapply (ret_of c Q ⟨k0_pay53 (out3 I c), _⟩ (by rfl))
  iapply Hk $$ HP12 HP13 HO HL2 HR2 HW HT

set_option maxHeartbeats 1000000 in
theorem part23 (u v w x : BitVec 32) (Q : PUnit → sProp 𝕄) :
    (allInv I K : sProp 𝕄) ⊢ iprop(pts (piece (dv c 2)) c h2 (OG I) -∗ pts wog c fullShare (woC I c) -∗ pts wOut c fullShare (out3 I c) -∗ pend c 16 -∗ pend c 19 -∗ pend c 22 -∗ owing c 14
      -∗ (owing c 14 -∗ done c 16 -∗ done c 19 -∗ done c 22 -∗ pts (piece (dv c 2)) c h2 (OG I) -∗ pts wog c fullShare (woC I c) -∗ pts wOut c fullShare (out4 I c)
        -∗ pts (piece (dv c 6)) c h1 (OG I) -∗ pts (piece (dv c 5)) c fullShare (OG I) -∗ pts (piece (dv c 2)) c h1 (OG I) -∗ Q ⟨⟩)
      -∗ run c (ap (k0_part23 (F := F)) c u v w (k0_pay53 (out3 I c)) x) Q) := by
  rw [k0_part23_eq_skeleton]; unfold k0_part23_skel
  simp only [Prog.lift, Prog.bind_op, Prog.bind_ret, Prog.pure_eq_ret, Prog.bind_assoc]
  iintro #HI HR2 HW HT HP16 HP19 HP22 HO Hk
  iapply (load_piece I c (dv c 2) (off8_eq c 3)) $$ HR2
  iintro HR2
  iapply (load_wo I c 2 (off9_eq c 3)) $$ HW
  iintro HW
  iapply (load_out c (out3 I c)) $$ HT
  iintro HT
  ihave HT := (room_of c wOut _) $$ HT
  iapply (store_out c (out4 I c)) $$ HT
  iintro HT
  iapply (waitTo I K c 16 14 (pts (piece (dv c 6)) c h1 (OG I)) rfl (by decide) rfl (amt_cols (by decide))) $$ HI HP16 HO
  iintro ⟨HO, HD16, H6⟩
  iapply (waitTo I K c 19 14 (pts (piece (dv c 5)) c fullShare (OG I)) rfl (by decide) rfl (amt_cols (by decide))) $$ HI HP19 HO
  iintro ⟨HO, HD19, H5⟩
  iapply (waitTo I K c 22 14 (pts (piece (dv c 2)) c h1 (OG I)) rfl (by decide) rfl (amt_cols (by decide))) $$ HI HP22 HO
  iintro ⟨HO, HD22, H2⟩
  iapply (ret_of c Q ⟨⟩ (by rfl))
  iapply Hk $$ HO HD16 HD19 HD22 HR2 HW HT H6 H5 H2

set_option maxHeartbeats 1000000 in
theorem part24 (u : BitVec 32) (Q : PUnit → sProp 𝕄) :
    (allInv I K : sProp 𝕄) ⊢ iprop(pend c 25 -∗ owing c 14 -∗ pts (piece (dv c 5)) c fullShare (OG I) -∗ pts wog c fullShare (woC I c) -∗ pts wOut c fullShare (out4 I c)
      -∗ (owing c 14 -∗ done c 25 -∗ pts (piece (dv c 5)) c fullShare (OG I) -∗ pts (piece (dv c 3)) c fullShare (OG I) -∗ pts wog c fullShare (woC I c) -∗ pts wOut c fullShare (out6 I c) -∗ Q ⟨⟩)
      -∗ run c (ap (k0_part24 (F := F)) c u) Q) := by
  rw [k0_part24_eq_skeleton]; unfold k0_part24_skel
  simp only [Prog.lift, Prog.bind_op, Prog.bind_ret, Prog.pure_eq_ret, Prog.bind_assoc]
  iintro #HI HP25 HO H5 HW HT Hk
  iapply (waitTo I K c 25 14 (pts (piece (dv c 3)) c fullShare (OG I)) rfl (by decide) rfl (amt_cols (by decide))) $$ HI HP25 HO
  iintro ⟨HO, HD25, H3⟩
  iapply (load_out c (out4 I c)) $$ HT
  iintro HT
  iapply (load_piece I c (dv c 5) (off8_eq c 4)) $$ H5
  iintro H5
  iapply (load_wo I c 5 (off9_eq c 4)) $$ HW
  iintro HW
  iapply (load_out c (out4 I c)) $$ HT
  iintro HT
  ihave HT := (room_of c wOut _) $$ HT
  iapply (store_out c (out5 I c)) $$ HT
  iintro HT
  iapply (load_out c (out5 I c)) $$ HT
  iintro HT
  iapply (load_piece I c (dv c 3) (off8_eq c 5)) $$ H3
  iintro H3
  iapply (load_wo I c 3 (off9_eq c 5)) $$ HW
  iintro HW
  iapply (load_out c (out5 I c)) $$ HT
  iintro HT
  ihave HT := (room_of c wOut _) $$ HT
  iapply (store_out c (out6 I c)) $$ HT
  iintro HT
  iapply (ret_of c Q ⟨⟩ (by rfl))
  iapply Hk $$ HO HD25 H5 H3 HW HT

end Cert.Mla

end
-- ==== Proof.Body.lean ====
/-
  The whole body, its pieces one after the other, at a symbolic device.
-/
module

public import proofs.«01_k».proof.Proof.BodyE

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

/-- The copies' duties, the waits' credits and the local copies' duties. -/
def toolS : sProp 𝕄 := iprop(sendRes c 0 ∗ sendRes c 1 ∗ sendRes c 2 ∗ sendRes c 3 ∗ sendRes c 4 ∗ sendRes c 5 ∗ sendRes c 6 ∗ sendRes c 7 ∗ sendRes c 8 ∗ sendRes c 9 ∗ sendRes c 10 ∗ sendRes c 11 ∗ sendRes c 12 ∗ sendRes c 13)
def toolP : sProp 𝕄 := iprop(pend c 13 ∗ pend c 3 ∗ pend c 9 ∗ pend c 4 ∗ pend c 10 ∗ pend c 5 ∗ pend c 11 ∗ pend c 27 ∗ pend c 17 ∗ pend c 23 ∗ pend c 18 ∗ pend c 24 ∗ pend c 19 ∗ pend c 25)
def toolC : sProp 𝕄 := iprop(copyRes c 28 ∗ copyRes c 29 ∗ copyRes c 30 ∗ copyRes c 31)
/-- What goes into the entry barrier. -/
def gate : sProp 𝕄 :=
  iprop((barDuty (dv c 1) 0 ∗ barDuty (dv c 7) 1 ∗ barDuty (dv c 4) 2) ∗ (barPay (dv c 1) 0 ∗ barPay (dv c 7) 1 ∗ barPay (dv c 4) 2)
    ∗ atPos EB (barCell c) 0 ∅ 0 ∗ cred (tallyAt (barCell c) () 3) ∗ ∃ W, owes (c : Thread nD τ) (debt0 c) W)
/-- The device's own room for what it computes and sends. -/
def rooms : sProp 𝕄 :=
  iprop(room sndR c ∗ room sndL c ∗ room cdS c ∗ room (piece c) c ∗ room wog c ∗ room (stage 0) c ∗ room (stage 1) c)
/-- The windows read. -/
def wins : sProp 𝕄 :=
  iprop(pts wX c fullShare (I c).x ∗ pts wWd c fullShare (I c).wd ∗ pts wUk c fullShare (I c).uk ∗ pts wUv c fullShare (I c).uv
    ∗ pts wWq c fullShare (I c).wq ∗ pts wWqr c fullShare (I c).wqr ∗ pts wWkr c fullShare (I c).wkr)
/-- The output weights, in four blocks. -/
def wobs : sProp 𝕄 :=
  iprop(pts (wob 0) c fullShare (I c).wo ∗ pts (wob 1) c fullShare (I c).wo ∗ pts (wob 2) c fullShare (I c).wo ∗ pts (wob 3) c fullShare (I c).wo)
/-- Every semaphore's round is over. -/
def allDone : sProp 𝕄 := iprop(done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17 ∗ done c 18 ∗ done c 19 ∗ done c 20 ∗ done c 21 ∗ done c 22 ∗ done c 23 ∗ done c 24 ∗ done c 25 ∗ done c 26 ∗ done c 27 ∗ done c 28 ∗ done c 29 ∗ done c 30 ∗ done c 31)
/-- The room afterwards: buffers sent and received, the gathered blocks, the output weights. -/
def rooms' : sProp 𝕄 :=
  iprop((room sndR c ∗ room sndL c ∗ room cdS c ∗ room cdR c ∗ room wog c)
    ∗ (room (slot bufR 0) c ∗ room (slot bufR 1) c ∗ room (slot bufR 2) c) ∗ (room (slot bufL 0) c ∗ room (slot bufL 1) c ∗ room (slot bufL 2) c)
    ∗ (room (stage 0) c ∗ room (stage 1) c)
    ∗ (pts (piece c) c fullShare (OG I) ∗ pts (piece (dv c 1)) c fullShare (OG I) ∗ pts (piece (dv c 2)) c fullShare (OG I) ∗ pts (piece (dv c 3)) c fullShare (OG I) ∗ pts (piece (dv c 4)) c fullShare (OG I) ∗ pts (piece (dv c 5)) c fullShare (OG I) ∗ pts (piece (dv c 6)) c fullShare (OG I) ∗ pts (piece (dv c 7)) c fullShare (OG I)))

omit [FloatOps F] in
/-- What each barrier unit hands over. -/
theorem bar0 : (barPay c 0 : sProp 𝕄) ⊢ iprop((room (slot bufL 0) (dv c 7) ∗ ready c 2) ∗ (room (slot bufL 1) (dv c 7) ∗ ready c 4) ∗ (room (slot bufL 2) (dv c 7) ∗ ready c 6)
    ∗ (room (piece c) (dv c 7) ∗ ready c 9) ∗ (room (piece (dv c 1)) (dv c 7) ∗ ready c 11) ∗ (room (piece (dv c 2)) (dv c 7) ∗ ready c 13)) := .rfl
omit [FloatOps F] in
theorem bar1 : (barPay c 1 : sProp 𝕄) ⊢ iprop((room (slot bufR 0) (dv c 1) ∗ ready c 1) ∗ (room (slot bufR 1) (dv c 1) ∗ ready c 3) ∗ (room (slot bufR 2) (dv c 1) ∗ ready c 5)
    ∗ (room (piece c) (dv c 1) ∗ ready c 8) ∗ (room (piece (dv c 7)) (dv c 1) ∗ ready c 10) ∗ (room (piece (dv c 6)) (dv c 1) ∗ ready c 12)) := .rfl
omit [FloatOps F] in
theorem bar2 : (barPay c 2 : sProp 𝕄) ⊢ iprop((room cdR (dv c 4) ∗ ready c 0) ∗ (room (piece c) (dv c 4) ∗ ready c 7)) := .rfl

omit [FloatOps F] in
/-- Two halves of a share again. -/
theorem pts_unsplit {sp : Space} {s : Shape} {e : EltTy} (M : Memref sig .tc sp s e) (f : Buf (Elt F) (M.view.loc (c : Thread nD τ))) :
    (pts M c h1 f : sProp 𝕄) ⊢ iprop(pts M c h2 f -∗ pts M c fullShare f) := by
  iintro H1 H2
  ihave H := (pts_split c M fullShare f).2 $$ [H1 H2]
  · isplitl [H1]
    · iexact H1
    · iexact H2
  iexact H
/-- One piece after another. -/
theorem bind_of {α β : Type} (p : Prog (TpuEff nD τ sig (Elt F) Λ₀ .tc) α) (k : α → Prog (TpuEff nD τ sig (Elt F) Λ₀ .tc) β) (Q : β → sProp 𝕄) :
    run c p (fun r => run c (k r) Q) ⊢ run c (p >>= k) Q := by
  unfold run; rw [wp_bind]

set_option maxHeartbeats 4000000 in
theorem body_run (Q : PUnit → sProp 𝕄) :
    (allInv I K : sProp 𝕄) ⊢ iprop(gate c -∗ toolS c -∗ toolP c -∗ toolC c -∗ rooms c -∗ wins I c -∗ wobs I c -∗ room wOut c
      -∗ (owing c 14 -∗ atPos EB (barCell c) 1 ∅ 0 -∗ allDone c -∗ rooms' I c -∗ wins I c -∗ wobs I c -∗ pts wOut c fullShare (out7 I c) -∗ Q ⟨⟩)
      -∗ run c (ap (cc0__body (F := F))) Q) := by
  rw [cc0__body_eq_skeleton]; unfold cc0__body_skel
  rw [k0_part25_eq_skeleton]; unfold k0_part25_skel
  unfold gate toolS toolP toolC rooms wins wobs
  simp only [Prog.lift, Prog.pure_eq_ret, Prog.bind_assoc, Prog.bind_op, Prog.bind_ret]
  iintro #HI ⟨⟨T0, T1, T2⟩, ⟨B0, B1, B2⟩, Hat, Hc, HO⟩ ⟨S0, S1, S2, S3, S4, S5, S6, S7, S8, S9, S10, S11, S12, S13⟩ ⟨P13, P3, P9, P4, P10, P5, P11, P27, P17, P23, P18, P24, P19, P25⟩ ⟨C28, C29, C30, C31⟩ ⟨HA, HB, HC, HG, HW, HS0, HS1⟩ ⟨X, Wd, Uk, Uv, Wq, Wqr, Wkr⟩ ⟨W0, W1, W2, W3⟩ HT Hk
  iapply (bind_of c)
  iapply (part1 I K c _) $$ HI T0 T1 T2 B0 B1 B2 Hat Hc HO C28 W0 HS0
  iintro %w2 %w4 %w7 %w9 HO Hat B0 B1 B2 P28
  dsimp only
  ihave B0 := (bar0 c) $$ B0
  ihave B1 := (bar1 c) $$ B1
  ihave B2 := (bar2 c) $$ B2
  icases B0 with ⟨⟨D2, #R2⟩, ⟨D4, #R4⟩, ⟨D6, #R6⟩, ⟨D9, #R9⟩, ⟨D11, #R11⟩, ⟨D13, #R13⟩⟩
  icases B1 with ⟨⟨D1, #R1⟩, ⟨D3, #R3⟩, ⟨D5, #R5⟩, ⟨D8, #R8⟩, ⟨D10, #R10⟩, ⟨D12, #R12⟩⟩
  icases B2 with ⟨⟨D0, #R0⟩, ⟨D7, #R7⟩⟩
  iapply (bind_of c)
  iapply (part2 I K c _ _ _) $$ HI C29 W1 HS1 X Wd Uk Uv HC
  iintro P29 X Wd Uk Uv HC
  dsimp only
  iapply (bind_of c)
  iapply (part3 I K c _ _) $$ HI R0 S0 HC D0 HO Uk Uv HA
  iintro P12 HO Uk Uv HA
  dsimp only
  iapply (bind_of c)
  iapply (part4 I K c _ _ _) $$ HI HB R1 S1 HA D1 R2 S2 D2 HO Wq Wqr Wkr
  iintro P0 P6 HO Wq Wqr Wkr
  dsimp only
  iapply (bind_of c)
  iapply (part5 I K c _ _ _) $$ HI Uk Uv P0 HO
  iintro %w5 Uk Uv HO E0 HA
  dsimp only
  iapply (bind_of c)
  iapply (part6 I K c _ _ _) $$ HI HA P3 P6 P9 HO
  iintro %b6 HO E3 E6 E9 HB HR0 HL0 HA
  dsimp only
  iapply (bind_of c)
  iapply (part7 I K c _ _ b6 _) $$ HI HA HL0 HB R3 S3 D3 HO
  iintro P1 HO HL0 HB
  dsimp only
  iapply (bind_of c)
  iapply (part8 I K c _ _ _) $$ HI HB R4 S4 D4 HO Uk Uv P1
  iintro P7 HO Uk Uv E1 HA
  dsimp only
  iapply (bind_of c)
  iapply (part9 I K c _ _) $$ HI HA P4 P7 P10 HO
  iintro HO E4 E7 E10 HB HR1 HL1 HA
  dsimp only
  iapply (bind_of c)
  iapply (part10 I K c _ _ _) $$ HI HL1 HB HA R5 S5 D5 R6 S6 D6 HO
  iintro P2 P8 HO HL1
  dsimp only
  ihave HW := (room_wo c) $$ HW
  icases HW with ⟨%A, HW⟩
  iapply (bind_of c)
  iapply (part11 I K c _ A _) $$ HI Uk Uv P28 HO HW C30 W2
  iintro Uk Uv HO E28 HW P30 W0
  dsimp only
  iapply (bind_of c)
  iapply (part12 I K c A _) $$ HI P29 P30 HO HW C31 W3
  iintro HO E29 E30 HW P31 W1 W2 HS0
  dsimp only
  iapply (bind_of c)
  iapply (part13 I K c _ A _) $$ HI P31 P2 P5 P8 HO HW
  iintro %w13 HO E31 E2 E5 E8 HW W3 HS1 HA HR2 HB
  dsimp only
  iapply (bind_of c)
  iapply (part14 I K c _ _ _ _) $$ HI P11 P12 P13 HO HR2
  iintro HO E11 E12 E13 HR2 HL2 HC HD
  dsimp only
  ihave HG := (room_piece c) $$ HG
  icases HG with ⟨%G, HG⟩
  iapply (bind_of c)
  iapply (part15 I c _ G _) $$ HD HG
  iintro HD HG
  dsimp only
  iapply (bind_of c)
  iapply (part16 I c _ G _) $$ HG
  iintro HG
  dsimp only
  iapply (bind_of c)
  iapply (part17 I K c _ _ G _) $$ HI HG R7 S7 D7 HO
  iintro P26 HO G1 G2 G4
  iapply (bind_of c)
  iapply (part18 I K c _ _ _ _) $$ HI G1 G2 G4 HO R8 S8 D8 R9 S9 D9 HW HT
  iintro P20 HO E14 G1 G4 HW HT
  iapply (bind_of c)
  iapply (part19 I K c _ _ _ _) $$ HI P17 P20 P23 HO
  iintro %w19 %v19 HO E17 E20 E23 N7 G2 N1
  dsimp only
  iapply (bind_of c)
  iapply (part20 I K c _ _ _ _) $$ HI N7 N1 HO R10 S10 D10 R11 S11 D11 HW HT
  iintro P15 P21 HO N7 N1 HW HT
  iapply (bind_of c)
  iapply (part21 I K c _ _ _ _) $$ HI HT P15 P18 P21 P24 HO
  iintro %w21 %v21 HO E15 E18 E21 E24 M7 N6 M1 N2 HT
  dsimp only
  iapply (bind_of c)
  iapply (part22 I K c _ _ _ _ _) $$ HI N6 N2 HO R12 S12 D12 R13 S13 D13 HW HT
  iintro %w22 P16 P22 HO N6 N2 HW HT
  dsimp only
  iapply (bind_of c)
  iapply (part23 I K c _ _ _ _ _) $$ HI N2 HW HT P16 P19 P22 HO
  iintro HO E16 E19 E22 N2 HW HT M6 N5 M2
  iapply (bind_of c)
  iapply (part24 I K c _ _) $$ HI P25 HO N5 HW HT
  iintro HO E25 N5 N3 HW HT
  iapply (waitTo I K c 26 14 (pts (piece c) c q3 (OG I)) rfl (by decide) rfl (amt_cols (by decide))) $$ HI P26 HO
  iintro ⟨HO, E26, G3⟩
  iapply (waitTo I K c 27 14 (pts (piece (dv c 4)) c fullShare (OG I)) rfl (by decide) rfl (amt_cols (by decide))) $$ HI P27 HO
  iintro ⟨HO, E27, N4⟩
  iapply (load_out c (out6 I c)) $$ HT
  iintro HT
  iapply (load_piece I c (dv c 4) (off8_eq c 6)) $$ N4
  iintro N4
  iapply (load_wo I c 4 (off9_eq c 6)) $$ HW
  iintro HW
  iapply (load_out c (out6 I c)) $$ HT
  iintro HT
  ihave HT := (room_of c wOut _) $$ HT
  iapply (store_out c (out7 I c)) $$ HT
  iintro HT
  iapply (ret_of c Q ⟨⟩ (by rfl))
  ihave N0 := (pts_unquarter c (piece c) (OG I)) $$ [G1 G2 G3 G4]
  · isplitl [G1]; · iexact G1
    isplitl [G2]; · iexact G2
    isplitl [G3] <;> iassumption
  ihave N7 := (pts_unsplit c (piece (dv c 7)) (OG I)) $$ M7 N7
  ihave N1 := (pts_unsplit c (piece (dv c 1)) (OG I)) $$ M1 N1
  ihave N6 := (pts_unsplit c (piece (dv c 6)) (OG I)) $$ M6 N6
  ihave N2 := (pts_unsplit c (piece (dv c 2)) (OG I)) $$ M2 N2
  ihave HW := (room_of c wog _) $$ HW
  ihave HR0 := (room_of c (slot bufR 0) _) $$ HR0
  ihave HR1 := (room_of c (slot bufR 1) _) $$ HR1
  ihave HR2 := (room_of c (slot bufR 2) _) $$ HR2
  ihave HL0 := (room_of c (slot bufL 0) _) $$ HL0
  ihave HL1 := (room_of c (slot bufL 1) _) $$ HL1
  ihave HL2 := (room_of c (slot bufL 2) _) $$ HL2
  iapply Hk $$ HO Hat [E0 E1 E2 E3 E4 E5 E6 E7 E8 E9 E10 E11 E12 E13 E14 E15 E16 E17 E18 E19 E20 E21 E22 E23 E24 E25 E26 E27 E28 E29 E30 E31] [HA HB HC HD HW HR0 HR1 HR2 HL0 HL1 HL2 HS0 HS1 N0 N1 N2 N3 N4 N5 N6 N7] [X Wd Uk Uv Wq Wqr Wkr] [W0 W1 W2 W3] HT
  · unfold allDone
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    isplitl [E29]; · iexact E29
    isplitl [E30] <;> iassumption
  · unfold rooms'
    isplitl [HA HB HC HD HW]
    · isplitl [HA]; · iexact HA
      isplitl [HB]; · iexact HB
      isplitl [HC]; · iexact HC
      isplitl [HD] <;> iassumption
    isplitl [HR0 HR1 HR2]
    · isplitl [HR0]; · iexact HR0
      isplitl [HR1] <;> iassumption
    isplitl [HL0 HL1 HL2]
    · isplitl [HL0]; · iexact HL0
      isplitl [HL1] <;> iassumption
    isplitl [HS0 HS1]
    · isplitl [HS0] <;> iassumption
    isplitl [N0]; · iexact N0
    isplitl [N1]; · iexact N1
    isplitl [N2]; · iexact N2
    isplitl [N3]; · iexact N3
    isplitl [N4]; · iexact N4
    isplitl [N5]; · iexact N5
    isplitl [N6] <;> iassumption
  · isplitl [X]; · iexact X
    isplitl [Wd]; · iexact Wd
    isplitl [Uk]; · iexact Uk
    isplitl [Uv]; · iexact Uv
    isplitl [Wq]; · iexact Wq
    isplitl [Wqr] <;> iassumption
  · isplitl [W0]; · iexact W0
    isplitl [W1]; · iexact W1
    isplitl [W2] <;> iassumption

end Cert.Mla

end
-- ==== Proof.Rooms.lean ====
/-
  Each buffer is its blocks: the landing buffers their slots, the gathered output its columns, the weights their rows. What a
  device hands its neighbours at the entry barrier is cut from its own buffers and what comes back is put together again.
-/
module

public import proofs.«01_k».proof.Proof.Body

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

omit [FloatOps F] in
/-- A buffer in disjoint blocks. -/
theorem cut_room {T : Type} [Fintype T] [DecidableEq T] (b : Ref sig .tc) (S : T → Finset (Idx ((c : Thread nD τ).loc b)))
    (hd : ∀ t t', t ≠ t' → Disjoint (S t) (S t')) (hc : ∀ i, ∃ t, i ∈ S t) (q : PosShare TreeShare) (f : Buf (Elt F) ((c : Thread nD τ).loc b)) :
    (((c : Thread nD τ).loc b ↦{q} f) : sProp 𝕄) = bigSep Finset.univ fun t => (c : Thread nD τ).loc b ↦[S t]{q} f := by
  rw [← pointsTo_biUnion Finset.univ S fun t _ t' _ h => hd t t' h]
  congr 1
  exact (Finset.eq_univ_of_forall fun i => by obtain ⟨t, h⟩ := hc i; exact Finset.mem_biUnion.mpr ⟨t, Finset.mem_univ t, h⟩).symm

omit [FloatOps F] in
theorem join_room {T : Type} [Fintype T] [DecidableEq T] (b : Ref sig .tc) (S : T → Finset (Idx ((c : Thread nD τ).loc b)))
    (hd : ∀ t t', t ≠ t' → Disjoint (S t) (S t')) (hc : ∀ i, ∃ t, i ∈ S t) (f₀ : Buf (Elt F) ((c : Thread nD τ).loc b)) :
    (bigSep Finset.univ fun t => iprop(∃ f : Buf (Elt F) ((c : Thread nD τ).loc b), (c : Thread nD τ).loc b ↦[S t]{fullShare} f) : sProp 𝕄)
      ⊢ iprop(∃ f : Buf (Elt F) ((c : Thread nD τ).loc b), ((c : Thread nD τ).loc b ↦{fullShare} f)) := by
  haveI : Nonempty (Buf (Elt F) ((c : Thread nD τ).loc b)) := ⟨f₀⟩
  refine (Idealize.SL.BI.bigSep_exists_pi (Y := fun _ : T => Buf (Elt F) ((c : Thread nD τ).loc b)) Finset.univ (fun t f => ((c : Thread nD τ).loc b ↦[S t]{fullShare} f : sProp 𝕄))).trans ?_
  iintro ⟨%fs, H⟩
  ihave H := (pointsTo_biUnion_join Finset.univ S fs f₀ fun t _ t' _ h => hd t t' h) $$ H
  icases H with ⟨%g, -, H⟩
  iexists g
  ihave H := (Entails.of_eq (congrArg (fun J => ((c : Thread nD τ).loc b ↦[J]{fullShare} g : sProp 𝕄))
    (Finset.eq_univ_of_forall fun i => by obtain ⟨t, h⟩ := hc i; exact Finset.mem_biUnion.mpr ⟨t, Finset.mem_univ t, h⟩))) $$ H
  iexact H

theorem apart {s : Shape} {off size off' size' : Fin s.rank → ℕ} {inb inb'} (a : Fin s.rank)
    (h : off a + size a ≤ off' a ∨ off' a + size' a ≤ off a) :
    Disjoint (Rect.unit (s := s) off size inb).set (Rect.unit (s := s) off' size' inb').set :=
  Finset.disjoint_left.mpr fun i hi hi' => by
    have h1 := (Rect.mem_set_unit.mp hi) a
    have h2 := (Rect.mem_set_unit.mp hi') a
    omega

theorem slots_apart (k k' : Fin 3) (h : k ≠ k') : Disjoint (slot bufR k).view.set (slot bufR k').view.set := by
  rw [slotR_set, slotR_set]
  exact apart 0 (by have : k.val ≠ k'.val := fun e => h (Fin.ext e); show k.val + 1 ≤ k'.val ∨ k'.val + 1 ≤ k.val; omega)
theorem slotsL_apart (k k' : Fin 3) (h : k ≠ k') : Disjoint (slot bufL k).view.set (slot bufL k').view.set := by
  rw [slotL_set, slotL_set]
  exact apart 0 (by have : k.val ≠ k'.val := fun e => h (Fin.ext e); show k.val + 1 ≤ k'.val ∨ k'.val + 1 ≤ k.val; omega)
theorem slot_in (i : S3x1024x512.Idx) : i ∈ (Rect.unit (s := S3x1024x512) ![(i 0).val, 0, 0] S1x1024x512.size (slot_inb (i 0))).set :=
  Rect.mem_set_unit.mpr fun a => by
    have h := (i a).isLt
    rcases a with ⟨_ | _ | _ | n, ha⟩
    · exact ⟨le_refl _, Nat.lt_succ_self _⟩
    · exact ⟨Nat.zero_le _, by simpa using h⟩
    · exact ⟨Nat.zero_le _, by simpa using h⟩
    · exact absurd (show n + 3 < 3 from ha) (by omega)
theorem slots_cover (i : S3x1024x512.Idx) : ∃ k : Fin 3, i ∈ (slot bufR k).view.set := ⟨⟨(i 0).val, (i 0).isLt⟩, by rw [slotR_set]; exact slot_in i⟩
theorem slotsL_cover (i : S3x1024x512.Idx) : ∃ k : Fin 3, i ∈ (slot bufL k).view.set := ⟨⟨(i 0).val, (i 0).isLt⟩, by rw [slotL_set]; exact slot_in i⟩

theorem stages_apart (k k' : Fin 2) (h : k ≠ k') : Disjoint (stage k).view.set (stage k').view.set := by
  rw [stage_set, stage_set]
  exact apart 0 (by have : k.val ≠ k'.val := fun e => h (Fin.ext e); show k.val + 1 ≤ k'.val ∨ k'.val + 1 ≤ k.val; omega)
theorem stages_cover (i : S2x512x2048.Idx) : ∃ k : Fin 2, i ∈ (stage k).view.set := ⟨⟨(i 0).val, (i 0).isLt⟩, by
  rw [stage_set]
  exact Rect.mem_set_unit.mpr fun a => by
    have h := (i a).isLt
    rcases a with ⟨_ | _ | _ | n, ha⟩
    · exact ⟨le_refl _, Nat.lt_succ_self _⟩
    · exact ⟨Nat.zero_le _, by simpa using h⟩
    · exact ⟨Nat.zero_le _, by simpa using h⟩
    · exact absurd (show n + 3 < 3 from ha) (by omega)⟩

theorem pieces_apart (p p' : Dev nD) (h : p ≠ p') : Disjoint (piece p).view.set (piece p').view.set := by
  rw [piece_set, piece_set]
  exact apart 1 (by
    have : p.val ≠ p'.val := fun e => h (Fin.ext e)
    show 256 * p.val + 256 ≤ 256 * p'.val ∨ 256 * p'.val + 256 ≤ 256 * p.val; omega)
theorem pieces_cover (i : S1024x2048.Idx) : ∃ p : Dev nD, i ∈ (piece p).view.set :=
  ⟨⟨(i 1).val / 256, by have : (i 1).val < 2048 := (i 1).isLt; show _ < 8; omega⟩, by
    rw [piece_set]
    exact Rect.mem_set_unit.mpr fun a => by
      have h := (i a).isLt
      rcases a with ⟨_ | _ | n, ha⟩
      · exact ⟨Nat.zero_le _, by simpa using h⟩
      · show 256 * ((i 1).val / 256) ≤ (i 1).val ∧ (i 1).val < 256 * ((i 1).val / 256) + 256
        omega
      · exact absurd (show n + 2 < 2 from ha) (by omega)⟩

theorem wobs_apart (k k' : Fin 4) (h : k ≠ k') : Disjoint (wob k).view.set (wob k').view.set := by
  rw [wob_set, wob_set]
  exact apart 0 (by
    have : k.val ≠ k'.val := fun e => h (Fin.ext e)
    show 512 * k.val + 512 ≤ 512 * k'.val ∨ 512 * k'.val + 512 ≤ 512 * k.val; omega)
theorem wobs_cover (i : S2048x2048.Idx) : ∃ k : Fin 4, i ∈ (wob k).view.set :=
  ⟨⟨(i 0).val / 512, by have : (i 0).val < 2048 := (i 0).isLt; omega⟩, by
    rw [wob_set]
    exact Rect.mem_set_unit.mpr fun a => by
      have h := (i a).isLt
      rcases a with ⟨_ | _ | n, ha⟩
      · show 512 * ((i 0).val / 512) ≤ (i 0).val ∧ (i 0).val < 512 * ((i 0).val / 512) + 512
        omega
      · exact ⟨Nat.zero_le _, by simpa using h⟩
      · exact absurd (show n + 2 < 2 from ha) (by omega)⟩

/-- A whole buffer of device `c`, whatever it holds. -/
def buf (b : Ref sig .tc) : sProp 𝕄 := iprop(∃ f : Buf (Elt F) ((c : Thread nD τ).loc b), ((c : Thread nD τ).loc b ↦{fullShare} f))

omit [FloatOps F] in
theorem bufR_cut : (buf c cc0_scratch2 : sProp 𝕄) ⊢ iprop(room (slot bufR 0) c ∗ room (slot bufR 1) c ∗ room (slot bufR 2) c) := by
  unfold buf
  iintro ⟨%f, H⟩
  ihave H := (Entails.of_eq ((cut_room c cc0_scratch2 (fun k : Fin 3 => (slot bufR k).view.set) slots_apart slots_cover fullShare f).trans
    ((bigSep_univ_eq_bigSepL [0, 1, 2] (by decide) (by decide) _).trans
      (show _ = iprop(pts (slot bufR 0) c fullShare f ∗ pts (slot bufR 1) c fullShare f ∗ pts (slot bufR 2) c fullShare f) from rfl)))) $$ H
  icases H with ⟨H0, H1, H2⟩
  isplitl [H0]; · iexists f; iexact H0
  isplitl [H1]; · iexists f; iexact H1
  iexists f; iexact H2
omit [FloatOps F] in
theorem bufL_cut : (buf c cc0_scratch3 : sProp 𝕄) ⊢ iprop(room (slot bufL 0) c ∗ room (slot bufL 1) c ∗ room (slot bufL 2) c) := by
  unfold buf
  iintro ⟨%f, H⟩
  ihave H := (Entails.of_eq ((cut_room c cc0_scratch3 (fun k : Fin 3 => (slot bufL k).view.set) slotsL_apart slotsL_cover fullShare f).trans
    ((bigSep_univ_eq_bigSepL [0, 1, 2] (by decide) (by decide) _).trans
      (show _ = iprop(pts (slot bufL 0) c fullShare f ∗ pts (slot bufL 1) c fullShare f ∗ pts (slot bufL 2) c fullShare f) from rfl)))) $$ H
  icases H with ⟨H0, H1, H2⟩
  isplitl [H0]; · iexists f; iexact H0
  isplitl [H1]; · iexists f; iexact H1
  iexists f; iexact H2
omit [FloatOps F] in
theorem stg_cut : (buf c cc0_scratch8 : sProp 𝕄) ⊢ iprop(room (stage 0) c ∗ room (stage 1) c) := by
  unfold buf
  iintro ⟨%f, H⟩
  ihave H := (Entails.of_eq ((cut_room c cc0_scratch8 (fun k : Fin 2 => (stage k).view.set) stages_apart stages_cover fullShare f).trans
    ((bigSep_univ_eq_bigSepL [0, 1] (by decide) (by decide) _).trans
      (show _ = iprop(pts (stage 0) c fullShare f ∗ pts (stage 1) c fullShare f) from rfl)))) $$ H
  icases H with ⟨H0, H1⟩
  isplitl [H0]; · iexists f; iexact H0
  iexists f; iexact H1

omit [FloatOps F] in
theorem bufR_join (f₀ : Buf (Elt F) ((c : Thread nD τ).loc cc0_scratch2)) :
    (iprop(room (slot bufR 0) c ∗ room (slot bufR 1) c ∗ room (slot bufR 2) c) : sProp 𝕄) ⊢ buf c cc0_scratch2 :=
  (Entails.of_eq (show _ = _ from (bigSep_univ_eq_bigSepL [0, 1, 2] (by decide) (by decide)
    (fun k : Fin 3 => (room (slot bufR k) c : sProp 𝕄))).symm)).trans
    (join_room c cc0_scratch2 (fun k : Fin 3 => (slot bufR k).view.set) slots_apart slots_cover f₀)
omit [FloatOps F] in
theorem bufL_join (f₀ : Buf (Elt F) ((c : Thread nD τ).loc cc0_scratch3)) :
    (iprop(room (slot bufL 0) c ∗ room (slot bufL 1) c ∗ room (slot bufL 2) c) : sProp 𝕄) ⊢ buf c cc0_scratch3 :=
  (Entails.of_eq (show _ = _ from (bigSep_univ_eq_bigSepL [0, 1, 2] (by decide) (by decide)
    (fun k : Fin 3 => (room (slot bufL k) c : sProp 𝕄))).symm)).trans
    (join_room c cc0_scratch3 (fun k : Fin 3 => (slot bufL k).view.set) slotsL_apart slotsL_cover f₀)
omit [FloatOps F] in
theorem stg_join (f₀ : Buf (Elt F) ((c : Thread nD τ).loc cc0_scratch8)) :
    (iprop(room (stage 0) c ∗ room (stage 1) c) : sProp 𝕄) ⊢ buf c cc0_scratch8 :=
  (Entails.of_eq (show _ = _ from (bigSep_univ_eq_bigSepL [0, 1] (by decide) (by decide)
    (fun k : Fin 2 => (room (stage k) c : sProp 𝕄))).symm)).trans
    (join_room c cc0_scratch8 (fun k : Fin 2 => (stage k).view.set) stages_apart stages_cover f₀)

theorem around : (Finset.univ : Finset (Dev nD)) = [c, dv c 1, dv c 2, dv c 3, dv c 4, dv c 5, dv c 6, dv c 7].toFinset := by
  revert c; decide
theorem around_nodup : [c, dv c 1, dv c 2, dv c 3, dv c 4, dv c 5, dv c 6, dv c 7].Nodup := by revert c; decide

omit [FloatOps F] in
/-- The gathered output is its eight devices' columns. -/
theorem ogat_cut (f : Buf (Elt F) ((c : Thread nD τ).loc cc0_scratch6)) :
    (((c : Thread nD τ).loc cc0_scratch6 ↦{fullShare} f) : sProp 𝕄)
      = iprop(pts (piece c) c fullShare f ∗ pts (piece (dv c 1)) c fullShare f ∗ pts (piece (dv c 2)) c fullShare f ∗ pts (piece (dv c 3)) c fullShare f
        ∗ pts (piece (dv c 4)) c fullShare f ∗ pts (piece (dv c 5)) c fullShare f ∗ pts (piece (dv c 6)) c fullShare f ∗ pts (piece (dv c 7)) c fullShare f) :=
  (cut_room c cc0_scratch6 (fun p : Dev nD => (piece p).view.set) pieces_apart pieces_cover fullShare f).trans
    ((bigSep_univ_eq_bigSepL _ (around c) (around_nodup c) _).trans rfl)
omit [FloatOps F] in
/-- The weights are their four blocks of rows. -/
theorem wo_cut (f : Buf (Elt F) ((c : Thread nD τ).loc main_arg7)) :
    (((c : Thread nD τ).loc main_arg7 ↦{fullShare} f) : sProp 𝕄)
      = iprop(pts (wob 0) c fullShare f ∗ pts (wob 1) c fullShare f ∗ pts (wob 2) c fullShare f ∗ pts (wob 3) c fullShare f) :=
  (cut_room c main_arg7 (fun k : Fin 4 => (wob k).view.set) wobs_apart wobs_cover fullShare f).trans
    ((bigSep_univ_eq_bigSepL [0, 1, 2, 3] (by decide) (by decide) _).trans rfl)

omit [FloatOps F] in
theorem room_whole (b : Ref sig .tc) : (room (Memref.whole b) c : sProp 𝕄) = buf c b := by
  unfold buf
  show iprop(∃ f : Buf (Elt F) ((c : Thread nD τ).loc b), (c : Thread nD τ).loc b ↦[(View.whole b).set]{fullShare} f) = _
  rw [View.set_whole]

end Cert.Mla
-- ==== Proof.Entry.lean ====
/-
  The body from what the region gives it to what the region takes back: the buffers cut for the neighbours, the protocol run,
  every semaphore closed at zero and the buffers whole again.
-/
module

public import proofs.«01_k».proof.Proof.Rooms

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → In F) (K : GSem nD τ sig → ℕ) (c : Dev nD)

theorem sk_inj : Function.Injective sk := by decide
theorem rk_inj : Function.Injective rk := by decide
/-- The semaphores of the copies within the device. -/
def lk : Fin 4 → Fin 32 := ![28, 29, 30, 31]
theorem lk_inj : Function.Injective lk := by decide

theorem all_keys : (Finset.univ : Finset (Fin 32)) = Finset.univ.map ⟨sk, sk_inj⟩ ∪ (Finset.univ.map ⟨rk, rk_inj⟩ ∪ Finset.univ.map ⟨lk, lk_inj⟩) := by decide
omit [FloatOps F] in
/-- The thirty-two semaphores: those of the copies' sources, of their landings, and of the copies within the device. -/
theorem keys_split (Φ : Fin 32 → sProp 𝕄) : bigSep Finset.univ Φ
    = iprop((bigSep Finset.univ fun i : Fin 14 => Φ (sk i)) ∗ (bigSep Finset.univ fun i : Fin 14 => Φ (rk i)) ∗ (bigSep Finset.univ fun j : Fin 4 => Φ (lk j))) := by
  rw [all_keys]
  rw [bigSep_union (by decide), bigSep_union (by decide), bigSep_map, bigSep_map, bigSep_map]
  rfl

omit [FloatOps F] in
theorem toolS_eq : (toolS c : sProp 𝕄) = bigSep Finset.univ fun i => sendRes c i := by
  rw [bigSep_univ_eq_bigSepL [0, 1, 2, 3, 4, 5, 6, 7, 8, 9, 10, 11, 12, 13] (by decide) (by decide)]; rfl
omit [FloatOps F] in
theorem toolP_eq : (toolP c : sProp 𝕄) = bigSep Finset.univ fun i => pend c (rk i) := by
  rw [bigSep_univ_eq_bigSepL [0, 1, 2, 3, 4, 5, 6, 7, 8, 9, 10, 11, 12, 13] (by decide) (by decide)]; rfl
omit [FloatOps F] in
theorem toolC_eq : (toolC c : sProp 𝕄) = bigSep Finset.univ fun j => copyRes c (lk j) := by
  rw [bigSep_univ_eq_bigSepL [0, 1, 2, 3] (by decide) (by decide)]; rfl
set_option maxRecDepth 4000 in
omit [FloatOps F] in
theorem allDone_eq : (allDone c : sProp 𝕄) = bigSep Finset.univ fun k => done c k := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]; rfl

/-- That every semaphore of device `c` is open. -/
def opened : sProp 𝕄 := bigSep Finset.univ fun k : Fin 32 => reached EB (cell c k) 0
instance opened_persistent : BI.Persistent (opened (F := F) c) := by unfold opened; infer_instance
omit [FloatOps F] in
theorem opened_at (k : Fin 32) : (opened c : sProp 𝕄) ⊢ reached EB (cell c k) 0 :=
  pick (Finset.mem_univ k) fun k : Fin 32 => (reached EB (cell c k) 0 : sProp 𝕄)

omit [FloatOps F] in
theorem give0 : (opened c : sProp 𝕄) ⊢ iprop(room (slot bufL 0) c -∗ room (slot bufL 1) c -∗ room (slot bufL 2) c -∗ room (piece (dv c 1)) c -∗ room (piece (dv c 2)) c -∗ room (piece (dv c 3)) c -∗ barPay (dv c 1) 0) := by
  have e : dv (dv c 1) 7 = c := dv_back c 1 7 rfl
  have e1 : dv (dv c 1) 1 = dv c 2 := dv_dv c 1 1
  have e2 : dv (dv c 1) 2 = dv c 3 := dv_dv c 1 2
  have h : (barPay (dv c 1) 0 : sProp 𝕄) = iprop((room (slot bufL 0) c ∗ reached EB (cell c (rk 2)) 0) ∗ (room (slot bufL 1) c ∗ reached EB (cell c (rk 4)) 0) ∗ (room (slot bufL 2) c ∗ reached EB (cell c (rk 6)) 0) ∗ (room (piece (dv c 1)) c ∗ reached EB (cell c (rk 9)) 0) ∗ (room (piece (dv c 2)) c ∗ reached EB (cell c (rk 11)) 0) ∗ (room (piece (dv c 3)) c ∗ reached EB (cell c (rk 13)) 0)) := by
    show iprop((room (slot bufL 0) (dv (dv c 1) 7) ∗ reached EB (cell (dv (dv c 1) 7) (rk 2)) 0) ∗ (room (slot bufL 1) (dv (dv c 1) 7) ∗ reached EB (cell (dv (dv c 1) 7) (rk 4)) 0) ∗ (room (slot bufL 2) (dv (dv c 1) 7) ∗ reached EB (cell (dv (dv c 1) 7) (rk 6)) 0) ∗ (room (piece (dv c 1)) (dv (dv c 1) 7) ∗ reached EB (cell (dv (dv c 1) 7) (rk 9)) 0) ∗ (room (piece (dv (dv c 1) 1)) (dv (dv c 1) 7) ∗ reached EB (cell (dv (dv c 1) 7) (rk 11)) 0) ∗ (room (piece (dv (dv c 1) 2)) (dv (dv c 1) 7) ∗ reached EB (cell (dv (dv c 1) 7) (rk 13)) 0)) = _
    rw [e, e1, e2]
  rw [h]
  iintro #HO A0 A1 A2 A3 A4 A5
  isplitl [A0]
  · isplitl; · iexact A0
    iapply (opened_at c (rk 2)); iexact HO
  isplitl [A1]
  · isplitl; · iexact A1
    iapply (opened_at c (rk 4)); iexact HO
  isplitl [A2]
  · isplitl; · iexact A2
    iapply (opened_at c (rk 6)); iexact HO
  isplitl [A3]
  · isplitl; · iexact A3
    iapply (opened_at c (rk 9)); iexact HO
  isplitl [A4]
  · isplitl; · iexact A4
    iapply (opened_at c (rk 11)); iexact HO
  isplitl; · iexact A5
  iapply (opened_at c (rk 13)); iexact HO

omit [FloatOps F] in
theorem give1 : (opened c : sProp 𝕄) ⊢ iprop(room (slot bufR 0) c -∗ room (slot bufR 1) c -∗ room (slot bufR 2) c -∗ room (piece (dv c 7)) c -∗ room (piece (dv c 6)) c -∗ room (piece (dv c 5)) c -∗ barPay (dv c 7) 1) := by
  have e : dv (dv c 7) 1 = c := dv_back c 7 1 rfl
  have e1 : dv (dv c 7) 7 = dv c 6 := (dv_dv c 7 7).trans (dv_add_eight c 6)
  have e2 : dv (dv c 7) 6 = dv c 5 := (dv_dv c 7 6).trans (dv_add_eight c 5)
  have h : (barPay (dv c 7) 1 : sProp 𝕄) = iprop((room (slot bufR 0) c ∗ reached EB (cell c (rk 1)) 0) ∗ (room (slot bufR 1) c ∗ reached EB (cell c (rk 3)) 0) ∗ (room (slot bufR 2) c ∗ reached EB (cell c (rk 5)) 0) ∗ (room (piece (dv c 7)) c ∗ reached EB (cell c (rk 8)) 0) ∗ (room (piece (dv c 6)) c ∗ reached EB (cell c (rk 10)) 0) ∗ (room (piece (dv c 5)) c ∗ reached EB (cell c (rk 12)) 0)) := by
    show iprop((room (slot bufR 0) (dv (dv c 7) 1) ∗ reached EB (cell (dv (dv c 7) 1) (rk 1)) 0) ∗ (room (slot bufR 1) (dv (dv c 7) 1) ∗ reached EB (cell (dv (dv c 7) 1) (rk 3)) 0) ∗ (room (slot bufR 2) (dv (dv c 7) 1) ∗ reached EB (cell (dv (dv c 7) 1) (rk 5)) 0) ∗ (room (piece (dv c 7)) (dv (dv c 7) 1) ∗ reached EB (cell (dv (dv c 7) 1) (rk 8)) 0) ∗ (room (piece (dv (dv c 7) 7)) (dv (dv c 7) 1) ∗ reached EB (cell (dv (dv c 7) 1) (rk 10)) 0) ∗ (room (piece (dv (dv c 7) 6)) (dv (dv c 7) 1) ∗ reached EB (cell (dv (dv c 7) 1) (rk 12)) 0)) = _
    rw [e, e1, e2]
  rw [h]
  iintro #HO A0 A1 A2 A3 A4 A5
  isplitl [A0]
  · isplitl; · iexact A0
    iapply (opened_at c (rk 1)); iexact HO
  isplitl [A1]
  · isplitl; · iexact A1
    iapply (opened_at c (rk 3)); iexact HO
  isplitl [A2]
  · isplitl; · iexact A2
    iapply (opened_at c (rk 5)); iexact HO
  isplitl [A3]
  · isplitl; · iexact A3
    iapply (opened_at c (rk 8)); iexact HO
  isplitl [A4]
  · isplitl; · iexact A4
    iapply (opened_at c (rk 10)); iexact HO
  isplitl; · iexact A5
  iapply (opened_at c (rk 12)); iexact HO

omit [FloatOps F] in
theorem give2 : (opened c : sProp 𝕄) ⊢ iprop(room cdR c -∗ room (piece (dv c 4)) c -∗ barPay (dv c 4) 2) := by
  have e : dv (dv c 4) 4 = c := dv_back c 4 4 rfl
  have h : (barPay (dv c 4) 2 : sProp 𝕄) = iprop((room cdR c ∗ reached EB (cell c (rk 0)) 0) ∗ (room (piece (dv c 4)) c ∗ reached EB (cell c (rk 7)) 0)) := by
    show iprop((room cdR (dv (dv c 4) 4) ∗ reached EB (cell (dv (dv c 4) 4) (rk 0)) 0) ∗ (room (piece (dv c 4)) (dv (dv c 4) 4) ∗ reached EB (cell (dv (dv c 4) 4) (rk 7)) 0)) = _
    rw [e]
  rw [h]
  iintro #HO A0 A1
  isplitl [A0]
  · isplitl; · iexact A0
    iapply (opened_at c (rk 0)); iexact HO
  isplitl; · iexact A1
  iapply (opened_at c (rk 7)); iexact HO

/-- The kernel's nine scratch buffers, whatever they hold. -/
def bufs9 : sProp 𝕄 := iprop(buf c cc0_scratch0 ∗ buf c cc0_scratch1 ∗ buf c cc0_scratch2 ∗ buf c cc0_scratch3 ∗ buf c cc0_scratch4 ∗ buf c cc0_scratch5 ∗ buf c cc0_scratch6 ∗ buf c cc0_scratch7 ∗ buf c cc0_scratch8)
/-- What device `c` brings into the body of the protocol. -/
def given : sProp 𝕄 :=
  iprop(allInv I K ∗ (barDuty (dv c 1) 0 ∗ barDuty (dv c 7) 1 ∗ barDuty (dv c 4) 2) ∗ atPos EB (barCell c) 0 ∅ 0 ∗ cred (tallyAt (barCell c) () 3)
    ∗ toolS c ∗ toolP c ∗ toolC c ∗ opened c)
/-- Every semaphore of the device at zero. -/
def zeros : sProp 𝕄 := iprop((bigSep Finset.univ fun k : Fin 32 => semVal (cell c k) 0) ∗ semVal (barCell c) 0)

theorem close_all : iprop(allInv I K ∗ allDone (F := F) c ∗ atPos EB (barCell c) 1 ∅ 0) ⊢ (|={Set.univ}=> zeros c : sProp 𝕄) := by
  rw [allDone_eq]; unfold zeros
  iintro ⟨#HI, HD, HB⟩
  imod (close_bar I K c) $$ [HB] with HB
  · isplitr; · iexact HI
    iexact HB
  ihave HD := (bigSep_with_persistent (S := Finset.univ) (R := allInv I K) (Φ := fun k : Fin 32 => done (F := F) c k)
    (Ψ := fun k : Fin 32 => iprop(|={Set.univ}=> semVal (cell c k) 0)) fun k _ => close_cell I K c k) $$ [HD]
  · isplitr; · iexact HI
    iexact HD
  imod (bigSep_fupd (Finset.univ : Finset (Fin 32)) fun k => (semVal (cell c k) 0 : sProp 𝕄)) $$ HD with HD
  imodintro
  isplitl [HD]; · iexact HD
  iexact HB

/-- The pieces of the gathered output at one valuation. -/
theorem pieces_room (f : Buf (Elt F) ((c : Thread nD τ).loc cc0_scratch6)) :
    iprop(pts (piece c) c fullShare f ∗ pts (piece (dv c 1)) c fullShare f ∗ pts (piece (dv c 2)) c fullShare f ∗ pts (piece (dv c 3)) c fullShare f ∗ pts (piece (dv c 4)) c fullShare f ∗ pts (piece (dv c 5)) c fullShare f ∗ pts (piece (dv c 6)) c fullShare f ∗ pts (piece (dv c 7)) c fullShare f) ⊢ (buf c cc0_scratch6 : sProp 𝕄) := by
  rw [← ogat_cut c f]; unfold buf
  iintro H; iexists f; iexact H

/-- The protocol's rooms afterwards are the nine scratch buffers. -/
theorem rooms_back (f2 : Buf (Elt F) ((c : Thread nD τ).loc cc0_scratch2)) (f3 : Buf (Elt F) ((c : Thread nD τ).loc cc0_scratch3))
    (f8 : Buf (Elt F) ((c : Thread nD τ).loc cc0_scratch8)) : (rooms' I c : sProp 𝕄) ⊢ bufs9 c := by
  unfold rooms' bufs9
  rw [← room_whole c cc0_scratch0, ← room_whole c cc0_scratch1, ← room_whole c cc0_scratch4, ← room_whole c cc0_scratch5, ← room_whole c cc0_scratch7]
  iintro ⟨⟨H0, H1, H4, H5, H7⟩, HR, HL, HS, HG⟩
  ihave HR := (bufR_join c f2) $$ HR
  ihave HL := (bufL_join c f3) $$ HL
  ihave HS := (stg_join c f8) $$ HS
  ihave HG := (pieces_room c (OG I)) $$ HG
  isplitl [H0]; · iexact H0
  isplitl [H1]; · iexact H1
  isplitl [HR]; · iexact HR
  isplitl [HL]; · iexact HL
  isplitl [H4]; · iexact H4
  isplitl [H5]; · iexact H5
  isplitl [HG]; · iexact HG
  isplitl [H7]; · iexact H7
  iexact HS

omit [FloatOps F] in
theorem buf_known (b : Ref sig .tc) : (buf c b : sProp 𝕄) ⊢ iprop(∃ f : Buf (Elt F) ((c : Thread nD τ).loc b), ((c : Thread nD τ).loc b ↦{fullShare} f)) := .rfl
omit [FloatOps F] in
theorem known_buf (b : Ref sig .tc) (f : Buf (Elt F) ((c : Thread nD τ).loc b)) : (((c : Thread nD τ).loc b ↦{fullShare} f) : sProp 𝕄) ⊢ buf c b := by
  unfold buf; iintro H; iexists f; iexact H
omit [FloatOps F] in
theorem pts_room {sp : Space} {s : Shape} {e : EltTy} (M : Memref sig .tc sp s e) (f : Buf (Elt F) (M.view.loc (c : Thread nD τ))) :
    (pts M c fullShare f : sProp 𝕄) ⊢ room M c := by
  iintro H; iexists f; iexact H

theorem run_fupd {α : Type} (p : Prog (TpuEff nD τ sig (Elt F) Λ₀ .tc) α) (Q : α → sProp 𝕄) :
    run c p (fun r => iprop(|={Set.univ}=> Q r)) ⊢ run c p Q := by
  unfold run; exact wp_fupd _ _ _ p Q

set_option maxHeartbeats 1000000 in
/-- The whole body. -/
theorem enter (Q : PUnit → sProp 𝕄) :
    (given I K c : sProp 𝕄) ⊢ iprop(bufs9 c -∗ wins I c -∗ ((c : Thread nD τ).loc main_arg7 ↦{fullShare} (I c).wo) -∗ room wOut c
      -∗ (∃ W, owes (c : Thread nD τ) (debt0 c) W)
      -∗ (zeros c -∗ bufs9 c -∗ wins I c -∗ ((c : Thread nD τ).loc main_arg7 ↦{fullShare} (I c).wo) -∗ pts wOut c fullShare (out7 I c)
        -∗ (∃ W, owes (c : Thread nD τ) 0 W) -∗ Q ⟨⟩)
      -∗ run c (ap (cc0__body (F := F))) Q) := by
  rw [wo_cut c (I c).wo]
  unfold given bufs9
  iintro ⟨#HI, HT, Hat, Hc, HS, HP, HC, #HO⟩ ⟨H0, H1, H2, H3, H4, H5, H6, H7, H8⟩ Hw Hwo Hout HW Hk
  ihave H2 := (buf_known c cc0_scratch2) $$ H2
  ihave H3 := (buf_known c cc0_scratch3) $$ H3
  ihave H6 := (buf_known c cc0_scratch6) $$ H6
  ihave H8 := (buf_known c cc0_scratch8) $$ H8
  icases H2 with ⟨%f2, H2⟩
  icases H3 with ⟨%f3, H3⟩
  icases H6 with ⟨%f6, H6⟩
  icases H8 with ⟨%f8, H8⟩
  ihave H2 := ((known_buf c cc0_scratch2 f2).trans (bufR_cut c)) $$ H2
  ihave H3 := ((known_buf c cc0_scratch3 f3).trans (bufL_cut c)) $$ H3
  ihave H8 := ((known_buf c cc0_scratch8 f8).trans (stg_cut c)) $$ H8
  ihave H6 := (Entails.of_eq (ogat_cut c f6)) $$ H6
  icases H2 with ⟨R0, R1, R2⟩
  icases H3 with ⟨L0, L1, L2⟩
  icases H8 with ⟨S0, S1⟩
  icases H6 with ⟨G0, G1, G2, G3, G4, G5, G6, G7⟩
  ihave G1 := (pts_room c (piece (dv c 1)) f6) $$ G1
  ihave G2 := (pts_room c (piece (dv c 2)) f6) $$ G2
  ihave G3 := (pts_room c (piece (dv c 3)) f6) $$ G3
  ihave G4 := (pts_room c (piece (dv c 4)) f6) $$ G4
  ihave G5 := (pts_room c (piece (dv c 5)) f6) $$ G5
  ihave G6 := (pts_room c (piece (dv c 6)) f6) $$ G6
  ihave G7 := (pts_room c (piece (dv c 7)) f6) $$ G7
  ihave H5 := (Entails.of_eq (room_whole c cc0_scratch5).symm) $$ H5
  ihave H0 := (Entails.of_eq (room_whole c cc0_scratch0).symm) $$ H0
  ihave H1 := (Entails.of_eq (room_whole c cc0_scratch1).symm) $$ H1
  ihave H4 := (Entails.of_eq (room_whole c cc0_scratch4).symm) $$ H4
  ihave H7 := (Entails.of_eq (room_whole c cc0_scratch7).symm) $$ H7
  ihave B0 := (give0 c) $$ HO L0 L1 L2 G1 G2 G3
  ihave B1 := (give1 c) $$ HO R0 R1 R2 G7 G6 G5
  ihave B2 := (give2 c) $$ HO H5 G4
  iapply (run_fupd c (ap (cc0__body (F := F))) Q)
  iapply (body_run I K c (fun r => iprop(|={Set.univ}=> Q r))) $$ HI [HT B0 B1 B2 Hat Hc HW] HS HP HC [H0 H1 H4 G0 H7 S0 S1] Hw [Hwo] Hout
  · unfold gate
    isplitl [HT]; · iexact HT
    isplitl [B0 B1 B2]
    · isplitl [B0]; · iexact B0
      isplitl [B1]; · iexact B1
      iexact B2
    isplitl [Hat]; · iexact Hat
    isplitl [Hc]; · iexact Hc
    iexact HW
  · unfold rooms
    isplitl [H0]; · iexact H0
    isplitl [H1]; · iexact H1
    isplitl [H4]; · iexact H4
    isplitl [G0]; · iexists f6; iexact G0
    isplitl [H7]; · iexact H7
    isplitl [S0]; · iexact S0
    iexact S1
  · unfold wobs; iexact Hwo
  iintro HW Hat HD HR Hw Hwo Hout
  imod (close_all I K c) $$ [Hat HD] with HZ
  · isplitr; · iexact HI
    isplitl [HD]; · iexact HD
    iexact Hat
  imodintro
  ihave HR := (rooms_back I c f2 f3 f8) $$ HR
  iapply Hk $$ HZ [HR] Hw [Hwo] Hout [HW]
  · unfold bufs9; iexact HR
  · unfold wobs; iexact Hwo
  · unfold owing; rw [debt_last]; iexact HW

end Cert.Mla
-- ==== Proof.Whole.lean ====
/-
  A window that stages a whole array: what a fetch brings, and what the write-back leaves.
-/
module

public import Idealize.ShloMosaic.Lib.Pipeline.Value

@[expose] public section

noncomputable section

namespace Cert.Mla

open Idealize.ShloMosaic Idealize.ShloMosaic.TcCoe

variable {sig : RefSig} {Val : EltTy → Type} {s : Shape} {e : EltTy} {cs : CoreSpace}
  {arr : Memref sig .tc .hbm s e} {isOut sync : Bool} {stage : Memref sig .tc (.core cs) s e} {sem : DmaSem sig}
  {harr : arr.IsWhole} {hstage : stage.IsWhole}

variable {nD : Nat} {τ : Topo} (c : Dev nD)

local notation "win" => Pipeline.Window.whole arr isOut sync stage sem harr hstage

theorem rect_emb_whole (t : Fin Pipeline.Grid.none.N) (j : s.Idx) : (Pipeline.Window.rect win t).emb j = j :=
  funext fun a => Fin.ext (by rw [Rect.emb_apply]; show 0 * s.size a + 1 * (j a).val = (j a).val; omega)

/-- The block at the one point reads as the array does. -/
theorem read_whole_blk (t : Fin Pipeline.Grid.none.N) (A : Buf Val (arr.view.loc (c.tc : Thread nD τ))) :
    (Pipeline.Window.blk win t).view.read Val A = arr.view.read Val A := by
  funext j
  exact congrArg (arr.view.read Val A) (rect_emb_whole (harr := harr) (hstage := hstage) (isOut := isOut) (sync := sync) (sem := sem) t j)

/-- The block at the one point covers what the array's memref does. -/
theorem set_whole_blk (t : Fin Pipeline.Grid.none.N) : (Pipeline.Window.blk win t).view.set = arr.view.set := by
  ext i
  simp only [View.set, Finset.mem_map, Finset.mem_univ, true_and]
  refine exists_congr fun j => Eq.congr_left ?_
  exact congrArg arr.view.emb (rect_emb_whole (harr := harr) (hstage := hstage) (isOut := isOut) (sync := sync) (sem := sem) t j)

/-- A fetch brings what the array reads. -/
theorem fill_whole (t : Fin Pipeline.Grid.none.N) (d : s.Idx → Val e) (A : Buf Val (arr.view.loc (c.tc : Thread nD τ))) :
    Pipeline.Window.fill win (Pipeline.Grid.none.coords t) d ((Pipeline.Window.blk win t).view.read Val A) = arr.view.read Val A := by
  rw [read_whole_blk (c := c)]
  funext j
  unfold Pipeline.Window.fill
  rw [dif_pos ((Pipeline.Window.moved_iff _ _ _).mpr fun a => (j a).isLt)]

/-- A write-back takes all that is staged. -/
theorem cut_whole (t : Fin Pipeline.Grid.none.N) (f : s.Idx → Val e) : Pipeline.Window.cut win (Pipeline.Grid.none.coords t) f = f := rfl

end Cert.Mla

end
-- ==== Proof.Data.lean ====
/-
  The kernel as one pipelined region of the program: what its windows hold before and after its one grid point, and the body's
  obligation there.
-/
module

public import proofs.«01_k».proof.Proof.Entry
public import proofs.«01_k».proof.Proof.Whole
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-- The buffers of device `c` as the kernel finds them. -/
def VA (c : Dev nD) : Valuation τ sig (Elt F) := V1 m c
/-- What each device's kernel is called with. -/
def Iof (c : Dev nD) : In F where
  x := VA m c main_v5
  wd := VA m c main_v18
  uk := VA m c main_v19
  uv := VA m c main_v20
  wq := VA m c main_v11
  wqr := VA m c main_v17
  wkr := VA m c main_v21
  wo := VA m c main_arg7
/-- What the kernel leaves in its result. -/
def outs : Outs (F := F) := fun _ r c => Function.update (V1 m c) (Proc.devRef .tc main_v22) (out7 (Iof m) c) (Proc.devRef .tc r)
/-- The buffers of device `c` after the kernel. -/
abbrev VB (c : Dev nD) : Valuation τ sig (Elt F) := V2 m (outs m) c
theorem VB_out : VB m c main_v22 = out7 (Iof m) c := by
  show Function.update (V1 m c) (Proc.devRef .tc main_v22) (outs m 2 main_v22 c) (Proc.devRef .tc main_v22) = _
  rw [Function.update_self]; unfold outs; exact Function.update_self ..
theorem VB_of (r : Ref sig .tc) (h : r ≠ main_v22) : VB m c r = VA m c r := V2_of m (outs m) c r (by simpa using h)

/-- The kernel's own semaphores. -/
abbrev osem (k : Fin 32) : SemLoc sig := semK k
/-- The one buffer outside the windows that the body reads. -/
abbrev Hs : Finset (DevRef τ sig) := {Proc.devRef .tc main_arg7}
/-- What enters the kernel, and what it gives back, beside its windows. -/
def Xk (c : Dev nD) : sProp 𝕄 := iprop(∃ K : GSem nD τ sig → ℕ, given (Iof m) K c)
def Yk (c : Dev nD) : sProp 𝕄 := semVal (barCell c) 0
def Φ₀ (c : Dev nD) : sProp 𝕄 :=
  iprop(Pipeline.scopedRest spec0 c ∗ (∃ r, prngReg c r) ∗ StableHlo.held (c : Thread nD τ) Hs (VA m c) ∗ Xk m c)
def Φ₁ (c : Dev nD) : sProp 𝕄 :=
  iprop(Pipeline.scopedRest spec0 c ∗ (∃ r, prngReg c r) ∗ StableHlo.held (c : Thread nD τ) Hs (VB m c) ∗ Pipeline.ownSems0 osem c ∗ Yk c)

/-- The region's data: the windows' contents, and what the core owes before and after the grid's one point. -/
def dat (c : Dev nD) : Dat τ (Elt F) Unit ℕ UU ℕ cfg0 c where
  A w := VA m c (Proc.devRef .tc (Pipeline.arrRef spec0 w))
  after w _ := match w with
    | ⟨0, _⟩ => (Iof m c).x
    | ⟨1, _⟩ => (Iof m c).wd
    | ⟨2, _⟩ => (Iof m c).uk
    | ⟨3, _⟩ => (Iof m c).uv
    | ⟨4, _⟩ => (Iof m c).wq
    | ⟨5, _⟩ => (Iof m c).wqr
    | ⟨6, _⟩ => (Iof m c).wkr
    | ⟨7, _⟩ => out7 (Iof m) c
  Φ t := match t with
    | ⟨0, _⟩ => Φ₀ m c
    | ⟨_ + 1, _⟩ => Φ₁ m c
  q _ := fullShare
  owed t := match t with
    | ⟨0, _⟩ => debt0 c
    | ⟨_ + 1, _⟩ => 0
abbrev pdats : (p : Fin 1) → (c : Dev nD) → Dat τ (Elt F) Unit ℕ UU ℕ (cfgs p) c := fun _ => dat m

theorem share_eq (w : Fin cfg0.W) : (dat m c).share w = fullShare := by
  unfold Dat.share; split <;> rfl

omit [FloatOps F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
omit [FloatOps F] in
theorem pts_whole (b : Ref sig .tc) (f : Buf (Elt F) ((c : Thread nD τ).loc b)) :
    (pts (Memref.whole b) c fullShare f : sProp 𝕄) = ((c : Thread nD τ).loc b ↦{fullShare} f) := by
  show ((c : Thread nD τ).loc b ↦[(View.whole b).set]{fullShare} f) = _
  rw [View.set_whole]

omit [FloatOps F] in
theorem rest_eq : (Pipeline.scopedRest (Ix := Unit) (Name := ℕ) (U := UU) (Lvl := ℕ) (Val := Elt F) spec0 c : sProp 𝕄) = bufs9 c := scopedRest0_eq c
omit [FloatOps F] in
theorem held_wo (V : Valuation τ sig (Elt F)) : (StableHlo.held (c : Thread nD τ) Hs V : sProp 𝕄) = ((c : Thread nD τ).loc main_arg7 ↦{fullShare} V main_arg7) := by
  unfold StableHlo.held; rw [bigSep_singleton]

omit [FloatOps F] in
theorem own_zero : (bigSep Finset.univ fun k : Fin 32 => (semVal (cell c k) 0 : sProp 𝕄)) = Pipeline.ownSems0 osem c := rfl

theorem owes_in : ((dat m c).owesAt () t0_0.castSucc : sProp 𝕄) ⊢ iprop(∃ W, owes (c : Thread nD τ) (debt0 c) W) := by
  unfold Dat.owesAt Pipeline.owesWithin
  rw [show (dat m c).owed t0_0.castSucc = debt0 c from rfl]
  iintro ⟨%W, -, HO⟩; iexists W; iexact HO
theorem owes_out : iprop(∃ W, owes (c : Thread nD τ) (0 : CellTallies nD τ sig Unit) W) ⊢ ((dat m c).owesAt () t0_0.succ : sProp 𝕄) := by
  unfold Dat.owesAt Pipeline.owesWithin Dat.bound
  rw [show (dat m c).owed t0_0.succ = 0 from rfl, show (dat m c).recorded t0_0.succ = Set.univ from rfl]
  iintro ⟨%W, HO⟩; iexists W; isplitr; · ipureintro; exact fun _ _ => Or.inl trivial
  iexact HO

omit [FloatOps F] in
/-- A staging buffer at known contents, as the region states it and as the body does. -/
theorem own_pts (b : Ref sig .tc) (X : b.ty.Contents (Elt F)) :
    (owns (c : Thread nD τ) (Memref.whole b) fullShare X : sProp 𝕄) ⊢ pts (Memref.whole b) c fullShare X := by
  rw [owns_whole, pts_whole]; iintro ⟨%f, %e, H⟩; rw [← e]; iexact H
omit [FloatOps F] in
theorem pts_own (b : Ref sig .tc) (X : b.ty.Contents (Elt F)) :
    (pts (Memref.whole b) c fullShare X : sProp 𝕄) ⊢ owns (c : Thread nD τ) (Memref.whole b) fullShare X := by
  rw [owns_whole, pts_whole]; iintro H; iexists X; isplitr; · ipureintro; rfl
  iexact H

theorem before_in (w : Fin cfg0.W) (hf : (cfg0.win w).fetch t0_0 = true) (d) : (dat m c).before w t0_0 d = (dat m c).fetched w t0_0 d := by
  unfold Dat.before; rw [if_pos hf]
theorem fetched_in0 (d) : (dat m c).fetched 0 t0_0 d = (Iof m c).x :=
  fill_whole (arr := Memref.whole main_v5) (harr := Memref.isWhole_whole _) (hstage := hstage0_0 0) c t0_0 d (VA m c main_v5)
theorem win_in0 (d) : (owns (c : Thread nD τ) (Memref.whole cc0_stg0_0) fullShare ((dat m c).before 0 t0_0 d) : sProp 𝕄) ⊢ pts wX c fullShare (Iof m c).x := by
  rw [before_in m c 0 (fetch0_0 _) d, fetched_in0 m c d]; exact own_pts c cc0_stg0_0 _
theorem fetched_in1 (d) : (dat m c).fetched 1 t0_0 d = (Iof m c).wd :=
  fill_whole (arr := Memref.whole main_v18) (harr := Memref.isWhole_whole _) (hstage := hstage0_1 0) c t0_0 d (VA m c main_v18)
theorem win_in1 (d) : (owns (c : Thread nD τ) (Memref.whole cc0_stg1_0) fullShare ((dat m c).before 1 t0_0 d) : sProp 𝕄) ⊢ pts wWd c fullShare (Iof m c).wd := by
  rw [before_in m c 1 (fetch0_1 _) d, fetched_in1 m c d]; exact own_pts c cc0_stg1_0 _
theorem fetched_in2 (d) : (dat m c).fetched 2 t0_0 d = (Iof m c).uk :=
  fill_whole (arr := Memref.whole main_v19) (harr := Memref.isWhole_whole _) (hstage := hstage0_2 0) c t0_0 d (VA m c main_v19)
theorem win_in2 (d) : (owns (c : Thread nD τ) (Memref.whole cc0_stg2_0) fullShare ((dat m c).before 2 t0_0 d) : sProp 𝕄) ⊢ pts wUk c fullShare (Iof m c).uk := by
  rw [before_in m c 2 (fetch0_2 _) d, fetched_in2 m c d]; exact own_pts c cc0_stg2_0 _
theorem fetched_in3 (d) : (dat m c).fetched 3 t0_0 d = (Iof m c).uv :=
  fill_whole (arr := Memref.whole main_v20) (harr := Memref.isWhole_whole _) (hstage := hstage0_3 0) c t0_0 d (VA m c main_v20)
theorem win_in3 (d) : (owns (c : Thread nD τ) (Memref.whole cc0_stg3_0) fullShare ((dat m c).before 3 t0_0 d) : sProp 𝕄) ⊢ pts wUv c fullShare (Iof m c).uv := by
  rw [before_in m c 3 (fetch0_3 _) d, fetched_in3 m c d]; exact own_pts c cc0_stg3_0 _
theorem fetched_in4 (d) : (dat m c).fetched 4 t0_0 d = (Iof m c).wq :=
  fill_whole (arr := Memref.whole main_v11) (harr := Memref.isWhole_whole _) (hstage := hstage0_4 0) c t0_0 d (VA m c main_v11)
theorem win_in4 (d) : (owns (c : Thread nD τ) (Memref.whole cc0_stg4_0) fullShare ((dat m c).before 4 t0_0 d) : sProp 𝕄) ⊢ pts wWq c fullShare (Iof m c).wq := by
  rw [before_in m c 4 (fetch0_4 _) d, fetched_in4 m c d]; exact own_pts c cc0_stg4_0 _
theorem fetched_in5 (d) : (dat m c).fetched 5 t0_0 d = (Iof m c).wqr :=
  fill_whole (arr := Memref.whole main_v17) (harr := Memref.isWhole_whole _) (hstage := hstage0_5 0) c t0_0 d (VA m c main_v17)
theorem win_in5 (d) : (owns (c : Thread nD τ) (Memref.whole cc0_stg5_0) fullShare ((dat m c).before 5 t0_0 d) : sProp 𝕄) ⊢ pts wWqr c fullShare (Iof m c).wqr := by
  rw [before_in m c 5 (fetch0_5 _) d, fetched_in5 m c d]; exact own_pts c cc0_stg5_0 _
theorem fetched_in6 (d) : (dat m c).fetched 6 t0_0 d = (Iof m c).wkr :=
  fill_whole (arr := Memref.whole main_v21) (harr := Memref.isWhole_whole _) (hstage := hstage0_6 0) c t0_0 d (VA m c main_v21)
theorem win_in6 (d) : (owns (c : Thread nD τ) (Memref.whole cc0_stg6_0) fullShare ((dat m c).before 6 t0_0 d) : sProp 𝕄) ⊢ pts wWkr c fullShare (Iof m c).wkr := by
  rw [before_in m c 6 (fetch0_6 _) d, fetched_in6 m c d]; exact own_pts c cc0_stg6_0 _
omit [FloatOps F] in
theorem win_in7 (X : cc0_stg7_0.ty.Contents (Elt F)) : (owns (c : Thread nD τ) (Memref.whole cc0_stg7_0) fullShare X : sProp 𝕄) ⊢ room wOut c := by
  iintro H
  ihave H := (own_pts c cc0_stg7_0 X) $$ H
  iapply (pts_room c wOut X); iexact H

set_option maxRecDepth 8000 in
/-- The body's obligation at the grid's one point. -/
theorem body_ob : BodyObligation (dat m c) (defs₀ (F := F)) 𝒱₀ () Set.univ := fun t => by
  rw [fin_N0 t]
  rw [bigSep_W0, bigSep_W0]
  show iprop(Φ₀ m c ∗ (dat m c).owesAt () t0_0.castSucc ∗ (∃ d : (cfg0.win 0).block.Idx → Elt F (cfg0.win 0).elt, owns (c : Thread nD τ) (Memref.whole cc0_stg0_0) fullShare ((dat m c).before 0 t0_0 d)) ∗ (∃ d : (cfg0.win 1).block.Idx → Elt F (cfg0.win 1).elt, owns (c : Thread nD τ) (Memref.whole cc0_stg1_0) fullShare ((dat m c).before 1 t0_0 d)) ∗ (∃ d : (cfg0.win 2).block.Idx → Elt F (cfg0.win 2).elt, owns (c : Thread nD τ) (Memref.whole cc0_stg2_0) fullShare ((dat m c).before 2 t0_0 d)) ∗ (∃ d : (cfg0.win 3).block.Idx → Elt F (cfg0.win 3).elt, owns (c : Thread nD τ) (Memref.whole cc0_stg3_0) fullShare ((dat m c).before 3 t0_0 d)) ∗ (∃ d : (cfg0.win 4).block.Idx → Elt F (cfg0.win 4).elt, owns (c : Thread nD τ) (Memref.whole cc0_stg4_0) fullShare ((dat m c).before 4 t0_0 d)) ∗ (∃ d : (cfg0.win 5).block.Idx → Elt F (cfg0.win 5).elt, owns (c : Thread nD τ) (Memref.whole cc0_stg5_0) fullShare ((dat m c).before 5 t0_0 d)) ∗ (∃ d : (cfg0.win 6).block.Idx → Elt F (cfg0.win 6).elt, owns (c : Thread nD τ) (Memref.whole cc0_stg6_0) fullShare ((dat m c).before 6 t0_0 d)) ∗ (∃ d : (cfg0.win 7).block.Idx → Elt F (cfg0.win 7).elt, owns (c : Thread nD τ) (Memref.whole cc0_stg7_0) fullShare ((dat m c).before 7 t0_0 d))) ⊢ wp frame (wpE (defs₀ (F := F)) 𝒱₀ c none) Set.univ (ap (cc0__body (F := F)))
    (fun _ => iprop(Φ₁ m c ∗ (dat m c).owesAt () t0_0.succ ∗ owns (c : Thread nD τ) (Memref.whole cc0_stg0_0) fullShare ((dat m c).after 0 t0_0) ∗ owns (c : Thread nD τ) (Memref.whole cc0_stg1_0) fullShare ((dat m c).after 1 t0_0) ∗ owns (c : Thread nD τ) (Memref.whole cc0_stg2_0) fullShare ((dat m c).after 2 t0_0) ∗ owns (c : Thread nD τ) (Memref.whole cc0_stg3_0) fullShare ((dat m c).after 3 t0_0) ∗ owns (c : Thread nD τ) (Memref.whole cc0_stg4_0) fullShare ((dat m c).after 4 t0_0) ∗ owns (c : Thread nD τ) (Memref.whole cc0_stg5_0) fullShare ((dat m c).after 5 t0_0) ∗ owns (c : Thread nD τ) (Memref.whole cc0_stg6_0) fullShare ((dat m c).after 6 t0_0) ∗ owns (c : Thread nD τ) (Memref.whole cc0_stg7_0) fullShare ((dat m c).after 7 t0_0)))
  unfold Φ₀ Φ₁ Xk Yk
  rw [rest_eq, held_wo, held_wo, VB_of m c main_arg7 (by decide)]
  iintro ⟨⟨HR, HP, HW, %K, HG⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (win_in0 m c d0) $$ H0
  ihave H1 := (win_in1 m c d1) $$ H1
  ihave H2 := (win_in2 m c d2) $$ H2
  ihave H3 := (win_in3 m c d3) $$ H3
  ihave H4 := (win_in4 m c d4) $$ H4
  ihave H5 := (win_in5 m c d5) $$ H5
  ihave H6 := (win_in6 m c d6) $$ H6
  ihave H7 := (win_in7 c _) $$ H7
  ihave HO := (owes_in m c) $$ HO
  iapply (enter (Iof m) K c _) $$ [HG] [HR] [H0 H1 H2 H3 H4 H5 H6] [HW] [H7] [HO] [HP]
  · iexact HG
  · iexact HR
  · unfold wins
    isplitl [H0]; · iexact H0
    isplitl [H1]; · iexact H1
    isplitl [H2]; · iexact H2
    isplitl [H3]; · iexact H3
    isplitl [H4]; · iexact H4
    isplitl [H5]; · iexact H5
    iexact H6
  · iexact HW
  · iexact H7
  · iexact HO
  iintro HZ HR HWi HW H7 HO
  unfold wins zeros
  icases HZ with ⟨HS, HB⟩
  icases HWi with ⟨H0, H1, H2, H3, H4, H5, H6⟩
  isplitl [HR HP HW HS HB]
  · isplitl [HR]; · iexact HR
    isplitl [HP]; · iexact HP
    isplitl [HW]; · iexact HW
    isplitl [HS]; · ihave HS := (Entails.of_eq (own_zero c)) $$ HS; iexact HS
    iexact HB
  isplitl [HO]; · iapply (owes_out m c); iexact HO
  isplitl [H0]; · iapply (pts_own c cc0_stg0_0 _); iexact H0
  isplitl [H1]; · iapply (pts_own c cc0_stg1_0 _); iexact H1
  isplitl [H2]; · iapply (pts_own c cc0_stg2_0 _); iexact H2
  isplitl [H3]; · iapply (pts_own c cc0_stg3_0 _); iexact H3
  isplitl [H4]; · iapply (pts_own c cc0_stg4_0 _); iexact H4
  isplitl [H5]; · iapply (pts_own c cc0_stg5_0 _); iexact H5
  isplitl [H6]; · iapply (pts_own c cc0_stg6_0 _); iexact H6
  iapply (pts_own c cc0_stg7_0 _); iexact H7

end Cert.Mla

end
-- ==== Proof.Region.lean ====
/-
  The kernel's region: what a device brings to it from the launch, how its thirty-two own semaphores are opened there, and the region as
  a step of the program that takes the buffers as found to the buffers with the result written.
-/
module

public import proofs.«01_k».proof.Proof.Data
public import Idealize.ShloMosaic.Lib.Rounds.Family
public import Idealize.ShloMosaic.Harness.Basic

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F]

local notation "𝕄" => MT nD τ sig Unit (Elt F) ℕ UU ℕ

variable (I : Dev nD → In F) (K : GSem nD τ sig → ℕ) (c : Dev nD)

/-- The tokens of copy `i` of device `c`: the duty on its own send semaphore and the one on the peer's receive semaphore. -/
def sendToks (i : Fin 14) : sProp 𝕄 := iprop(dutyTok EB (cell c (sk i)) 0 0 ∗ dutyTok EB (cell (peer i c) (rk i)) 0 0)
/-- What device `c` holds of the protocol from the launch until the kernel is entered. -/
def ghost : sProp 𝕄 :=
  iprop(allInv I K ∗ (barDuty (dv c 1) 0 ∗ barDuty (dv c 7) 1 ∗ barDuty (dv c 4) 2) ∗ atPos EB (barCell c) 0 ∅ 0
    ∗ (bigSep Finset.univ fun k : Fin 32 => openTok EB (cell c k))
    ∗ (bigSep Finset.univ fun i : Fin 14 => sendToks c i)
    ∗ (bigSep Finset.univ fun j : Fin 4 => dutyTok EB (cell c (lk j)) 0 0))
/-- The credit device `c` is given for what its peers owe it. -/
def credits : sProp 𝕄 :=
  iprop(cred (tallyAt (barCell c) () 3) ∗ bigSep Finset.univ fun i : Fin 14 => cred (tallyAt (cell c (rk i)) () (amtK (rk i))))
def Tk : sProp 𝕄 := iprop((∃ K : GSem nD τ sig → ℕ, ghost I K c) ∗ credits c)

/-- Opening the kernel's own semaphores. -/
theorem open_all : iprop(allInv I K ∗ (bigSep Finset.univ fun k : Fin 32 => openTok EB (cell c k)) ∗ (bigSep Finset.univ fun k : Fin 32 => semVal (cell c k) 0))
    ⊢ (|={Set.univ}=> bigSep Finset.univ fun k : Fin 32 => iprop(atPos EB (cell c k) 0 ∅ 0 ∗ reached EB (cell c k) 0) : sProp 𝕄) := by
  iintro ⟨#HI, HT, HS⟩
  ihave HC := (bigSep_with_persistent (S := Finset.univ) (R := allInv I K) (Φ := fun k : Fin 32 => (openTok EB (cell c k) : sProp 𝕄))
    (Ψ := fun k : Fin 32 => iprop(cellInv EB (rd I) (K (cell c k)) (cell c k) ∗ openTok EB (cell c k))) fun k _ => by
      iintro ⟨#HI, HT⟩; isplitr; · iapply (allInv_cell I K c k); iexact HI
      iexact HT) $$ [HT]
  · isplitr; · iexact HI
    iexact HT
  imod (cells_open EB (rd I) Finset.univ (fun k : Fin 32 => cell c k) (fun k => K (cell c k)) (fun _ _ => Set.mem_univ _)) $$ [HC HS] with H
  · isplitl [HC]; · iexact HC
    iexact HS
  imodintro; iexact H

omit [FloatOps F] in
/-- Positions, tokens and credit sorted by the copies that use them. -/
theorem sort_tools : iprop((bigSep Finset.univ fun k : Fin 32 => (iprop(atPos EB (cell c k) 0 ∅ 0 ∗ reached EB (cell c k) 0) : sProp 𝕄))
      ∗ (bigSep Finset.univ fun i : Fin 14 => sendToks c i) ∗ (bigSep Finset.univ fun j : Fin 4 => dutyTok EB (cell c (lk j)) 0 0)
      ∗ (bigSep Finset.univ fun i : Fin 14 => cred (tallyAt (cell c (rk i)) () (amtK (rk i)))))
    ⊢ (iprop(toolS c ∗ toolP c ∗ toolC c ∗ opened c) : sProp 𝕄) := by
  rw [bigSep_sep', keys_split (fun k : Fin 32 => (atPos EB (cell c k) 0 ∅ 0 : sProp 𝕄)), toolS_eq, toolP_eq, toolC_eq,
    show (bigSep Finset.univ fun k : Fin 32 => (reached EB (cell c k) 0 : sProp 𝕄)) = opened c from rfl]
  iintro ⟨⟨⟨HS, HP, HC⟩, #HO⟩, HT, HL, HX⟩
  isplitl [HS HT]
  · iapply (bigSep_with_persistent (S := Finset.univ) (R := (opened c : sProp 𝕄)) (Φ := fun i : Fin 14 => iprop(atPos EB (cell c (sk i)) 0 ∅ 0 ∗ sendToks c i))
      (Ψ := fun i : Fin 14 => (sendRes c i : sProp 𝕄)) fun i _ => by
        unfold sendRes sendToks
        iintro ⟨#HO, HA, H1, H2⟩
        isplitl [HA]; · iexact HA
        isplitl [H1]; · iexact H1
        isplitr; · iapply (opened_at c (sk i)); iexact HO
        iexact H2)
    isplitr; · iexact HO
    rw [bigSep_sep']; isplitl [HS]; · iexact HS
    iexact HT
  isplitl [HP HX]
  · unfold pend; rw [bigSep_sep']; isplitl [HP]; · iexact HP
    iexact HX
  isplitl [HC HL]
  · iapply (bigSep_with_persistent (S := Finset.univ) (R := (opened c : sProp 𝕄)) (Φ := fun j : Fin 4 => iprop(atPos EB (cell c (lk j)) 0 ∅ 0 ∗ dutyTok EB (cell c (lk j)) 0 0))
      (Ψ := fun j : Fin 4 => (copyRes c (lk j) : sProp 𝕄)) fun j _ => by
        unfold copyRes
        iintro ⟨#HO, HA, H1⟩
        isplitl [HA]; · iexact HA
        isplitl [H1]; · iexact H1
        iapply (opened_at c (lk j)); iexact HO)
    isplitr; · iexact HO
    rw [bigSep_sep']; isplitl [HC]; · iexact HC
    iexact HL
  iexact HO

variable (m : (ℓ : Loc nD τ sig) → Buf (Elt F) ℓ)

theorem open_region : iprop(Tk (Iof m) c ∗ Pipeline.ownSems0 osem c ∗ levAts lvl lev) ⊢ (|={Set.univ}=> Xk m c : sProp 𝕄) := by
  rw [← own_zero]
  unfold Tk Xk ghost credits
  iintro ⟨⟨⟨%K, #HI, HB, HA, HO, HT, HL⟩, HC, HX⟩, HS, -⟩
  imod (open_all (Iof m) K c) $$ [HO HS] with HK
  · isplitr; · iexact HI
    isplitl [HO]; · iexact HO
    iexact HS
  ihave HG := (sort_tools c) $$ [HK HT HL HX]
  · isplitl [HK]; · iexact HK
    isplitl [HT]; · iexact HT
    isplitl [HL]; · iexact HL
    iexact HX
  imodintro; iexists K; unfold given
  isplitr; · iexact HI
  isplitl [HB]; · iexact HB
  isplitl [HA]; · iexact HA
  isplitl [HC]; · iexact HC
  iexact HG

theorem recv_above : ∀ j : Fin 14, 0 < lvK (rk j) := by decide
theorem staging_sem : ∀ (w : Fin cfg0.W) (s : Fin (cfg0.win w).nbuf), ((cfg0.win w).sem s).val < 8 := by decide
theorem staging_lev (q : DmaSem sig) (h : q.val < 8) : lev ((c : Thread nD τ), .dma q) () = 0 :=
  dif_neg fun ⟨h8, _⟩ => by omega
/-- Only the result's buffer changes. -/
theorem rest_same (b : DevRef τ sig) (hb : b ≠ Proc.devRef .tc main_v22) : VB m c b = VA m c b := Function.update_of_ne hb _ _

/-- Whatever is owed at any point of the region sits above level 0. -/
theorem owed_above (t : Fin (cfg0.N + 1)) (g : GSem nD τ sig) (i : Unit) (h : 0 < (dat m c).owed t g i) : i ∈ lvl g ∧ 0 < lev g i := by
  match t, h with
  | ⟨0, _⟩, h =>
    have h : 0 < debt c 0 g i + tallyAt (barCell (dv c 4)) () 1 g i + tallyAt (barCell (dv c 7)) () 1 g i + tallyAt (barCell (dv c 1)) () 1 g i := h
    have bar : ∀ d : Dev nD, 0 < tallyAt (barCell d) () 1 g i → i ∈ lvl g ∧ 0 < lev g i := fun d hd => by
      obtain ⟨rfl, -⟩ := Pipeline.tallyAt_pos hd
      rw [lvl_tc, lev_bar]; exact ⟨Finset.mem_singleton_self _, Nat.one_pos⟩
    rcases (by omega : 0 < debt c 0 g i ∨ 0 < tallyAt (barCell (dv c 4)) () 1 g i ∨ 0 < tallyAt (barCell (dv c 7)) () 1 g i ∨ 0 < tallyAt (barCell (dv c 1)) () 1 g i) with h | h | h | h
    · obtain ⟨j, -, rfl⟩ := debt_pos c 0 g i h
      rw [lvl_tc, lev_cell]; exact ⟨Finset.mem_singleton_self _, recv_above j⟩
    · exact bar _ h
    · exact bar _ h
    · exact bar _ h
  | ⟨_ + 1, _⟩, h => exact absurd h (lt_irrefl 0)

theorem arr_in (w : Fin cfg0.W) : (dat m c).arrAt w 0 = VA m c (Proc.devRef .tc (Pipeline.arrRef spec0 w)) := rfl
theorem arr_out0 : (dat m c).arrAt 0 cfg0.N = VB m c main_v5 := by
  rw [VB_of m c main_v5 (by decide)]; exact (dat m c).arrAt_in 0 rfl _
theorem arr_out1 : (dat m c).arrAt 1 cfg0.N = VB m c main_v18 := by
  rw [VB_of m c main_v18 (by decide)]; exact (dat m c).arrAt_in 1 rfl _
theorem arr_out2 : (dat m c).arrAt 2 cfg0.N = VB m c main_v19 := by
  rw [VB_of m c main_v19 (by decide)]; exact (dat m c).arrAt_in 2 rfl _
theorem arr_out3 : (dat m c).arrAt 3 cfg0.N = VB m c main_v20 := by
  rw [VB_of m c main_v20 (by decide)]; exact (dat m c).arrAt_in 3 rfl _
theorem arr_out4 : (dat m c).arrAt 4 cfg0.N = VB m c main_v11 := by
  rw [VB_of m c main_v11 (by decide)]; exact (dat m c).arrAt_in 4 rfl _
theorem arr_out5 : (dat m c).arrAt 5 cfg0.N = VB m c main_v17 := by
  rw [VB_of m c main_v17 (by decide)]; exact (dat m c).arrAt_in 5 rfl _
theorem arr_out6 : (dat m c).arrAt 6 cfg0.N = VB m c main_v21 := by
  rw [VB_of m c main_v21 (by decide)]; exact (dat m c).arrAt_in 6 rfl _
theorem arr_out7 : (dat m c).arrAt 7 cfg0.N = VB m c main_v22 := by
  rw [VB_out m c]
  refine (dat m c).arrAt_eq_of_cover 7 (out7 (Iof m) c) (fun t _ => ?_) (fun i => ⟨t0_0, flush0_7 t0_0, ?_⟩)
  · exact (read_whole_blk (Val := Elt F) (τ := τ) (arr := Memref.whole main_v22) (harr := Memref.isWhole_whole _) (hstage := hstage0_7 0) c t (out7 (Iof m) c)).symm
  · have h := set_whole_blk (arr := Memref.whole main_v22) (isOut := true) (sync := false) (sem := sem0_7 0) (harr := Memref.isWhole_whole _) (hstage := hstage0_7 0) t0_0
    exact (h.trans (View.set_whole _)) ▸ Finset.mem_univ i
theorem arr_out (w : Fin cfg0.W) : (dat m c).arrAt w cfg0.N = VB m c (Proc.devRef .tc (Pipeline.arrRef spec0 w)) := match w with
  | ⟨0, _⟩ => arr_out0 c m
  | ⟨1, _⟩ => arr_out1 c m
  | ⟨2, _⟩ => arr_out2 c m
  | ⟨3, _⟩ => arr_out3 c m
  | ⟨4, _⟩ => arr_out4 c m
  | ⟨5, _⟩ => arr_out5 c m
  | ⟨6, _⟩ => arr_out6 c m
  | ⟨7, _⟩ => arr_out7 c m

abbrev ucR : Finset (DevRef τ sig) := Pipeline.ucRefs τ sig
abbrev Sr : Finset (DevRef τ sig) := ucR \ Pipeline.arrRefs spec0

set_option backward.isDefEq.respectTransparency.types false in
/-- The kernel's region. -/
def reg : Pipeline.RegionSeg (pcfgs (F := F)) adm (pdats m) () (defs₀ (F := F)) 𝒱₀ lvl lev 0 :=
  Pipeline.RegionSeg.ofTalk (pcfgs (F := F)) adm (pdats m) () defs₀ 𝒱₀ lvl lev 0 osem (by decide : Pipeline.OwnSemFacts spec0 osem)
    Hs Sr (by decide) (launch0).toP rfl (fun c => (body_ob m c).loose)
    (fun _ => 0) (fun c => debt0 c) (fun c => (zero_add _).symm) (fun _ => rfl) (fun _ => rfl) (fun c w => share_eq m c w)
    (VA m) (VB m) (fun c b hb => rest_same c m b fun e => (Finset.mem_sdiff.mp (Finset.mem_sdiff.mp hb).1).2 (e ▸ (by decide : Proc.devRef .tc main_v22 ∈ Pipeline.arrRefs spec0))) (Tk (Iof m)) Yk (Xk m) Yk (fun c => open_region c m)
    (fun c => .rfl) (fun c => .rfl) (fun c => by iintro H; imodintro; iexact H)
    (fun _ => 0) ⟨fun c w s => by rw [lvl_tc]; exact Finset.mem_singleton_self _, fun c w s => (staging_lev c _ (staging_sem w s)).le, fun c t g i h => owed_above c m t g i h⟩ (fun _ => iprop(emp)) (fun c w => arr_in c m w) (fun c w => arr_out c m w)

end Cert.Mla

end
-- ==== Proof.Launch.lean ====
/-
  The launch: the barrier's and the copies' semaphores are put under the protocol's invariants, the tokens of every duty are dealt to the
  device that discharges it, and each device's credit is what its peers owe it.
-/
module

public import proofs.«01_k».proof.Proof.Region

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Smoke (bigSep_pair)

variable {F : FTy → Type} [FloatOps F]

local notation "𝕄" => MT nD τ sig Unit (Elt F) ℕ UU ℕ

variable (I : Dev nD → In F) (K : GSem nD τ sig → ℕ) (c : Dev nD)

/-! ## Cells and tokens -/

theorem semK_inj : Function.Injective semK := by decide
theorem semK_ne_bar : ∀ k : Fin 32, semK k ≠ .reg barrier0 := by decide

def barEmb : Dev nD ↪ GSem nD τ sig := ⟨fun c => barCell c, fun _ _ h => congrArg (fun g : GSem nD τ sig => g.1.1) h⟩
def cellEmb : Dev nD × Fin 32 ↪ GSem nD τ sig :=
  ⟨fun p => cell p.1 p.2, fun _ _ h => Prod.ext (congrArg (fun g : GSem nD τ sig => g.1.1) h) (semK_inj (congrArg Prod.snd h))⟩
abbrev barCells : Finset (GSem nD τ sig) := Finset.univ.map barEmb
abbrev ownCells : Finset (GSem nD τ sig) := Finset.univ.map cellEmb
/-- The duties: three arrivals on each barrier, and one on each of a device's thirty-two semaphores. -/
def dutyEmb : (Dev nD × Fin 3) ⊕ (Dev nD × Fin 32) ↪ GSem nD τ sig × ℕ × Fin 3 :=
  ⟨fun | .inl p => (barCell p.1, 0, p.2) | .inr p => (cell p.1 p.2, 0, 0), by
    rintro (p | p) (q | q) h
    · exact congrArg Sum.inl (Prod.ext (congrArg (fun t : GSem nD τ sig × ℕ × Fin 3 => t.1.1.1) h) (congrArg (fun t : GSem nD τ sig × ℕ × Fin 3 => t.2.2) h))
    · exact absurd (congrArg (fun t : GSem nD τ sig × ℕ × Fin 3 => t.1.2) h).symm (semK_ne_bar q.2)
    · exact absurd (congrArg (fun t : GSem nD τ sig × ℕ × Fin 3 => t.1.2) h) (semK_ne_bar p.2)
    · exact congrArg Sum.inr (cellEmb.injective (congrArg Prod.fst h))⟩
abbrev dutySet : Finset (GSem nD τ sig × ℕ × Fin 3) := Finset.univ.map dutyEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact semK_ne_bar p.2 (congrArg Prod.snd h)

/-- The element the launch starts from: the windows' protocol and the kernel's own. -/
def u₀ : UU :=
  (initOf (Pipeline.cells (Pipeline.pin (pcfgs (F := F)) adm) cellOf_inj) (Pipeline.launchToks (Pipeline.pin (pcfgs (F := F)) adm) cellOf_inj),
    launchOf barCells ownCells dutySet)

/-- A resource held by device 0 for all. -/
def atFirst (X : sProp 𝕄) (c : Dev nD) : sProp 𝕄 := if c = 0 then X else iprop(emp)
omit [FloatOps F] in
theorem bigSep_atFirst (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp
def G : Dev nD → sProp 𝕄 := atFirst (BI.own (EB (launchOf barCells ownCells dutySet)))

theorem fund_start : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj))) ∗ bigSep Finset.univ G) := by
  unfold u₀ G
  rw [bigSep_atFirst]
  iintro Hu
  ihave H := (ownU_pair _ _) $$ Hu
  icases H with ⟨HP, HX⟩
  imodintro
  isplitl [HP]; · iexact HP
  iexact HX

/-! ## Dealing the tokens -/

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide)]; rfl

/-- The barrier tokens a device discharges: at its right, its left and its opposite. -/
def barToks : sProp 𝕄 := iprop(dutyTok EB (barCell (dv c 1)) 0 0 ∗ dutyTok EB (barCell (dv c 7)) 0 1 ∗ dutyTok EB (barCell (dv c 4)) 0 2)
omit [FloatOps F] in
theorem barToks_deal : (bigSep Finset.univ fun p : Dev nD × Fin 3 => (dutyTok EB (barCell p.1) 0 p.2 : sProp 𝕄)) = bigSep Finset.univ fun c => barToks c := by
  have e1 := bigSep_univ_equiv (shift 1 7 rfl) fun d => (dutyTok EB (barCell d) 0 0 : sProp 𝕄)
  have e7 := bigSep_univ_equiv (shift 7 1 rfl) fun d => (dutyTok EB (barCell d) 0 1 : sProp 𝕄)
  have e4 := bigSep_univ_equiv (shift 4 4 rfl) fun d => (dutyTok EB (barCell d) 0 2 : sProp 𝕄)
  rw [bigSep_univ_prod, bigSep_congr fun d (_ : d ∈ Finset.univ) => bigSep_three fun j => (dutyTok EB (barCell d) 0 j : sProp 𝕄),
    bigSep_sep', bigSep_sep', e1, e7, e4]
  unfold barToks
  rw [bigSep_sep', bigSep_sep']
  rfl

theorem hop_lt : ∀ i : Fin 14, hop i ≤ 8 := by decide
/-- The tokens of the copies, dealt to the device that issues each. -/
def copyToks : sProp 𝕄 :=
  iprop((bigSep Finset.univ fun i : Fin 14 => sendToks c i) ∗ (bigSep Finset.univ fun j : Fin 4 => dutyTok EB (cell c (lk j)) 0 0))
omit [FloatOps F] in
theorem copyToks_deal : (bigSep Finset.univ fun p : Dev nD × Fin 32 => (dutyTok EB (cell p.1 p.2) 0 0 : sProp 𝕄)) = bigSep Finset.univ fun c => copyToks c := by
  have hr : (bigSep Finset.univ fun c : Dev nD => bigSep Finset.univ fun i : Fin 14 => (dutyTok EB (cell c (rk i)) 0 0 : sProp 𝕄))
      = bigSep Finset.univ fun c : Dev nD => bigSep Finset.univ fun i : Fin 14 => dutyTok EB (cell (peer i c) (rk i)) 0 0 := by
    rw [bigSep_univ_comm, bigSep_univ_comm (fun (c : Dev nD) (i : Fin 14) => (dutyTok EB (cell (peer i c) (rk i)) 0 0 : sProp 𝕄))]
    exact bigSep_congr fun i _ => bigSep_univ_equiv (shift (hop i) (8 - hop i) (by have := hop_lt i; omega)) fun d => (dutyTok EB (cell d (rk i)) 0 0 : sProp 𝕄)
  rw [bigSep_univ_prod, bigSep_congr fun c (_ : c ∈ Finset.univ) => keys_split fun k : Fin 32 => (dutyTok EB (cell c k) 0 0 : sProp 𝕄),
    bigSep_sep', bigSep_sep', hr, ← bigSep_sep', ← bigSep_sep']
  refine bigSep_congr fun c _ => ?_
  unfold copyToks sendToks
  rw [bigSep_sep']
  refine BI.Entails.antisymm (show _ ⊢ (_ : sProp 𝕄) from ?_) (show _ ⊢ (_ : sProp 𝕄) from ?_)
  · iintro ⟨A, B, C⟩
    isplitl [A B]
    · isplitl [A] <;> iassumption
    iexact C
  · iintro ⟨⟨A, B⟩, C⟩
    isplitl [A]; · iexact A
    isplitl [B] <;> iassumption

omit [FloatOps F] in
theorem toks_deal : (bigSep dutySet fun x => (dutyTok EB x.1 x.2.1 x.2.2 : sProp 𝕄)) = bigSep Finset.univ fun c => iprop(barToks c ∗ copyToks c) := by
  rw [bigSep_map, bigSep_univ_sum, bigSep_sep', ← barToks_deal, ← copyToks_deal]
  rfl

/-! ## Credit -/

omit [FloatOps F] in
theorem launch_credits : (Pipeline.launchCred debt0 c : sProp 𝕄) ⊢ credits c := by
  have e : (debt0 : Dev nD → CellTallies nD τ sig Unit) = fun d => (fun d => (fun d => (fun d => ∑ i : Fin 14, tallyAt (((peer i d) : Thread nD τ), semK (rk i)) () (amtK (rk i))) d
      + tallyAt (((dv d 4) : Thread nD τ), .reg barrier0) () 1) d + tallyAt (((dv d 7) : Thread nD τ), .reg barrier0) () 1) d + tallyAt (((dv d 1) : Thread nD τ), .reg barrier0) () 1 := by
    funext d; unfold debt0 debt; simp only [Nat.zero_le, if_true]
  have hr (c : Dev nD) : (bigSep Finset.univ fun i : Fin 14 => (Pipeline.launchCred (fun d => tallyAt (((peer i d) : Thread nD τ), semK (rk i)) () (amtK (rk i))) c : sProp 𝕄))
      ⊢ bigSep Finset.univ fun i : Fin 14 => cred (tallyAt (cell c (rk i)) () (amtK (rk i))) :=
    bigSep_mono fun i _ => Pipeline.launchCred_tallyAt (semK (rk i)) (peer i) (fun d => dv d (8 - hop i))
      (fun d => dv_back d _ _ (by have := hop_lt i; omega)) (fun d => dv_back d _ _ (by have := hop_lt i; omega)) () (amtK (rk i)) c
  rw [e, Pipeline.launchCred_add, Pipeline.launchCred_add, Pipeline.launchCred_add, Pipeline.launchCred_sum]
  unfold credits
  iintro ⟨⟨⟨H, H4⟩, H7⟩, H1⟩
  ihave H4 := (Pipeline.launchCred_tallyAt (.reg barrier0) (fun d => dv d 4) (fun d => dv d 4) (fun d => dv_back d 4 4 rfl) (fun d => dv_back d 4 4 rfl) () 1 c) $$ H4
  ihave H7 := (Pipeline.launchCred_tallyAt (.reg barrier0) (fun d => dv d 7) (fun d => dv d 1) (fun d => dv_back d 1 7 rfl) (fun d => dv_back d 7 1 rfl) () 1 c) $$ H7
  ihave H1 := (Pipeline.launchCred_tallyAt (.reg barrier0) (fun d => dv d 1) (fun d => dv d 7) (fun d => dv_back d 7 1 rfl) (fun d => dv_back d 1 7 rfl) () 1 c) $$ H1
  isplitr [H]
  · have e3 : (tallyAt (barCell c) () 3 : CellTallies nD τ sig Unit) = tallyAt (barCell c) () 1 + tallyAt (barCell c) () 1 + tallyAt (barCell c) () 1 := by
      rw [tallyAt_add, tallyAt_add]
    iapply (Entails.of_eq (congrArg cred e3.symm))
    iapply (cred_add _ _).2
    isplitl [H4 H7]
    · iapply (cred_add _ _).2
      isplitl [H4] <;> iassumption
    iexact H1
  ihave H := (hr c) $$ H
  iexact H

/-! ## The launch -/

omit [FloatOps F] in
theorem unscoped_bar : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What every device may consult. -/
def records : sProp 𝕄 := iprop(allInv I K ∗ bigSep barCells fun g => reached EB g 0)
instance records_persistent : BI.Persistent (records I K) := by unfold records; infer_instance
theorem records_bar : (records I K : sProp 𝕄) ⊢ reached EB (barCell c) 0 := by
  unfold records; iintro ⟨-, #H⟩
  iapply (pick (Finset.mem_map_of_mem barEmb (Finset.mem_univ c)) fun g => (reached EB g 0 : sProp 𝕄)); iexact H

/-- A device's own part of the launch. -/
def share0 : sProp 𝕄 := iprop(atPos EB (barCell c) 0 ∅ 0 ∗ (bigSep Finset.univ fun k : Fin 32 => openTok EB (cell c k)) ∗ barToks c ∗ copyToks c)

theorem ghost_intro : iprop(records I K ∗ share0 c) ⊢ (ghost I K c : sProp 𝕄) := by
  unfold share0 ghost barToks copyToks barDuty
  iintro ⟨#HR, HA, HO, ⟨HB1, HB7, HB4⟩, HS, HL⟩
  isplitr
  · unfold records; icases HR with ⟨HI, -⟩; iexact HI
  isplitl [HB1 HB7 HB4]
  · isplitl [HB1]
    · isplitl [HB1]; · iexact HB1
      iapply (records_bar I K (dv c 1)); iexact HR
    isplitl [HB7]
    · isplitl [HB7]; · iexact HB7
      iapply (records_bar I K (dv c 7)); iexact HR
    isplitl [HB4]; · iexact HB4
    iapply (records_bar I K (dv c 4)); iexact HR
  isplitl [HA]; · iexact HA
  isplitl [HO]; · iexact HO
  isplitl [HS]; · iexact HS
  iexact HL

theorem allInv_of : iprop((bigSep (barCells ∪ ownCells) fun g => cellInv EB (rd I) (K g) g) ∗ levAts lvl lev) ⊢ (allInv I K : sProp 𝕄) := by
  rw [show (bigSep (barCells ∪ ownCells) fun g => (cellInv EB (rd I) (K g) g : sProp 𝕄)) = iprop(_ ∗ _) from bigSep_union cells_disjoint, bigSep_map, bigSep_map]
  unfold allInv
  iintro ⟨⟨HB, HC⟩, HL⟩
  isplitl [HC]; · iexact HC
  isplitl [HB]; · iexact HB
  iexact HL

variable (ρ : Dev nD → PrngReg)

/-- What rides beside the buffers until the kernel is entered. -/
def rest0 : sProp 𝕄 := iprop((∃ r, prngReg c r) ∗ Tk I c ∗ ∃ W, owes (c : Thread nD τ) (debt0 c) W)

theorem init0 : iprop((bigSep Finset.univ fun c : Dev nD => iprop(unscopedSems0 c ∗ owes (c : Thread nD τ) (debt0 c) ∅ ∗ Pipeline.launchCred debt0 c ∗ prngReg c (ρ c) ∗ G c)) ∗ levAts lvl lev)
    ⊢ (|={Set.univ}=> bigSep Finset.univ fun c => rest0 I c : sProp 𝕄) := by
  simp only [unscoped_bar]
  rw [bigSep_sep', bigSep_sep', bigSep_sep', bigSep_sep']
  iintro ⟨⟨HV, HW, HC, HP, HG⟩, #HL⟩
  ihave HG := (Entails.of_eq (show bigSep Finset.univ (G (F := F)) = BI.own (EB (launchOf barCells ownCells dutySet)) from bigSep_atFirst _)) $$ HG
  imod (Rounds.fund_launch EB (rd I) cells_disjoint (fun g _ h => h) dutySet) $$ [HV HG] with ⟨%κ, -, #Hinv, #Hr, Hat, Hopen, Htok⟩
  · isplitl [HV]
    · iapply (Entails.of_eq (bigSep_map (s := Finset.univ) barEmb (Φ := fun g : GSem nD τ sig => (semVal g 0 : sProp 𝕄))).symm); iexact HV
    · iexact HG
  imodintro
  ihave Hat := (Entails.of_eq (bigSep_map (s := Finset.univ) barEmb (Φ := fun g : GSem nD τ sig => (atPos EB g 0 ∅ 0 : sProp 𝕄)))) $$ Hat
  ihave Hopen := (Entails.of_eq ((bigSep_map (s := Finset.univ) cellEmb (Φ := fun g : GSem nD τ sig => (openTok EB g : sProp 𝕄))).trans (bigSep_univ_prod _))) $$ Hopen
  ihave Htok := (Entails.of_eq (toks_deal (F := F))) $$ Htok
  iapply (bigSep_with_persistent (R := records I κ) (Φ := fun c => iprop(share0 c ∗ owes (c : Thread nD τ) (debt0 c) ∅ ∗ Pipeline.launchCred debt0 c ∗ prngReg c (ρ c))) fun c _ => by
    unfold rest0 Tk
    iintro ⟨#HR, HS, HW, HC, HP⟩
    isplitl [HP]; · iexists (ρ c); iexact HP
    isplitl [HS HC]
    · isplitl [HS]
      · iexists κ
        iapply (ghost_intro I κ c); isplitr; · iexact HR
        iexact HS
      iapply (launch_credits c); iexact HC
    iexists ∅; iexact HW)
  isplitr
  · unfold records
    isplitr
    · iapply (allInv_of I κ); isplitr; · iexact Hinv
      iexact HL
    iexact Hr
  iapply bigSep_pair
  isplitl [Hat Hopen Htok]
  · unfold share0
    iapply bigSep_pair; isplitl [Hat]; · iexact Hat
    iapply bigSep_pair; isplitl [Hopen]; · iexact Hopen
    iexact Htok
  iapply bigSep_pair; isplitl [HW]; · iexact HW
  iapply bigSep_pair; isplitl [HC] <;> iassumption

end Cert.Mla

end
-- ==== Proof.Run.lean ====
/-
  The program's run: from any memory with every semaphore at zero it terminates, leaves the arguments as they were, leaves every semaphore
  at zero, and leaves in the result's buffer the kernel's result reshaped.
-/
module

public import proofs.«01_k».proof.Proof.Launch

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- What rides beside the buffers before and after the kernel. -/
def beside (k : Fin 2) (c : Dev nD) : sProp 𝕄 := match k with
  | ⟨0, _⟩ => rest0 (Iof m) c
  | ⟨_ + 1, _⟩ => iprop(Yk c ∗ ∃ W, owes (c : Thread nD τ) (0 : CellTallies nD τ sig Unit) W)

theorem arr_sub : Pipeline.arrRefs spec0 ⊆ ucR := by decide

theorem reg_pre : iprop(StableHlo.held (c : Thread nD τ) (Pipeline.ucRefs τ sig) (V1 m c) ∗ beside m 0 c) ⊢ (reg m).pre c := by
  show iprop(StableHlo.held (c : Thread nD τ) ucR (VA m c) ∗ rest0 (Iof m) c)
    ⊢ iprop(StableHlo.held (c : Thread nD τ) (Pipeline.arrRefs spec0) (VA m c) ∗ (∃ r, prngReg c r)
      ∗ (StableHlo.held (c : Thread nD τ) Sr (VA m c) ∗ emp) ∗ Tk (Iof m) c ∗ ∃ Wd, owes (c : Thread nD τ) (0 + debt0 c) Wd)
  rw [StableHlo.held_sub_split (c : Thread nD τ) arr_sub (VA m c), zero_add]
  unfold rest0
  iintro ⟨⟨HA, HR⟩, HP, HT, HO⟩
  isplitl [HA]; · iexact HA
  isplitl [HP]; · iexact HP
  isplitl [HR]
  · isplitl [HR]; · iexact HR
    iempintro
  isplitl [HT]; · iexact HT
  iexact HO

theorem reg_post : (reg m).post c ⊢ iprop(StableHlo.held (c : Thread nD τ) (Pipeline.ucRefs τ sig) (V2 m (outs m) c) ∗ beside m 1 c) := by
  show iprop(StableHlo.held (c : Thread nD τ) (Pipeline.arrRefs spec0) (VB m c) ∗ (∃ r, prngReg c r)
      ∗ (StableHlo.held (c : Thread nD τ) Sr (VB m c) ∗ emp) ∗ Yk c ∗ ∃ Wd, owes (c : Thread nD τ) 0 Wd)
    ⊢ iprop(StableHlo.held (c : Thread nD τ) ucR (VB m c) ∗ (Yk c ∗ ∃ W, owes (c : Thread nD τ) (0 : CellTallies nD τ sig Unit) W))
  rw [StableHlo.held_sub_split (c : Thread nD τ) arr_sub (VB m c)]
  iintro ⟨HA, -, ⟨HR, -⟩, HY, HO⟩
  isplitl [HA HR]
  · isplitl [HA] <;> iassumption
  isplitl [HY] <;> iassumption

theorem unscoped_eq : ∀ sm : SemLoc sig, sm.isScoped .tc = false → sm = .reg barrier0 := by decide

/-- The arguments of `c` as they were, and its result. -/
def Kept (s : MemSt nD τ sig (Elt F)) (c : Dev nD) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7))
  ∧ s.mem ((c.tc : Thread nD τ).loc main_v23) = V3 m (outs m) c main_v23

set_option backward.isDefEq.respectTransparency.types false in
theorem run_main : θ_run defs (onTc (τ := τ) (main (F := F))) ⟨m, fun _ => 0, ρ⟩ (fun r => (∀ c, Kept m r.2 c) ∧ r.2.sem = fun _ => 0) := by
  refine Pipeline.θ_run_regions_kit_dev_sems (pcfgs (F := F)) adm (pdats m) () cellOf_inj EP defs₀ 𝒱₀ lvl lev m ρ main
    (segs m (outs m) 𝒱₀ lvl lev (beside m) () (pdats m) (reg m))
    (fun c Q => by
      rewrite [main_chain c, Pipeline.Seg.run_eq_chain,
        show (segs m (outs m) 𝒱₀ lvl lev (beside m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) debt0 lvl_of_ne G (u₀ (F := F)) fund_start
    (T₀ := fun c => iprop(StableHlo.held (c : Thread nD τ) (Pipeline.ucRefs τ sig) (V0 m c) ∗ beside m 0 c))
    (Tₙ := fun c => iprop(StableHlo.held (c : Thread nD τ) (Pipeline.ucRefs τ sig) (V3 m (outs m) c) ∗ Yk c))
    (hch := fun c => ⟨.rfl, reg_pre m c, reg_post m c, ?_⟩)
    (hinit := ?_) (QY := fun c s => Kept m s c ∧ s.sem (barCell c) = 0)
    (hfin := fun c s' => ?_) (hQ := fun s h hs => ⟨fun c => (h c).1, sem_eq_zero hs fun c sm hsm => by
      obtain rfl := unscoped_eq sm hsm; exact (h c).2⟩)
  · show iprop(StableHlo.held (c : Thread nD τ) (Pipeline.ucRefs τ sig) (V3 m (outs m) c) ∗ (Yk c ∗ ∃ W, owes (c : Thread nD τ) (0 : CellTallies nD τ sig Unit) W)) ⊢ _
    iintro ⟨HH, HY, HO⟩
    isplitl [HH HY]
    · isplitl [HH] <;> iassumption
    iexact HO
  · have hsplit : (bigSep Finset.univ fun c : Dev nD => iprop(unscopedBufs c (fun b => m ((c.tc : Thread nD τ).loc b)) ∗ unscopedSems0 c
          ∗ owes (c.tc : Thread nD τ) (debt0 c) ∅ ∗ Pipeline.launchCred debt0 c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (debt0 c) ∅ ∗ Pipeline.launchCred debt0 c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init0 (Iof m) ρ) $$ [Hr Hla] with HE
    · isplitl [Hr]; · iexact Hr
      iexact Hla
    imodintro
    rw [bigSep_sep']
    isplitl [Hh]; · iexact Hh
    iexact HE
  · unfold StableHlo.held Yk
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have g : ∀ r : Ref sig .tc, Proc.devRef .tc r ∈ Pipeline.ucRefs τ sig → s'.mem.mem ((c.tc : Thread nD τ).loc r) = V3 m (outs m) c r := fun r hr => h _ hr
      exact ⟨⟨⟨(g main_arg0 (by decide)).trans (V3_main_arg0 m (outs m) c), (g main_arg1 (by decide)).trans (V3_main_arg1 m (outs m) c),
        (g main_arg2 (by decide)).trans (V3_main_arg2 m (outs m) c), (g main_arg3 (by decide)).trans (V3_main_arg3 m (outs m) c),
        (g main_arg4 (by decide)).trans (V3_main_arg4 m (outs m) c), (g main_arg5 (by decide)).trans (V3_main_arg5 m (outs m) c),
        (g main_arg6 (by decide)).trans (V3_main_arg6 m (outs m) c), (g main_arg7 (by decide)).trans (V3_main_arg7 m (outs m) c)⟩,
        g main_v23 (by decide)⟩, by simpa using hb⟩
    · iexact HSI

end Cert.Mla

end
-- ==== Proof.Same.lean ====
/-
  The two prints of the kernel have one text, so their body tables are equal: each label's body is the other's by
  definition, and the pipeline is built on the table the same way.
-/
module

public import proofs.«01_k».proof.Proof.Gen.Kernel
public import proofs.«01_k».proof.Proof.Gen.KernelIdeal

@[expose] public section

namespace Cert.Mla

open Idealize.ShloMosaic

variable {F : FTy → Type} [FloatOps F]

/-- Label by label the bodies are the same function. -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are the tables with the pipelines' regions. -/
theorem table_eq : @Cert.Kernel.defs F _ Cert.Kernel.Gen.facts = @Cert.KernelIdeal.defs F _ Cert.KernelIdeal.Gen.facts := by
  unfold Cert.Kernel.defs Cert.KernelIdeal.defs
  exact congrArg (Pipeline.defs _) bodies_eq

end Cert.Mla

end
-- ==== Proof.Math.lean ====
/-
  The attention layer as a function of its eight arrays over the extended reals, coordinate by coordinate: what the kernel and the
  reference are both shown to compute.
-/
module

public import Idealize.ShloMosaic.PureOps.Ideal

@[expose] public section

noncomputable section

namespace Cert.Mla

open Idealize.ShloMosaic
open scoped BigOperators

/-! ## One head on one batch row -/

section Head
variable (q k : Fin 512 → Fin 128 → EReal) (qr kr : Fin 512 → Fin 32 → EReal) (v : Fin 512 → Fin 128 → EReal)

/-- The scaled score of query `s` against key `t`: content and position. -/
def score (s t : Fin 512) : EReal :=
  (∑ d, q s d * k t d + ∑ e, qr s e * kr t e) * Ideal.ofBits .f32 0x3DA1E89B#32
/-- The greatest score of a query. -/
def top (s : Fin 512) : EReal :=
  Finset.univ.fold max (Ideal.ofBits .f32 0xFF800000#32) fun t => score q k qr kr s t
/-- A query's weights before they are divided by their sum. -/
def ex (s t : Fin 512) : EReal := Ideal.exp (score q k qr kr s t - top q k qr kr s)
/-- A query's weights. -/
def weight (s t : Fin 512) : EReal := Ideal.div (ex q k qr kr s t) (∑ u, ex q k qr kr s u)
/-- The head's output. -/
def attn (s : Fin 512) (d : Fin 128) : EReal := ∑ t, weight q k qr kr s t * v t d
end Head

/-! ## The layer -/

/-- The eight arrays, by their coordinates. -/
structure Arr where
  x : Fin 2 → Fin 512 → Fin 2048 → EReal
  wd : Fin 2048 → Fin 1024 → EReal
  uk : Fin 1024 → Fin 2048 → EReal
  uv : Fin 1024 → Fin 2048 → EReal
  wq : Fin 2048 → Fin 2048 → EReal
  wqr : Fin 2048 → Fin 512 → EReal
  wkr : Fin 2048 → Fin 32 → EReal
  wo : Fin 2048 → Fin 2048 → EReal

namespace Arr
variable (A : Arr)

/-- The latent. -/
def lat (b : Fin 2) (s : Fin 512) (l : Fin 1024) : EReal := ∑ k, A.x b s k * A.wd k l
/-- Keys and values: the latent projected up. -/
def key (b : Fin 2) (s : Fin 512) (n : Fin 2048) : EReal := ∑ l, A.lat b s l * A.uk l n
def val (b : Fin 2) (s : Fin 512) (n : Fin 2048) : EReal := ∑ l, A.lat b s l * A.uv l n
/-- Queries, and the positional queries and keys. -/
def qry (b : Fin 2) (s : Fin 512) (n : Fin 2048) : EReal := ∑ k, A.x b s k * A.wq k n
def qryR (b : Fin 2) (s : Fin 512) (n : Fin 512) : EReal := ∑ k, A.x b s k * A.wqr k n
def keyR (b : Fin 2) (s : Fin 512) (n : Fin 32) : EReal := ∑ k, A.x b s k * A.wkr k n

/-- Column `d` of head `h`. -/
def col (h : Fin 16) (d : Fin 128) : Fin 2048 := ⟨h.val * 128 + d.val, by omega⟩
/-- Positional column `e` of head `h`. -/
def colR (h : Fin 16) (e : Fin 32) : Fin 512 := ⟨h.val * 32 + e.val, by omega⟩

/-- The output of head `h`. -/
def head (b : Fin 2) (h : Fin 16) : Fin 512 → Fin 128 → EReal :=
  attn (fun s d => A.qry b s (col h d)) (fun t d => A.key b t (col h d)) (fun s e => A.qryR b s (colR h e))
    (fun t e => A.keyR b t e) (fun t d => A.val b t (col h d))

/-- The heads' outputs side by side. -/
def heads (b : Fin 2) (s : Fin 512) (n : Fin 2048) : EReal :=
  A.head b ⟨n.val / 128, by omega⟩ s ⟨n.val % 128, by omega⟩

/-- The layer's output. -/
def out (b : Fin 2) (s : Fin 512) (n : Fin 2048) : EReal := ∑ k, A.heads b s k * A.wo k n
end Arr

/-! ## Sums in blocks -/

/-- A sum over `a * b` terms is the sum over `a` blocks of `b` terms. -/
theorem sum_blocks {M : Type} [AddCommMonoid M] (a b n : ℕ) (h : a * b = n) (f : Fin n → M) :
    ∑ k, f k = ∑ i : Fin a, ∑ j : Fin b, f ⟨b * i.val + j.val, by
      subst h
      calc b * i.val + j.val < b * i.val + b := by omega
        _ = b * (i.val + 1) := by ring
        _ ≤ b * a := Nat.mul_le_mul_left b i.isLt
        _ = a * b := Nat.mul_comm b a⟩ := by
  subst h
  rw [← Fintype.sum_prod_type', ← Equiv.sum_comp finProdFinEquiv]
  refine Finset.sum_congr rfl fun p _ => congrArg f (Fin.ext ?_)
  simp only [finProdFinEquiv_apply_val]
  omega

end Cert.Mla

end
-- ==== Proof.Sums.lean ====
/-
  The keys and values a device ends with, over the extended reals: the partial products that travel the two rings and across are
  added up, and each element is the sum over all eight devices.
-/
module

public import proofs.«01_k».proof.Proof.Vals
public import proofs.«01_k».proof.Proof.Math
public import Idealize.ShloMosaic.Lib.Pointwise

@[expose] public section

set_option maxRecDepth 16384

noncomputable section

namespace Cert.Mla

open Idealize.ShloMosaic Idealize.ShloMosaic.TcCoe
open Cert.KernelIdeal Cert.KernelIdeal.Gen
open scoped BigOperators

/-- The two ways to build a matrix index agree. -/
theorem pair_ix2 {a b : ℕ} (r : Fin a) (k : Fin b) : Shape.pair (d := ![a, b]) r k = ix2 r k := by
  funext d; match d with | ⟨0, _⟩ => rfl | ⟨1, _⟩ => rfl

/-- A block of columns at its coordinates, and a leading axis of one dropped. -/
theorem chunk_at {α : Type} (W : S128x2048.Idx → α) (n : ℕ) (j : Fin 128) (k : Fin 256) :
    chunk W n (ix2 j k) = W (ix2 j ⟨256 * (n % 8) + k.val, by omega⟩) := by
  unfold chunk; exact congrArg W (pair_ix2 ..)
theorem up_at {α : Type} (a : S1024x256.Idx → α) (o : Fin 1) (r : Fin 1024) (k : Fin 256) : up a (ix3 o r k) = a (ix2 r k) := by
  unfold up; exact congrArg a (pair_ix2 ..)

/-- Blocks of rows, the four quarters, and the stacked rows, at their coordinates. -/
theorem rowBlk_at {α : Type} (W : S2048x2048.Idx → α) (n : ℕ) (k : Fin 256) (j : Fin 2048) :
    rowBlk W n (ix2 k j) = W (ix2 ⟨256 * (n % 8) + k.val, by omega⟩ j) := by
  unfold rowBlk; exact congrArg W (pair_ix2 ..)
theorem row512_at {α : Type} (W : S2048x2048.Idx → α) (q : Fin 4) (k : Fin 512) (j : Fin 2048) :
    row512 W q (ix2 k j) = W (ix2 ⟨512 * q.val + k.val, by omega⟩ j) := by
  unfold row512; exact congrArg W (pair_ix2 ..)
theorem up512_at {α : Type} (a : S512x2048.Idx → α) (o : Fin 1) (k : Fin 512) (j : Fin 2048) : up512 a (ix3 o k j) = a (ix2 k j) := by
  unfold up512; exact congrArg a (pair_ix2 ..)
theorem rows4_at {α : Type} (a : Fin 4 → S512x2048.Idx → α) (k j : Fin 2048) :
    rows4 a (ix2 k j) = a ⟨k.val / 512, by omega⟩ (ix2 ⟨k.val % 512, by omega⟩ j) := by
  unfold rows4; exact congrArg (a _) (pair_ix2 ..)
theorem quads_at {α : Type} (a : Fin 2 → Fin 2 → S512x128.Idx → α) (r : Fin 1024) (k : Fin 256) :
    quads a (ix2 r k) = a ⟨r.val / 512, by omega⟩ ⟨k.val / 128, by omega⟩ (ix2 ⟨r.val % 512, by omega⟩ ⟨k.val % 128, by omega⟩) := by
  unfold quads; exact congrArg (a _ _) (pair_ix2 ..)

/-- A latent block times a block of columns of an up-projection. -/
def prt (l : S1024x128.Idx → EReal) (W : S128x2048.Idx → EReal) (n : ℕ) (r : Fin 1024) (k : Fin 256) : EReal :=
  ∑ j, l (ix2 r j) * chunk W n (ix2 j k)

theorem prt_congr (l : S1024x128.Idx → EReal) (W : S128x2048.Idx → EReal) (n n' : ℕ) (h : n % 8 = n' % 8) (r : Fin 1024) (k : Fin 256) :
    prt l W n r k = prt l W n' r k := by simp only [prt, chunk_at, h]

/-- A sum over the devices, started anywhere on the ring. -/
theorem sum_ring {M : Type} [AddCommMonoid M] (f : Dev nD → M) (c : Dev nD) : ∑ e, f e = ∑ n : Fin 8, f (dv c n) := by
  have h : ∀ n : Fin 8, dv c n = Equiv.addLeft (c : Fin 8) n := fun n => Fin.ext rfl
  simp only [h]
  exact (Equiv.sum_comp (Equiv.addLeft (c : Fin 8)) f).symm

variable (I : Dev nD → In Ideal) (c : Dev nD) (r : Fin 1024) (k : Fin 256)

theorem lat_at (l : Fin 128) : lat I c (ix2 r l) = ∑ i, (I c).x (ix2 r i) * (I c).wd (ix2 i l) := by
  pointwise [lat, k0_pay2, k0_pay1]

/-! ## What travels to the right, to the left and across -/

theorem r0K_at : r0K I c (ix2 r k) = prt (lat I c) (I c).uk (c.val + 3) r k := by
  pointwise [r0K, k0_pay5]; rfl
theorem r0V_at : r0V I c (ix2 r k) = prt (lat I c) (I c).uv (c.val + 3) r k := by
  pointwise [r0V, k0_pay6]; rfl
theorem r1K_at : r1K I c (ix2 r k) = r0K I (dv c 7) (ix2 r k) + prt (lat I c) (I c).uk (c.val + 2) r k := by
  pointwise [r1K, k0_pay18, k0_pay14]; rw [up_at]; rfl
theorem r1V_at : r1V I c (ix2 r k) = r0V I (dv c 7) (ix2 r k) + prt (lat I c) (I c).uv (c.val + 2) r k := by
  pointwise [r1V, k0_pay20, k0_pay19, k0_pay15]; rw [up_at]; rfl
theorem r2K_at : r2K I c (ix2 r k) = r1K I (dv c 7) (ix2 r k) + prt (lat I c) (I c).uk (c.val + 1) r k := by
  pointwise [r2K, k0_pay27, k0_pay23]; rw [up_at]; rfl
theorem r2V_at : r2V I c (ix2 r k) = r1V I (dv c 7) (ix2 r k) + prt (lat I c) (I c).uv (c.val + 1) r k := by
  pointwise [r2V, k0_pay28, k0_pay24]; rw [up_at]; rfl
theorem l0K_at : l0K I c (ix2 r k) = prt (lat I c) (I c).uk (c.val + 5) r k := by
  pointwise [l0K, k0_pay9, k0_pay8]; rfl
theorem l0V_at : l0V I c (ix2 r k) = prt (lat I c) (I c).uv (c.val + 5) r k := by
  pointwise [l0V, k0_pay10, k0_pay7]; rfl
theorem l1K_at : l1K I c (ix2 r k) = l0K I (dv c 1) (ix2 r k) + prt (lat I c) (I c).uk (c.val + 6) r k := by
  pointwise [l1K, k0_pay21, k0_pay16]; rw [up_at]; rfl
theorem l1V_at : l1V I c (ix2 r k) = l0V I (dv c 1) (ix2 r k) + prt (lat I c) (I c).uv (c.val + 6) r k := by
  pointwise [l1V, k0_pay22, k0_pay17]; rw [up_at]; rfl
theorem l2K_at : l2K I c (ix2 r k) = l1K I (dv c 1) (ix2 r k) + prt (lat I c) (I c).uk (c.val + 7) r k := by
  pointwise [l2K, k0_pay29, k0_pay25]; rw [up_at]; rfl
theorem l2V_at : l2V I c (ix2 r k) = l1V I (dv c 1) (ix2 r k) + prt (lat I c) (I c).uv (c.val + 7) r k := by
  pointwise [l2V, k0_pay30, k0_pay26]; rw [up_at]; rfl
theorem cdK_at : cdK I c (ix2 r k) = prt (lat I c) (I c).uk (c.val + 4) r k := by
  simp only [prt, lat_at]
  pointwise [cdK, k0_pay3, k0_pay2, k0_pay1]; rfl
theorem cdV_at : cdV I c (ix2 r k) = prt (lat I c) (I c).uv (c.val + 4) r k := by
  simp only [prt, lat_at]
  pointwise [cdV, k0_pay4, k0_pay2, k0_pay1]; rfl
theorem ownK_at : ownK I c (ix2 r k) = prt (lat I c) (I c).uk (c.val + 0) r k := by
  pointwise [ownK, k0_pay31]; rfl
theorem ownV_at : ownV I c (ix2 r k) = prt (lat I c) (I c).uv (c.val + 0) r k := by
  pointwise [ownV, k0_pay32]; rfl

/-! ## The sums -/

/-- Eight terms in the order the kernel adds them, three from each side, the one opposite and the own, are the ring's sum. -/
theorem eight (f : Dev nD → EReal) :
    f (dv c 5) + f (dv c 6) + f (dv c 7) + (f (dv c 3) + f (dv c 2) + f (dv c 1)) + f (dv c 4) + f c = ∑ e, f e := by
  rw [sum_ring f c, Fin.sum_univ_eight]
  simp only [Fin.val_zero, Fin.val_one, dv_zero, show ((2 : Fin 8) : ℕ) = 2 from rfl, show ((3 : Fin 8) : ℕ) = 3 from rfl,
    show ((4 : Fin 8) : ℕ) = 4 from rfl, show ((5 : Fin 8) : ℕ) = 5 from rfl, show ((6 : Fin 8) : ℕ) = 6 from rfl,
    show ((7 : Fin 8) : ℕ) = 7 from rfl]
  ac_rfl

/-- The block that device `dv c m` computes for the device `n` to its right is `c`'s, where `m + n` is a turn of the ring. -/
theorem prt_back (l : S1024x128.Idx → EReal) (W : S128x2048.Idx → EReal) (m n : ℕ) (h : (m + n) % 8 = 0) :
    prt l W ((dv c m).val + n) r k = prt l W c.val r k :=
  prt_congr _ _ _ _ (by simp only [dv]; omega) r k

/-- Twice seven to the right is six, and seven more is five. -/
theorem dv_14 : dv c (7 + 7) = dv c 6 := Fin.ext (by simp only [dv]; omega)
theorem dv_13 : dv c 13 = dv c 5 := Fin.ext (by simp only [dv]; omega)

/-- The eight parts in the order the kernel adds them, each computed for `c`, are the sum over the devices. -/
theorem parts (l : Dev nD → S1024x128.Idx → EReal) (W : Dev nD → S128x2048.Idx → EReal) :
    prt (l (dv c 5)) (W (dv c 5)) ((dv c 5).val + 3) r k + prt (l (dv c 6)) (W (dv c 6)) ((dv c 6).val + 2) r k
        + prt (l (dv c 7)) (W (dv c 7)) ((dv c 7).val + 1) r k
      + (prt (l (dv c 3)) (W (dv c 3)) ((dv c 3).val + 5) r k + prt (l (dv c 2)) (W (dv c 2)) ((dv c 2).val + 6) r k
        + prt (l (dv c 1)) (W (dv c 1)) ((dv c 1).val + 7) r k)
      + prt (l (dv c 4)) (W (dv c 4)) ((dv c 4).val + 4) r k + prt (l c) (W c) c.val r k
      = ∑ e, prt (l e) (W e) c.val r k := by
  rw [← eight c, prt_back c r k _ _ 5 3 rfl, prt_back c r k _ _ 6 2 rfl, prt_back c r k _ _ 7 1 rfl, prt_back c r k _ _ 3 5 rfl,
    prt_back c r k _ _ 2 6 rfl, prt_back c r k _ _ 1 7 rfl, prt_back c r k _ _ 4 4 rfl]

/-- **A device's keys are the sum over the devices of their parts of its columns.** -/
theorem km_at : km I c (ix2 r k) = ∑ e, prt (lat I e) (I e).uk c.val r k := by
  rw [← parts c r k (fun e => lat I e) fun e => (I e).uk]
  pointwise [km, k0_pay37]
  simp only [up_at, r2K_at, r1K_at, r0K_at, l2K_at, l1K_at, l0K_at, cdK_at, ownK_at, dv_dv, dv_14, dv_13, Nat.reduceAdd, Nat.add_zero]
/-- **And so are its values.** -/
theorem vm_at : vm I c (ix2 r k) = ∑ e, prt (lat I e) (I e).uv c.val r k := by
  rw [← parts c r k (fun e => lat I e) fun e => (I e).uv]
  pointwise [vm, vacc, k0_pay39, k0_pay38]
  simp only [up_at, r2V_at, r1V_at, r0V_at, l2V_at, l1V_at, l0V_at, cdV_at, ownV_at, dv_dv, dv_14, dv_13, Nat.reduceAdd, Nat.add_zero]

end Cert.Mla

end
-- ==== Proof.Heads.lean ====
/-
  A device's four attention blocks over the extended reals, one for each batch row and each of its two heads, and the result: each
  read at an index.
-/
module

public import proofs.«01_k».proof.Proof.Sums

@[expose] public section

set_option maxRecDepth 16384

noncomputable section

namespace Cert.Mla

open Idealize.ShloMosaic Idealize.ShloMosaic.TcCoe
open Cert.KernelIdeal Cert.KernelIdeal.Gen
open scoped BigOperators

/-- Row `s` of batch row `r`, column `d` of the device's head `h`, and its positional column `e`. -/
def rowOf (r : Fin 2) (s : Fin 512) : Fin 1024 := ⟨512 * r.val + s.val, by omega⟩
def colOf (h : Fin 2) (d : Fin 128) : Fin 256 := ⟨128 * h.val + d.val, by omega⟩
def colROf (h : Fin 2) (e : Fin 32) : Fin 64 := ⟨32 * h.val + e.val, by omega⟩

variable (I : Dev nD → In Ideal) (c : Dev nD)

/-- **Each block is the head's attention output.** -/
theorem oq_at (r h : Fin 2) (s : Fin 512) (d : Fin 128) : oq I c r h (ix2 s d) =
    attn (fun s d => qv I c (ix2 (rowOf r s) (colOf h d))) (fun t d => km I c (ix2 (rowOf r t) (colOf h d)))
      (fun s e => qrv I c (ix2 (rowOf r s) (colROf h e))) (fun t e => krv I c (ix2 (rowOf r t) e))
      (fun t d => vm I c (ix2 (rowOf r t) (colOf h d))) s d := by
  fin_cases r <;> fin_cases h <;> simp only [attn, weight, ex, top, score, rowOf, colOf, colROf]
  · pointwise [oq, k0_pay41, k0_pay40, vm, k0_pay39]
  · pointwise [oq, k0_pay43, k0_pay42, k0_pay40]
  · pointwise [oq, k0_pay45, k0_pay44]
  · pointwise [oq, k0_pay48, k0_pay47, k0_pay46, k0_pay44]

section At
variable (r : Fin 1024)

theorem qv_at (k : Fin 256) : qv I c (ix2 r k) = ∑ i, (I c).x (ix2 r i) * (I c).wq (ix2 i k) := by
  pointwise [qv, k0_pay11, xb, k0_pay1]
theorem qrv_at (k : Fin 64) : qrv I c (ix2 r k) = ∑ i, (I c).x (ix2 r i) * (I c).wqr (ix2 i k) := by
  pointwise [qrv, k0_pay12, xb, k0_pay1]
theorem krv_at (k : Fin 32) : krv I c (ix2 r k) = ∑ i, (I c).x (ix2 r i) * (I c).wkr (ix2 i k) := by
  pointwise [krv, k0_pay13, xb, k0_pay1]

/-- A device's attention outputs, by half and head. -/
theorem op_at (b : Fin 2) (s : Fin 512) (k : Fin 256) :
    op I c (ix2 (rowOf b s) k) = oq I c b ⟨k.val / 128, by omega⟩ (ix2 s ⟨k.val % 128, by omega⟩) := by
  have hb : (⟨(rowOf b s).val / 512, by omega⟩ : Fin 2) = b := Fin.ext (by simp only [rowOf]; omega)
  have hs : (⟨(rowOf b s).val % 512, by omega⟩ : Fin 512) = s := Fin.ext (by simp only [rowOf]; omega)
  unfold op
  rw [quads_at, hb, hs]

/-- The low-precision copy of the output weights is the weights themselves. -/
theorem woC_at (k n : Fin 2048) : woC I c (ix2 k n) = (I c).wo (ix2 k n) := by
  have hq : ∀ (q : Fin 4) (a : Fin 512), woq I c q (ix2 a n) = (I c).wo (ix2 ⟨512 * q.val + a.val, by omega⟩ n) := by
    intro q a
    fin_cases q
    · pointwise [woq, k0_pay33]; rw [up512_at, row512_at]
      exact congrArg (fun z => (I c).wo (ix2 z n)) (Fin.ext (by show 512 * 0 + a.val = a.val; omega))
    · pointwise [woq, k0_pay34]; rw [up512_at, row512_at]; rfl
    · pointwise [woq, k0_pay35]; rw [up512_at, row512_at]; rfl
    · pointwise [woq, k0_pay36]; rw [up512_at, row512_at]; rfl
  unfold woC
  rw [rows4_at, hq]
  exact congrArg (fun z => (I c).wo (ix2 z n)) (Fin.ext (by show 512 * (k.val / 512) + k.val % 512 = k.val; omega))

/-- The rows that multiply device `c + n`'s block. -/
theorem wr_at (n : ℕ) (k : Fin 256) (j : Fin 2048) :
    wr I c n (ix2 k j) = (I c).wo (ix2 ⟨256 * (dv c n).val + k.val, by have : (dv c n).val < 8 := (dv c n).isLt; omega⟩ j) := by
  unfold wr
  rw [rowBlk_at, woC_at]; rfl

/-- One device's block times the rows that multiply it. -/
def shareOut (e : Dev nD) (r : Fin 1024) (j : Fin 2048) : EReal :=
  ∑ k, op I e (ix2 r k) * (I c).wo (ix2 ⟨256 * e.val + k.val, by have : e.val < 8 := e.isLt; omega⟩ j)

/-- **The result is the sum of the eight devices' pieces.** -/
theorem out_sum (j : Fin 2048) : out7 I c (ix2 r j) = ∑ e, shareOut I c e r j := by
  have h0 : out0 I c (ix2 r j) = shareOut I c (dv c 0) r j := by pointwise [out0, k0_pay49]; simp only [wr_at]; rfl
  have h1 : out1 I c (ix2 r j) = out0 I c (ix2 r j) + shareOut I c (dv c 7) r j := by pointwise [out1, k0_pay50]; simp only [wr_at]; rfl
  have h2 : out2 I c (ix2 r j) = out1 I c (ix2 r j) + shareOut I c (dv c 1) r j := by pointwise [out2, k0_pay51]; simp only [wr_at]; rfl
  have h3 : out3 I c (ix2 r j) = out2 I c (ix2 r j) + shareOut I c (dv c 6) r j := by pointwise [out3, k0_pay52]; simp only [wr_at]; rfl
  have h4 : out4 I c (ix2 r j) = out3 I c (ix2 r j) + shareOut I c (dv c 2) r j := by pointwise [out4, k0_pay54, k0_pay53]; simp only [wr_at]; rfl
  have h5 : out5 I c (ix2 r j) = out4 I c (ix2 r j) + shareOut I c (dv c 5) r j := by pointwise [out5, k0_pay55]; simp only [wr_at]; rfl
  have h6 : out6 I c (ix2 r j) = out5 I c (ix2 r j) + shareOut I c (dv c 3) r j := by pointwise [out6, k0_pay56]; simp only [wr_at]; rfl
  have h7 : out7 I c (ix2 r j) = out6 I c (ix2 r j) + shareOut I c (dv c 4) r j := by pointwise [out7, k0_pay57]; simp only [wr_at]; rfl
  rw [h7, h6, h5, h4, h3, h2, h1, h0, ← eight c, dv_zero]
  ac_rfl
end At

end Cert.Mla

end
-- ==== Proof.Layer.lean ====
/-
  The eight devices together compute the layer: when every device's arrays are its parts of the layer's eight arrays, each device's
  result is the layer's output. A device holds two of the sixteen heads and one of the eight latent blocks.
-/
module

public import proofs.«01_k».proof.Proof.Heads

@[expose] public section

set_option maxRecDepth 16384

noncomputable section

namespace Cert.Mla

open Idealize.ShloMosaic Idealize.ShloMosaic.TcCoe
open Cert.KernelIdeal Cert.KernelIdeal.Gen
open scoped BigOperators

/-- Device `c`'s part of an axis cut in eight blocks of 128, of 256, and of 64. -/
def at128 (c : Dev nD) (j : Fin 128) : Fin 1024 := ⟨128 * c.val + j.val, by have : c.val < 8 := c.isLt; omega⟩
def at256 (c : Dev nD) (j : Fin 256) : Fin 2048 := ⟨256 * c.val + j.val, by have : c.val < 8 := c.isLt; omega⟩
def at64 (c : Dev nD) (j : Fin 64) : Fin 512 := ⟨64 * c.val + j.val, by have : c.val < 8 := c.isLt; omega⟩
/-- The device's head `h` among the sixteen. -/
def headOf (c : Dev nD) (h : Fin 2) : Fin 16 := ⟨2 * c.val + h.val, by have : c.val < 8 := c.isLt; omega⟩

/-- Every device's arrays are its parts of the layer's. -/
structure Fits (I : Dev nD → In Ideal) (A : Arr) : Prop where
  x : ∀ c b s k, (I c).x (ix2 (rowOf b s) k) = A.x b s k
  wd : ∀ c k j, (I c).wd (ix2 k j) = A.wd k (at128 c j)
  uk : ∀ c j n, (I c).uk (ix2 j n) = A.uk (at128 c j) n
  uv : ∀ c j n, (I c).uv (ix2 j n) = A.uv (at128 c j) n
  wq : ∀ c k n, (I c).wq (ix2 k n) = A.wq k (at256 c n)
  wqr : ∀ c k n, (I c).wqr (ix2 k n) = A.wqr k (at64 c n)
  wkr : ∀ c k n, (I c).wkr (ix2 k n) = A.wkr k n
  wo : ∀ c k n, (I c).wo (ix2 k n) = A.wo k n

variable {I : Dev nD → In Ideal} {A : Arr} (H : Fits I A) (c : Dev nD) (b : Fin 2) (s : Fin 512)
include H

/-- Each device's part of the latent. -/
theorem lat_fits (j : Fin 128) : lat I c (ix2 (rowOf b s) j) = A.lat b s (at128 c j) := by
  rw [lat_at, Arr.lat]
  exact Finset.sum_congr rfl fun i _ => by rw [H.x, H.wd]

/-- The latent blocks' shares add up to the device's part of the keys, and of the values. -/
theorem km_fits (k : Fin 256) : km I c (ix2 (rowOf b s) k) = A.key b s (at256 c k) := by
  rw [km_at, Arr.key, sum_blocks 8 128 1024 rfl]
  refine Finset.sum_congr rfl fun e _ => Finset.sum_congr rfl fun j _ => ?_
  rw [lat_fits H, chunk_at, H.uk]
  have hc : c.val < 8 := c.isLt
  exact congrArg (fun z => A.lat b s (at128 e j) * A.uk (at128 e j) z) (Fin.ext (by simp only [at256]; omega))
theorem vm_fits (k : Fin 256) : vm I c (ix2 (rowOf b s) k) = A.val b s (at256 c k) := by
  rw [vm_at, Arr.val, sum_blocks 8 128 1024 rfl]
  refine Finset.sum_congr rfl fun e _ => Finset.sum_congr rfl fun j _ => ?_
  rw [lat_fits H, chunk_at, H.uv]
  have hc : c.val < 8 := c.isLt
  exact congrArg (fun z => A.lat b s (at128 e j) * A.uv (at128 e j) z) (Fin.ext (by simp only [at256]; omega))

/-- The device's part of the queries, of the positional queries, and the positional keys. -/
theorem qv_fits (k : Fin 256) : qv I c (ix2 (rowOf b s) k) = A.qry b s (at256 c k) := by
  rw [qv_at, Arr.qry]; exact Finset.sum_congr rfl fun i _ => by rw [H.x, H.wq]
theorem qrv_fits (k : Fin 64) : qrv I c (ix2 (rowOf b s) k) = A.qryR b s (at64 c k) := by
  rw [qrv_at, Arr.qryR]; exact Finset.sum_congr rfl fun i _ => by rw [H.x, H.wqr]
theorem krv_fits (k : Fin 32) : krv I c (ix2 (rowOf b s) k) = A.keyR b s k := by
  rw [krv_at, Arr.keyR]; exact Finset.sum_congr rfl fun i _ => by rw [H.x, H.wkr]

omit H in
theorem col_headOf (h : Fin 2) (d : Fin 128) : at256 c (colOf h d) = Arr.col (headOf c h) d :=
  Fin.ext (by simp only [at256, colOf, Arr.col, headOf]; omega)
omit H in
theorem colR_headOf (h : Fin 2) (e : Fin 32) : at64 c (colROf h e) = Arr.colR (headOf c h) e :=
  Fin.ext (by simp only [at64, colROf, Arr.colR, headOf]; omega)

/-- The device's two heads. -/
theorem oq_fits (h : Fin 2) (d : Fin 128) : oq I c b h (ix2 s d) = A.head b (headOf c h) s d := by
  rw [oq_at, Arr.head]
  simp only [qv_fits H, km_fits H, qrv_fits H, krv_fits H, vm_fits H, col_headOf, colR_headOf]

/-- The device's columns of the heads side by side. -/
theorem op_fits (k : Fin 256) : op I c (ix2 (rowOf b s) k) = A.heads b s (at256 c k) := by
  rw [op_at, oq_fits H, Arr.heads]
  have h1 : headOf c ⟨k.val / 128, by omega⟩ = ⟨(at256 c k).val / 128, by omega⟩ := Fin.ext (by simp only [headOf, at256]; omega)
  have h2 : (⟨k.val % 128, by omega⟩ : Fin 128) = ⟨(at256 c k).val % 128, by omega⟩ := Fin.ext (by simp only [at256]; omega)
  rw [h1, h2]

/-- **Every device's result is the layer's output.** -/
theorem out_fits (n : Fin 2048) : out7 I c (ix2 (rowOf b s) n) = A.out b s n := by
  rw [out_sum, Arr.out, sum_blocks 8 256 2048 rfl]
  refine Finset.sum_congr rfl fun e _ => Finset.sum_congr rfl fun k _ => ?_
  rw [op_fits H, H.wo]; rfl

end Cert.Mla

end
-- ==== Proof.Ref.lean ====
/-
  The reference's result is the attention layer of its eight arguments: its operations in stages, each read at an index.
-/
module

public import proofs.«01_k».proof.Proof.Gen.ReferenceIdeal.Run
public import proofs.«01_k».proof.Proof.Math
public import Idealize.ShloMosaic.Lib.Pointwise

@[expose] public section

set_option maxRecDepth 16384

noncomputable section

namespace Cert.Mla.Ref

open Idealize.ShloMosaic Idealize.ShloMosaic.TcCoe
open Cert.ReferenceIdeal Cert.ReferenceIdeal.Gen
open scoped BigOperators

/-- The eight arrays by their coordinates. -/
def arr (a0 : FVec Ideal S2x512x2048 .f32) (a1 : FVec Ideal S2048x1024 .f32) (a2 a3 : FVec Ideal S1024x2048 .f32)
    (a4 : FVec Ideal S2048x2048 .f32) (a5 : FVec Ideal S2048x512 .f32) (a6 : FVec Ideal S2048x32 .f32)
    (a7 : FVec Ideal S2048x2048 .f32) : Arr where
  x b s k := a0 (ix3 b s k)
  wd k l := a1 (ix2 k l)
  uk l n := a2 (ix2 l n)
  uv l n := a3 (ix2 l n)
  wq k n := a4 (ix2 k n)
  wqr k n := a5 (ix2 k n)
  wkr k n := a6 (ix2 k n)
  wo k n := a7 (ix2 k n)

variable (a0 : FVec Ideal S2x512x2048 .f32) (a1 : FVec Ideal S2048x1024 .f32) (a2 a3 : FVec Ideal S1024x2048 .f32)
    (a4 : FVec Ideal S2048x2048 .f32) (a5 : FVec Ideal S2048x512 .f32) (a6 : FVec Ideal S2048x32 .f32)
    (a7 : FVec Ideal S2048x2048 .f32)

/-- The latent projected up by `w`, head by head. -/
def up (w : FVec Ideal S1024x2048 .f32) : FVec Ideal S2x512x16x128 .f32 :=
  shapeCast _ (Host.dotGeneral dot_S2x512x1024_S1024x2048_S2x512x2048_2_0_01_1_n_n none
    (Host.dotGeneral dot_S2x512x2048_S2048x1024_S2x512x1024_2_0_01_1_n_n none a0 a1 : FVec Ideal S2x512x1024 .f32) w : FVec Ideal S2x512x2048 .f32)
    shapeCasts_S2x512x2048_S2x512x16x128
/-- The queries, head by head, and the positional queries and keys. -/
def qh : FVec Ideal S2x512x16x128 .f32 :=
  shapeCast _ (Host.dotGeneral dot_S2x512x2048_S2048x2048_S2x512x2048_2_0_01_1_n_n none a0 a4 : FVec Ideal S2x512x2048 .f32)
    shapeCasts_S2x512x2048_S2x512x16x128
def qrh : FVec Ideal S2x512x16x32 .f32 :=
  shapeCast _ (Host.dotGeneral dot_S2x512x2048_S2048x512_S2x512x512_2_0_01_1_n_n none a0 a5 : FVec Ideal S2x512x512 .f32)
    shapeCasts_S2x512x512_S2x512x16x32
def krh : FVec Ideal S2x512x16x32 .f32 :=
  broadcastInDim S2x512x16x32 ![0, 1, 2, 3] bcast_S2x512x1x32_S2x512x16x32_0_1_2_3
    (shapeCast _ (Host.dotGeneral dot_S2x512x2048_S2048x32_S2x512x32_2_0_01_1_n_n none a0 a6 : FVec Ideal S2x512x32 .f32)
      shapeCasts_S2x512x32_S2x512x1x32 : FVec Ideal S2x512x1x32 .f32)
/-- The scaled scores. -/
def sc : FVec Ideal S2x16x512x512 .f32 :=
  mulf (addf (Host.dotGeneral dot_S2x512x16x128_S2x512x16x128_S2x16x512x512_3_3_1_1_02_02 none (qh a0 a4) (up a0 a1 a2))
      (Host.dotGeneral dot_S2x512x16x32_S2x512x16x32_S2x16x512x512_3_3_1_1_02_02 none (qrh a0 a5) (krh a0 a6)))
    (broadcastInDim S2x16x512x512 ![] bcast_S_S2x16x512x512 (constant S_ .f32 0x3DA1E89B#32))

/-- Exponentials of the scores less their greatest. -/
def eh (S : FVec Ideal S2x16x512x512 .f32) : FVec Ideal S2x16x512x512 .f32 :=
  Host.exp (subf S (broadcastInDim S2x16x512x512 ![0, 1, 2, 3] bcast_S2x16x512x1_S2x16x512x512_0_1_2_3
    (broadcastInDim S2x16x512x1 ![0, 1, 2] bcast_S2x16x512_S2x16x512x1_0_1_2
      (Host.reduce FloatOps.maximumf S (constant S_ .f32 0xFF800000#32) reducesTo_S2x16x512x512_S2x16x512_d3 h_S_ : FVec Ideal S2x16x512 .f32))))
/-- Divided by their sum. -/
def ph (E : FVec Ideal S2x16x512x512 .f32) : FVec Ideal S2x16x512x512 .f32 :=
  Host.divf E (broadcastInDim S2x16x512x512 ![0, 1, 2, 3] bcast_S2x16x512x1_S2x16x512x512_0_1_2_3
    (broadcastInDim S2x16x512x1 ![0, 1, 2] bcast_S2x16x512_S2x16x512x1_0_1_2
      (Host.reduceAdd E (constant S_ .f32 0x00000000#32) reducesTo_S2x16x512x512_S2x16x512_d3 h_S_ : FVec Ideal S2x16x512 .f32)))
/-- The heads' outputs side by side. -/
def oh (V : FVec Ideal S2x512x16x128 .f32) (P : FVec Ideal S2x16x512x512 .f32) : FVec Ideal S2x512x2048 .f32 :=
  shapeCast _ (transpose S2x512x16x128 [0, 3, 1, 2]
    (Host.dotGeneral dot_S2x512x16x128_S2x16x512x512_S2x16x128x512_1_3_3_2_02_01 none V P : FVec Ideal S2x16x128x512 .f32)
      transposes_S2x16x128x512_S2x512x16x128_0_3_1_2 : FVec Ideal S2x512x16x128 .f32) shapeCasts_S2x512x16x128_S2x512x2048

/-- The output projection. -/
def proj (O : FVec Ideal S2x512x2048 .f32) (w : FVec Ideal S2048x2048 .f32) : FVec Ideal S2x512x2048 .f32 :=
  Host.dotGeneral dot_S2x512x2048_S2048x2048_S2x512x2048_2_0_01_1_n_n none O w

/-- The result is the stages' composition. -/
theorem res_eq (m : (ℓ : Loc nD τ sig) → Buf (Elt Ideal) ℓ) (c : Dev nD) :
    Cert.ReferenceIdeal.Value.res_out0 m c =
      proj (oh (up (m (c.tc.loc main_arg0)) (m (c.tc.loc main_arg1)) (m (c.tc.loc main_arg3)))
        (ph (eh (sc (m (c.tc.loc main_arg0)) (m (c.tc.loc main_arg1)) (m (c.tc.loc main_arg2)) (m (c.tc.loc main_arg4))
          (m (c.tc.loc main_arg5)) (m (c.tc.loc main_arg6)))))) (m (c.tc.loc main_arg7)) := rfl

section Read
variable (b : Fin 2) (s t : Fin 512) (h : Fin 16) (d : Fin 128) (e : Fin 32)

theorem up_key : up a0 a1 a2 (ix4 b s h d) = (arr a0 a1 a2 a3 a4 a5 a6 a7).key b s (Arr.col h d) := by
  pointwise [up]
  rfl
theorem up_val : up a0 a1 a3 (ix4 b s h d) = (arr a0 a1 a2 a3 a4 a5 a6 a7).val b s (Arr.col h d) := by
  pointwise [up]
  rfl
theorem qh_at : qh a0 a4 (ix4 b s h d) = (arr a0 a1 a2 a3 a4 a5 a6 a7).qry b s (Arr.col h d) := by
  pointwise [qh]
  rfl
theorem qrh_at : qrh a0 a5 (ix4 b s h e) = (arr a0 a1 a2 a3 a4 a5 a6 a7).qryR b s (Arr.colR h e) := by
  pointwise [qrh]
  rfl
theorem krh_at : krh a0 a6 (ix4 b s h e) = (arr a0 a1 a2 a3 a4 a5 a6 a7).keyR b s e := by
  pointwise [krh]
  rfl

/-- The scores of head `h` on row `b`, and what follows from them, of the layer's arrays. -/
theorem sc_at : sc a0 a1 a2 a4 a5 a6 (ix4 b h s t) =
    let A := arr a0 a1 a2 a3 a4 a5 a6 a7
    score (fun s d => A.qry b s (Arr.col h d)) (fun t d => A.key b t (Arr.col h d)) (fun s e => A.qryR b s (Arr.colR h e))
      (fun t e => A.keyR b t e) s t := by
  pointwise [sc]
  simp only [up_key a0 a1 a2 a3 a4 a5 a6 a7, qh_at a0 a1 a2 a3 a4 a5 a6 a7, qrh_at a0 a1 a2 a3 a4 a5 a6 a7, krh_at a0 a1 a2 a3 a4 a5 a6 a7]
  rfl

theorem eh_at (S : FVec Ideal S2x16x512x512 .f32) : eh S (ix4 b h s t) =
    Ideal.exp (S (ix4 b h s t) - Finset.univ.fold max (Ideal.ofBits .f32 0xFF800000#32) fun t => S (ix4 b h s t)) := by
  pointwise [eh]
theorem ph_at (E : FVec Ideal S2x16x512x512 .f32) : ph E (ix4 b h s t) = Ideal.div (E (ix4 b h s t)) (∑ u, E (ix4 b h s u)) := by
  pointwise [ph]
theorem oh_at (V : FVec Ideal S2x512x16x128 .f32) (P : FVec Ideal S2x16x512x512 .f32) (n : Fin 2048) :
    oh V P (ix3 b s n) = ∑ t, P (ix4 b ⟨n.val / 128, by omega⟩ s t) * V (ix4 b t ⟨n.val / 128, by omega⟩ ⟨n.val % 128, by omega⟩) := by
  pointwise [oh]
  exact Finset.sum_congr rfl fun t _ => mul_comm _ _
theorem proj_at (O : FVec Ideal S2x512x2048 .f32) (n : Fin 2048) : proj O a7 (ix3 b s n) = ∑ k, O (ix3 b s k) * a7 (ix2 k n) := by
  pointwise [proj]

end Read

/-- **The reference's result is the layer's output.** -/
theorem out_at (b : Fin 2) (s : Fin 512) (n : Fin 2048) :
    proj (oh (up a0 a1 a3) (ph (eh (sc a0 a1 a2 a4 a5 a6)))) a7 (ix3 b s n) = (arr a0 a1 a2 a3 a4 a5 a6 a7).out b s n := by
  rw [proj_at, Arr.out]
  refine Finset.sum_congr rfl fun k _ => congrArg (fun y : EReal => y * a7 (ix2 k n)) ?_
  rw [oh_at, Arr.heads, Arr.head, attn]
  refine Finset.sum_congr rfl fun t _ => ?_
  rw [up_val a0 a1 a2 a3 a4 a5 a6 a7, ph_at]
  simp only [eh_at, sc_at a0 a1 a2 a3 a4 a5 a6 a7]
  rfl

end Cert.Mla.Ref

end
-- ==== Proof.Args.lean ====
/-
  The kernel's arrays on each device, from the arguments the devices were launched with: the host program reshapes the input, cuts the
  query weights at the device's number, and casts. When the launch arguments are parts of the layer's arrays, so are the kernel's, and
  the result read back is the layer's output.
-/
module

public import proofs.«01_k».proof.Proof.Layer
public import proofs.«01_k».proof.Proof.Ref
public import proofs.«01_k».proof.Proof.Data
public import Idealize.ShloMosaic.Lib.Layout
public import Idealize.ShloMosaic.Lib.DynamicIndex
public import Idealize.ShloMosaic.Lib.StableHlo.ReadAt

@[expose] public section

set_option maxRecDepth 16384

noncomputable section

namespace Cert.Mla

open Idealize.ShloMosaic Idealize.ShloMosaic.TcCoe
open Cert.KernelIdeal Cert.KernelIdeal.Gen

/-! ## Cuts -/

section Cuts
variable {α : Type}

/-- A dynamic slice of columns that starts at column `o` and stays inside. -/
theorem cols_at {r N M : ℕ} (x : (⟨2, ![r, N]⟩ : Shape).Idx → α) (start : Fin 2 → Int)
    (h : (⟨2, ![r, N]⟩ : Shape).Slices (fun _ => 0) ⟨2, ![r, M]⟩) (o : ℕ) (ho : o + M ≤ N) (h0 : start 0 = 0) (h1 : start 1 = o)
    (k : Fin r) (n : Fin M) : Host.dynamicSlice ⟨2, ![r, M]⟩ x start h (ix2 k n) = x (ix2 k ⟨o + n.val, by omega⟩) := by
  have h' : (⟨2, ![r, N]⟩ : Shape).Slices ![0, o] ⟨2, ![r, M]⟩ := ⟨rfl, fun a => by
    fin_cases a
    · show 0 + r ≤ r; omega
    · show o + M ≤ N; omega⟩
  rw [Host.dynamicSlice_eq_extractStridedSlice _ x start ![0, o] h h' (fun a => by fin_cases a <;> assumption)]
  refine congrArg x (funext fun a => ?_)
  fin_cases a
  · exact Fin.ext (Nat.zero_add _)
  · rfl

/-- Arrays of rank three that agree at every index are one. -/
theorem ext3 {a b n : ℕ} {x y : (⟨3, ![a, b, n]⟩ : Shape).Idx → α} (h : ∀ i j k, x (ix3 i j k) = y (ix3 i j k)) : x = y :=
  funext fun i => by rw [eq_ix3 i]; exact h ..

/-- Block `c` of an array cut in eight along its columns, and along its rows. -/
theorem blockCols_at (X : (⟨2, ![2048, 1024]⟩ : Shape).Idx → α) (c : Fin 8) (k : Fin 2048) (j : Fin 128)
    (h : Layout.Tiles ⟨2, ![2048, 128]⟩ ⟨2, ![2048, 1024]⟩ 1 8) :
    Layout.block ⟨2, ![2048, 128]⟩ ⟨2, ![2048, 1024]⟩ 1 8 c X h (ix2 k j) = X (ix2 k (at128 c j)) := by
  rw [Layout.block_apply c X h]
  refine congrArg X (funext fun a => Fin.ext ?_)
  rw [h.idx_val]
  fin_cases a
  · rfl
  · exact congrArg (· + j.val) (Nat.mul_comm c.val 128)
theorem blockRows_at (X : (⟨2, ![1024, 2048]⟩ : Shape).Idx → α) (c : Fin 8) (j : Fin 128) (n : Fin 2048)
    (h : Layout.Tiles ⟨2, ![128, 2048]⟩ ⟨2, ![1024, 2048]⟩ 0 8) :
    Layout.block ⟨2, ![128, 2048]⟩ ⟨2, ![1024, 2048]⟩ 0 8 c X h (ix2 j n) = X (ix2 (at128 c j) n) := by
  rw [Layout.block_apply c X h]
  refine congrArg X (funext fun a => Fin.ext ?_)
  rw [h.idx_val]
  fin_cases a
  · exact congrArg (· + j.val) (Nat.mul_comm c.val 128)
  · rfl
end Cuts

/-! ## The kernel's arrays -/

variable (m : (ℓ : Loc nD τ sig) → Buf (Elt Ideal) ℓ) (c : Dev nD)

/-- The columns where the device's query weights start, and its positional query weights. -/
theorem at_c4 : StableHlo.upto (hostOps0 c) (V0 m c) 15 (Proc.devRef .tc main_c_4) = constantI S_ 32 0#32 := by
  after_reads_simp
theorem at_c8 : StableHlo.upto (hostOps0 c) (V0 m c) 25 (Proc.devRef .tc main_c_8) = constantI S_ 32 0#32 := by
  after_reads_simp
theorem at_v9 : StableHlo.upto (hostOps0 c) (V0 m c) 15 (Proc.devRef .tc main_v9) = constantI S_ 32 (BitVec.ofNat 32 (256 * c.val)) := by
  after_reads_simp
  refine funext fun i => ?_
  pointwise [id]
  revert c
  decide
theorem at_v15 : StableHlo.upto (hostOps0 c) (V0 m c) 25 (Proc.devRef .tc main_v15) = constantI S_ 32 (BitVec.ofNat 32 (64 * c.val)) := by
  after_reads_simp
  refine funext fun i => ?_
  pointwise [id]
  revert c
  decide

theorem x_at (b : Fin 2) (s : Fin 512) (k : Fin 2048) :
    (Iof m c).x (ix2 (rowOf b s) k) = m ((c.tc : Thread nD τ).loc main_arg0) (ix3 b s k) := by
  show VA m c main_v5 (ix2 (rowOf b s) k) = _
  unfold VA
  after_reads_at
  have hb : (⟨(rowOf b s).val / 512, by omega⟩ : Fin 2) = b := Fin.ext (by simp only [rowOf]; omega)
  have hs : (⟨(rowOf b s).val % 512, by omega⟩ : Fin 512) = s := Fin.ext (by simp only [rowOf]; omega)
  exact congrArg₂ (fun b s => m ((c.tc : Thread nD τ).loc main_arg0) (ix3 b s k)) hb hs
theorem wq_at (k : Fin 2048) (n : Fin 256) :
    (Iof m c).wq (ix2 k n) = m ((c.tc : Thread nD τ).loc main_arg4) (ix2 k (at256 c n)) := by
  have hc : c.val < 8 := c.isLt
  show VA m c main_v11 (ix2 k n) = _
  unfold VA
  after_reads_simp
  refine cols_at (m ((c.tc : Thread nD τ).loc main_arg4)) _ sliceFits_S2048x2048_S2048x256 (256 * c.val) (by omega) ?_ ?_ k n
  · exact congrArg (fun z : IVec S_ 32 => (z (Shape.Idx.first h_S_)).toInt) (at_c4 m c)
  · exact (congrArg (fun z : IVec S_ 32 => (z (Shape.Idx.first h_S_)).toInt) (at_v9 m c)).trans (toInt_ofNat_of_lt (by omega))
theorem wqr_at (k : Fin 2048) (n : Fin 64) :
    (Iof m c).wqr (ix2 k n) = m ((c.tc : Thread nD τ).loc main_arg5) (ix2 k (at64 c n)) := by
  have hc : c.val < 8 := c.isLt
  show VA m c main_v17 (ix2 k n) = _
  unfold VA
  after_reads_simp
  refine cols_at (m ((c.tc : Thread nD τ).loc main_arg5)) _ sliceFits_S2048x512_S2048x64 (64 * c.val) (by omega) ?_ ?_ k n
  · exact congrArg (fun z : IVec S_ 32 => (z (Shape.Idx.first h_S_)).toInt) (at_c8 m c)
  · exact (congrArg (fun z : IVec S_ 32 => (z (Shape.Idx.first h_S_)).toInt) (at_v15 m c)).trans (toInt_ofNat_of_lt (by omega))
theorem wd_eq : (Iof m c).wd = m ((c.tc : Thread nD τ).loc main_arg1) := by
  show VA m c main_v18 = _; unfold VA; after_reads_simp; rfl
theorem uk_eq : (Iof m c).uk = m ((c.tc : Thread nD τ).loc main_arg2) := by
  show VA m c main_v19 = _; unfold VA; after_reads_simp; rfl
theorem uv_eq : (Iof m c).uv = m ((c.tc : Thread nD τ).loc main_arg3) := by
  show VA m c main_v20 = _; unfold VA; after_reads_simp; rfl
theorem wkr_eq : (Iof m c).wkr = m ((c.tc : Thread nD τ).loc main_arg6) := by
  show VA m c main_v21 = _; unfold VA; after_reads_simp; rfl
theorem wo_eq : (Iof m c).wo = m ((c.tc : Thread nD τ).loc main_arg7) := V1_of m c main_arg7 (by decide)

/-! ## The result -/

/-- The launch's result is the kernel's, reshaped. -/
theorem result_at (b : Fin 2) (s : Fin 512) (n : Fin 2048) :
    V3 m (outs m) c main_v23 (ix3 b s n) = out7 (Iof m) c (ix2 (rowOf b s) n) := by
  rw [← VB_out]
  show StableHlo.after hostOps1 (VB m c) main_v23 (ix3 b s n) = _
  generalize VB m c = V
  after_reads_at
  exact congrArg (fun r => V (Proc.devRef .tc main_v22) (ix2 r n)) (Fin.ext (by simp only [rowOf]; omega))

section Result
variable (a0 : FVec Ideal Cert.ReferenceIdeal.S2x512x2048 .f32) (a1 : FVec Ideal Cert.ReferenceIdeal.S2048x1024 .f32)
  (a2 a3 : FVec Ideal Cert.ReferenceIdeal.S1024x2048 .f32) (a4 : FVec Ideal Cert.ReferenceIdeal.S2048x2048 .f32)
  (a5 : FVec Ideal Cert.ReferenceIdeal.S2048x512 .f32) (a6 : FVec Ideal Cert.ReferenceIdeal.S2048x32 .f32)
  (a7 : FVec Ideal Cert.ReferenceIdeal.S2048x2048 .f32)

/-- Every device was launched with its part of the whole arrays. -/
def Parts : Prop := ∀ c : Dev nD,
  m ((c.tc : Thread nD τ).loc main_arg0) = a0
  ∧ m ((c.tc : Thread nD τ).loc main_arg1) = Layout.block ⟨2, ![2048, 128]⟩ ⟨2, ![2048, 1024]⟩ 1 8 c a1
  ∧ m ((c.tc : Thread nD τ).loc main_arg2) = Layout.block ⟨2, ![128, 2048]⟩ ⟨2, ![1024, 2048]⟩ 0 8 c a2
  ∧ m ((c.tc : Thread nD τ).loc main_arg3) = Layout.block ⟨2, ![128, 2048]⟩ ⟨2, ![1024, 2048]⟩ 0 8 c a3
  ∧ m ((c.tc : Thread nD τ).loc main_arg4) = a4
  ∧ m ((c.tc : Thread nD τ).loc main_arg5) = a5
  ∧ m ((c.tc : Thread nD τ).loc main_arg6) = a6
  ∧ m ((c.tc : Thread nD τ).loc main_arg7) = a7

variable {m a0 a1 a2 a3 a4 a5 a6 a7}

/-- Then the kernel's arrays are its parts of the layer's. -/
theorem fits (H : Parts m a0 a1 a2 a3 a4 a5 a6 a7) : Fits (Iof m) (Ref.arr a0 a1 a2 a3 a4 a5 a6 a7) where
  x c b s k := (x_at m c b s k).trans (congrFun (H c).1 _)
  wd c k j := (congrFun ((wd_eq m c).trans (H c).2.1) _).trans (blockCols_at a1 c k j _)
  uk c j n := (congrFun ((uk_eq m c).trans (H c).2.2.1) _).trans (blockRows_at a2 c j n _)
  uv c j n := (congrFun ((uv_eq m c).trans (H c).2.2.2.1) _).trans (blockRows_at a3 c j n _)
  wq c k n := (wq_at m c k n).trans (congrFun (H c).2.2.2.2.1 _)
  wqr c k n := (wqr_at m c k n).trans (congrFun (H c).2.2.2.2.2.1 _)
  wkr c k n := congrFun ((wkr_eq m c).trans (H c).2.2.2.2.2.2.1) _
  wo c k n := congrFun ((wo_eq m c).trans (H c).2.2.2.2.2.2.2) _

/-- **Each device's result is the layer's output.** -/
theorem result_fits (H : Parts m a0 a1 a2 a3 a4 a5 a6 a7) (b : Fin 2) (s : Fin 512) (n : Fin 2048) :
    V3 m (outs m) c main_v23 (ix3 b s n) = (Ref.arr a0 a1 a2 a3 a4 a5 a6 a7).out b s n :=
  (result_at m c b s n).trans (out_fits (fits H) c b s n)
end Result

end Cert.Mla

end
-- ==== Proof.lean ====
/-
  The certificate's claims, each from its program's run: the frames of the kernel at both float semantics (Proof/Run.lean) and of the
  reference, and the equality of their results over the extended reals (Proof/Args.lean, Proof/Ref.lean: both are the attention layer
  of Proof/Math.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Args
public import Idealize.ShloMosaic.Adequacy
public import Idealize.ShloMosaic.Init

@[expose] public section

noncomputable section

namespace Cert.Proof

open Idealize.ShloMosaic Idealize.SL.Sem Cert.Mla

/-- The kernel's frame: its body table is the ideal instance's (`table_eq`), and the run holds over any float values. -/
theorem frame_kernel : Cert.quiescent_Kernel := fun m ρ _ => by
  rw [table_eq]
  exact (θ_run Cert.KernelIdeal.defs _ _).mono (fun _ (h : (∀ c, Kept m _ c) ∧ _) => ⟨fun c => (h.1 c).1, h.2⟩)
    (run_main (F := Bits) m ρ)

/-- The ideal instance's frame: the same run over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference's frame: its run keeps the arguments, and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- **Every device's result is the reference's**, over the extended reals: both are the layer's output at every index. -/
theorem algebraic : Cert.algebraic_KernelIdeal_ReferenceIdeal := fun m g m' g' _ H => by
  refine ⟨Cert.ReferenceIdeal.Value.res_out0 m' 0, ?_, ?_⟩
  · refine (θ_run Cert.KernelIdeal.defs _ _).mono (fun r h c => ⟨(h.1 c).2.trans ?_, (h.1 c).1⟩) (run_main (F := Ideal) m g)
    rw [Ref.res_eq]
    refine ext3 fun b s n => ?_
    exact (result_fits c H b s n).trans (Ref.out_at _ _ _ _ _ _ _ _ b s n).symm
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, frame_kernel, frame_kernelIdeal,
    frame_reference, trivial, algebraic⟩

end Cert.Proof

end
